-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel2 : Cert.Kernel2.Facts) (hKernel2Ideal : Cert.Kernel2Ideal.Facts) (hReference2Ideal : Cert.Reference2Ideal.Facts) (hKernel5 : Cert.Kernel5.Facts) (hKernel5Ideal : Cert.Kernel5Ideal.Facts) (hReference5Ideal : Cert.Reference5Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal (hKernel3Ideal := hKernel3Ideal) (hReference3Ideal := hReference3Ideal)
    ∧ preserves_Kernel2_Kernel2Ideal
    ∧ algebraic_Kernel2Ideal_Reference2Ideal (hKernel2Ideal := hKernel2Ideal) (hReference2Ideal := hReference2Ideal)
    ∧ preserves_Kernel5_Kernel5Ideal
    ∧ algebraic_Kernel5Ideal_Reference5Ideal (hKernel5Ideal := hKernel5Ideal) (hReference5Ideal := hReference5Ideal)
    ∧ preserves_Kernel4_Kernel4Ideal
    ∧ algebraic_Kernel4Ideal_Reference4Ideal (hKernel4Ideal := hKernel4Ideal) (hReference4Ideal := hReference4Ideal)
-- ==== Kernel.lean ====
abbrev S6x4096x7168 : Shape := ⟨3, ![6, 4096, 7168]⟩
abbrev S4x4x6x32x128 : Shape := ⟨5, ![4, 4, 6, 32, 128]⟩
abbrev S5x2048 : Shape := ⟨2, ![5, 2048]⟩
abbrev S1x2048 : Shape := ⟨2, ![1, 2048]⟩
abbrev S1x1024 : Shape := ⟨2, ![1, 1024]⟩
abbrev S6x4096x1024 : Shape := ⟨3, ![6, 4096, 1024]⟩
abbrev S1x4096x256 : Shape := ⟨3, ![1, 4096, 256]⟩
abbrev S5x256 : Shape := ⟨2, ![5, 256]⟩
abbrev S1x256 : Shape := ⟨2, ![1, 256]⟩
abbrev S4x1x1x32x128 : Shape := ⟨5, ![4, 1, 1, 32, 128]⟩
abbrev S4096x256 : Shape := ⟨2, ![4096, 256]⟩
abbrev S32x256x128 : Shape := ⟨3, ![32, 256, 128]⟩
abbrev S4x32x128 : Shape := ⟨3, ![4, 32, 128]⟩
abbrev S2x256x384 : Shape := ⟨3, ![2, 256, 384]⟩
abbrev S1x128x256 : Shape := ⟨3, ![1, 128, 256]⟩
abbrev S128x256 : Shape := ⟨2, ![128, 256]⟩
abbrev S1x16x256 : Shape := ⟨3, ![1, 16, 256]⟩
abbrev S16x256 : Shape := ⟨2, ![16, 256]⟩
abbrev S160x256 : Shape := ⟨2, ![160, 256]⟩
abbrev S256x128 : Shape := ⟨2, ![256, 128]⟩
abbrev S1x256x128 : Shape := ⟨3, ![1, 256, 128]⟩
abbrev S1x32x128 : Shape := ⟨3, ![1, 32, 128]⟩
abbrev S32x128 : Shape := ⟨2, ![32, 128]⟩
abbrev S128x128 : Shape := ⟨2, ![128, 128]⟩
abbrev S1x128 : Shape := ⟨2, ![1, 128]⟩
abbrev S1x1 : Shape := ⟨2, ![1, 1]⟩
abbrev S128x384 : Shape := ⟨2, ![128, 384]⟩
abbrev S1x1x128 : Shape := ⟨3, ![1, 1, 128]⟩
abbrev S128 : Shape := ⟨1, ![128]⟩
abbrev S128x1 : Shape := ⟨2, ![128, 1]⟩
abbrev S1x256x384 : Shape := ⟨3, ![1, 256, 384]⟩
abbrev S256x384 : Shape := ⟨2, ![256, 384]⟩
abbrev S256x512 : Shape := ⟨2, ![256, 512]⟩
abbrev S128x512 : Shape := ⟨2, ![128, 512]⟩
abbrev S1 : Shape := ⟨1, ![1]⟩
abbrev S384x128 : Shape := ⟨2, ![384, 128]⟩
abbrev S384x384 : Shape := ⟨2, ![384, 384]⟩

abbrev nBuf : Space → Nat
  | .hbm => 6
  | .vmem => 27
  | .smem => 0
  | _ => 0

abbrev bufTy : (tb : Table) → Fin (tcTables nBuf tb) → BufTy
  | .hbm, ⟨0, _⟩ => ⟨S6x4096x7168, .bf16⟩
  | .hbm, ⟨1, _⟩ => ⟨S4x4x6x32x128, .f32⟩
  | .hbm, ⟨2, _⟩ => ⟨S5x2048, .f32⟩
  | .hbm, ⟨3, _⟩ => ⟨S1x2048, .f32⟩
  | .hbm, ⟨4, _⟩ => ⟨S1x1024, .f32⟩
  | .hbm, ⟨5, _⟩ => ⟨S6x4096x1024, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S5x256, .f32⟩
  | .local _ .vmem, ⟨9, _⟩ => ⟨S5x256, .f32⟩
  | .local _ .vmem, ⟨10, _⟩ => ⟨S5x256, .f32⟩
  | .local _ .vmem, ⟨11, _⟩ => ⟨S5x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S4x1x1x32x128, .f32⟩
  | .local _ .vmem, ⟨17, _⟩ => ⟨S4x1x1x32x128, .f32⟩
  | .local _ .vmem, ⟨18, _⟩ => ⟨S1x256, .f32⟩
  | .local _ .vmem, ⟨19, _⟩ => ⟨S1x256, .f32⟩
  | .local _ .vmem, ⟨20, _⟩ => ⟨S1x4096x256, .bf16⟩
  | .local _ .vmem, ⟨21, _⟩ => ⟨S1x4096x256, .bf16⟩
  | .local _ .vmem, ⟨22, _⟩ => ⟨S4096x256, .bf16⟩
  | .local _ .vmem, ⟨23, _⟩ => ⟨S32x256x128, .bf16⟩
  | .local _ .vmem, ⟨24, _⟩ => ⟨S4x32x128, .f32⟩
  | .local _ .vmem, ⟨25, _⟩ => ⟨S4096x256, .f32⟩
  | .local _ .vmem, ⟨26, _⟩ => ⟨S2x256x384, .f32⟩
  | _, _ => ⟨S6x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![6, 4], ![false, false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32 : BitVec 32 := 128#32
  let v146 : BitVec 32 := Scalar.muli arg18 c128_i32
  v146
def k0_mult2 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_64 : BitVec 32 := 128#32
  let v148 : BitVec 32 := Scalar.muli arg18 c128_i32_64
  v148
def k0_off1 (k0_t1 : Fin k0_t1_loop.trips) : Fin 3 → Nat :=
  let c0_65 : Index := 0#32
  let c0_i32 : BitVec 32 := 0#32
  let c1_i32 : BitVec 32 := 1#32
  let arg18 : BitVec 32 := Scf.iv c0_i32 c1_i32 k0_t1
  let c128_i32_64 : BitVec 32 := 128#32
  let v148 : BitVec 32 := Scalar.muli arg18 c128_i32_64
  let v149 : BitVec 32 := v148
  let v150 : Index := Scalar.indexCast v149
  let c0_66 : Index := 0#32
  ![0, v150.toNat, 0]
def k0_mult3 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_64 : BitVec 32 := 128#32
  let v148 : BitVec 32 := Scalar.muli arg18 c128_i32_64
  let v149 : BitVec 32 := v148
  let c16_i32_67 : BitVec 32 := 16#32
  let v154 : BitVec 32 := Scalar.subi v149 c16_i32_67
  let c0_i32_68 : BitVec 32 := 0#32
  let v155 : BitVec 32 := Scalar.maxsi v154 c0_i32_68
  v155
def k0_mult4 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_64 : BitVec 32 := 128#32
  let v148 : BitVec 32 := Scalar.muli arg18 c128_i32_64
  let v149 : BitVec 32 := v148
  let c128_i32_69 : BitVec 32 := 128#32
  let v157 : BitVec 32 := Scalar.addi v149 c128_i32_69
  let c4080_i32 : BitVec 32 := 4080#32
  let v158 : BitVec 32 := Scalar.minsi v157 c4080_i32
  v158
def k0_off2 (k0_t1 : Fin k0_t1_loop.trips) : Fin 3 → Nat :=
  let c0_70 : Index := 0#32
  let c0_i32 : BitVec 32 := 0#32
  let c1_i32 : BitVec 32 := 1#32
  let arg18 : BitVec 32 := Scf.iv c0_i32 c1_i32 k0_t1
  let c128_i32_64 : BitVec 32 := 128#32
  let v148 : BitVec 32 := Scalar.muli arg18 c128_i32_64
  let v149 : BitVec 32 := v148
  let c16_i32_67 : BitVec 32 := 16#32
  let v154 : BitVec 32 := Scalar.subi v149 c16_i32_67
  let c0_i32_68 : BitVec 32 := 0#32
  let v155 : BitVec 32 := Scalar.maxsi v154 c0_i32_68
  let v156 : BitVec 32 := v155
  let v160 : Index := Scalar.indexCast v156
  let c0_71 : Index := 0#32
  ![0, v160.toNat, 0]
def k0_off3 (k0_t1 : Fin k0_t1_loop.trips) : Fin 3 → Nat :=
  let c0_75 : Index := 0#32
  let c0_i32 : BitVec 32 := 0#32
  let c1_i32 : BitVec 32 := 1#32
  let arg18 : BitVec 32 := Scf.iv c0_i32 c1_i32 k0_t1
  let c128_i32_64 : BitVec 32 := 128#32
  let v148 : BitVec 32 := Scalar.muli arg18 c128_i32_64
  let v149 : BitVec 32 := v148
  let c128_i32_69 : BitVec 32 := 128#32
  let v157 : BitVec 32 := Scalar.addi v149 c128_i32_69
  let c4080_i32 : BitVec 32 := 4080#32
  let v158 : BitVec 32 := Scalar.minsi v157 c4080_i32
  let v159 : BitVec 32 := v158
  let v168 : Index := Scalar.indexCast v159
  let c0_76 : Index := 0#32
  ![0, v168.toNat, 0]
def k0_off4 (k0_t1 : Fin k0_t1_loop.trips) : Fin 2 → Nat :=
  let c0_i32 : BitVec 32 := 0#32
  let c1_i32 : BitVec 32 := 1#32
  let arg18 : BitVec 32 := Scf.iv c0_i32 c1_i32 k0_t1
  let c128_i32 : BitVec 32 := 128#32
  let v146 : BitVec 32 := Scalar.muli arg18 c128_i32
  let v147 : BitVec 32 := v146
  let v211 : Index := Scalar.indexCast v147
  let c0_84 : Index := 0#32
  ![v211.toNat, 0]
def k0_mult5 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_85 : BitVec 32 := 128#32
  let v215 : BitVec 32 := Scalar.muli arg18 c128_i32_85
  v215
def k0_mult6 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_85 : BitVec 32 := 128#32
  let v215 : BitVec 32 := Scalar.muli arg18 c128_i32_85
  let v216 : BitVec 32 := v215
  let c16_i32_88 : BitVec 32 := 16#32
  let v221 : BitVec 32 := Scalar.subi v216 c16_i32_88
  let c0_i32_89 : BitVec 32 := 0#32
  let v222 : BitVec 32 := Scalar.maxsi v221 c0_i32_89
  v222
def k0_mult7 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_85 : BitVec 32 := 128#32
  let v215 : BitVec 32 := Scalar.muli arg18 c128_i32_85
  let v216 : BitVec 32 := v215
  let c128_i32_90 : BitVec 32 := 128#32
  let v224 : BitVec 32 := Scalar.addi v216 c128_i32_90
  let c4080_i32_91 : BitVec 32 := 4080#32
  let v225 : BitVec 32 := Scalar.minsi v224 c4080_i32_91
  v225
def k0_off5 (k0_t1 : Fin k0_t1_loop.trips) : Fin 3 → Nat :=
  let c0_i32 : BitVec 32 := 0#32
  let c1_i32 : BitVec 32 := 1#32
  let arg18 : BitVec 32 := Scf.iv c0_i32 c1_i32 k0_t1
  let v277 : Index := Scalar.indexCast arg18
  let c0_106 : Index := 0#32
  let c0_107 : Index := 0#32
  ![v277.toNat, 0, 0]
@[reducible] def k0_t2_loop : Scf.Loop 32 :=
  let c0_i32_56 : BitVec 32 := 0#32
  let c16_i32_57 : BitVec 32 := 16#32
  let v142 : BitVec 32 := Scalar.addi c0_i32_56 c16_i32_57
  let c1_i32_58 : BitVec 32 := 1#32
  ⟨c0_i32_56, v142, c1_i32_58⟩
def k0_mult8 (k0_t2 : Fin k0_t2_loop.trips) : BitVec 32 :=
  let c0_i32_56 : BitVec 32 := 0#32
  let c1_i32_58 : BitVec 32 := 1#32
  let arg18 : BitVec 32 := Scf.iv c0_i32_56 c1_i32_58 k0_t2
  let c128_i32 : BitVec 32 := 128#32
  let v146 : BitVec 32 := Scalar.muli arg18 c128_i32
  v146
def k0_off6 (k0_t2 : Fin k0_t2_loop.trips) : Fin 2 → Nat :=
  let c0_i32_56 : BitVec 32 := 0#32
  let c1_i32_58 : BitVec 32 := 1#32
  let arg18 : BitVec 32 := Scf.iv c0_i32_56 c1_i32_58 k0_t2
  let c128_i32 : BitVec 32 := 128#32
  let v146 : BitVec 32 := Scalar.muli arg18 c128_i32
  let v147 : BitVec 32 := v146
  let v149 : Index := Scalar.indexCast v147
  let c0_64 : Index := 0#32
  ![v149.toNat, 0]
def k0_off7 (k0_t2 : Fin k0_t2_loop.trips) : Fin 3 → Nat :=
  let c0_i32_56 : BitVec 32 := 0#32
  let c1_i32_58 : BitVec 32 := 1#32
  let arg18 : BitVec 32 := Scf.iv c0_i32_56 c1_i32_58 k0_t2
  let v151 : Index := Scalar.indexCast arg18
  let c0_65 : Index := 0#32
  let c0_66 : Index := 0#32
  ![v151.toNat, 0, 0]
def k0_off8 (k0_t2 : Fin k0_t2_loop.trips) : Fin 3 → Nat :=
  let c0_67 : Index := 0#32
  let c0_i32_56 : BitVec 32 := 0#32
  let c1_i32_58 : BitVec 32 := 1#32
  let arg18 : BitVec 32 := Scf.iv c0_i32_56 c1_i32_58 k0_t2
  let c128_i32 : BitVec 32 := 128#32
  let v146 : BitVec 32 := Scalar.muli arg18 c128_i32
  let v147 : BitVec 32 := v146
  let v154 : Index := Scalar.indexCast v147
  let c0_68 : Index := 0#32
  ![0, v154.toNat, 0]
def k0_off9 (k0_t2 : Fin k0_t2_loop.trips) : Fin 3 → Nat :=
  let c0_69 : Index := 0#32
  let c0_i32_56 : BitVec 32 := 0#32
  let c1_i32_58 : BitVec 32 := 1#32
  let arg18 : BitVec 32 := Scf.iv c0_i32_56 c1_i32_58 k0_t2
  let v158 : Index := Scalar.indexCast arg18
  let c0_70 : Index := 0#32
  ![0, v158.toNat, 0]
def k0_off10 (k0_t2 : Fin k0_t2_loop.trips) : Fin 3 → Nat :=
  let c1_71 : Index := 1#32
  let c0_i32_56 : BitVec 32 := 0#32
  let c1_i32_58 : BitVec 32 := 1#32
  let arg18 : BitVec 32 := Scf.iv c0_i32_56 c1_i32_58 k0_t2
  let v161 : Index := Scalar.indexCast arg18
  let c0_72 : Index := 0#32
  ![1, v161.toNat, 0]
def k0_mult9 (k0_t2 : Fin k0_t2_loop.trips) : BitVec 32 :=
  let c0_i32_56 : BitVec 32 := 0#32
  let c1_i32_58 : BitVec 32 := 1#32
  let arg18 : BitVec 32 := Scf.iv c0_i32_56 c1_i32_58 k0_t2
  let c128_i32_90 : BitVec 32 := 128#32
  let v247 : BitVec 32 := Scalar.muli arg18 c128_i32_90
  v247
def k0_mult10 (k0_t2 : Fin k0_t2_loop.trips) : BitVec 32 :=
  let c31_i32 : BitVec 32 := 31#32
  let c0_i32_56 : BitVec 32 := 0#32
  let c1_i32_58 : BitVec 32 := 1#32
  let arg18 : BitVec 32 := Scf.iv c0_i32_56 c1_i32_58 k0_t2
  let v253 : BitVec 32 := Scalar.subi c31_i32 arg18
  let c128_i32_92 : BitVec 32 := 128#32
  let v254 : BitVec 32 := Scalar.muli v253 c128_i32_92
  v254
def k0_off11 (k0_t2 : Fin k0_t2_loop.trips) : Fin 2 → Nat :=
  let c31_i32 : BitVec 32 := 31#32
  let c0_i32_56 : BitVec 32 := 0#32
  let c1_i32_58 : BitVec 32 := 1#32
  let arg18 : BitVec 32 := Scf.iv c0_i32_56 c1_i32_58 k0_t2
  let v253 : BitVec 32 := Scalar.subi c31_i32 arg18
  let c128_i32_92 : BitVec 32 := 128#32
  let v254 : BitVec 32 := Scalar.muli v253 c128_i32_92
  let v255 : BitVec 32 := v254
  let v257 : Index := Scalar.indexCast v255
  let c0_93 : Index := 0#32
  ![v257.toNat, 0]
def k0_off12 (k0_t2 : Fin k0_t2_loop.trips) : Fin 3 → Nat :=
  let c31_i32 : BitVec 32 := 31#32
  let c0_i32_56 : BitVec 32 := 0#32
  let c1_i32_58 : BitVec 32 := 1#32
  let arg18 : BitVec 32 := Scf.iv c0_i32_56 c1_i32_58 k0_t2
  let v253 : BitVec 32 := Scalar.subi c31_i32 arg18
  let v259 : Index := Scalar.indexCast v253
  let c0_94 : Index := 0#32
  let c0_95 : Index := 0#32
  ![v259.toNat, 0, 0]
def k0_off13 (k0_t2 : Fin k0_t2_loop.trips) : Fin 3 → Nat :=
  let c0_96 : Index := 0#32
  let c31_i32 : BitVec 32 := 31#32
  let c0_i32_56 : BitVec 32 := 0#32
  let c1_i32_58 : BitVec 32 := 1#32
  let arg18 : BitVec 32 := Scf.iv c0_i32_56 c1_i32_58 k0_t2
  let v253 : BitVec 32 := Scalar.subi c31_i32 arg18
  let c128_i32_92 : BitVec 32 := 128#32
  let v254 : BitVec 32 := Scalar.muli v253 c128_i32_92
  let v255 : BitVec 32 := v254
  let v262 : Index := Scalar.indexCast v255
  let c0_97 : Index := 0#32
  ![0, v262.toNat, 0]
def k0_off14 (k0_t2 : Fin k0_t2_loop.trips) : Fin 3 → Nat :=
  let c2_98 : Index := 2#32
  let c31_i32 : BitVec 32 := 31#32
  let c0_i32_56 : BitVec 32 := 0#32
  let c1_i32_58 : BitVec 32 := 1#32
  let arg18 : BitVec 32 := Scf.iv c0_i32_56 c1_i32_58 k0_t2
  let v253 : BitVec 32 := Scalar.subi c31_i32 arg18
  let v266 : Index := Scalar.indexCast v253
  let c0_99 : Index := 0#32
  ![2, v266.toNat, 0]
def k0_off15 (k0_t2 : Fin k0_t2_loop.trips) : Fin 3 → Nat :=
  let c3_100 : Index := 3#32
  let c31_i32 : BitVec 32 := 31#32
  let c0_i32_56 : BitVec 32 := 0#32
  let c1_i32_58 : BitVec 32 := 1#32
  let arg18 : BitVec 32 := Scf.iv c0_i32_56 c1_i32_58 k0_t2
  let v253 : BitVec 32 := Scalar.subi c31_i32 arg18
  let v269 : Index := Scalar.indexCast v253
  let c0_101 : Index := 0#32
  ![3, v269.toNat, 0]
def k0_mult11 (k0_t2 : Fin k0_t2_loop.trips) : BitVec 32 :=
  let c31_i32_119 : BitVec 32 := 31#32
  let c0_i32_56 : BitVec 32 := 0#32
  let c1_i32_58 : BitVec 32 := 1#32
  let arg18 : BitVec 32 := Scf.iv c0_i32_56 c1_i32_58 k0_t2
  let v355 : BitVec 32 := Scalar.subi c31_i32_119 arg18
  let c128_i32_120 : BitVec 32 := 128#32
  let v356 : BitVec 32 := Scalar.muli v355 c128_i32_120
  v356
@[reducible] def k0_t3_loop : Scf.Loop 32 :=
  let c16_i32_60 : BitVec 32 := 16#32
  let c16_i32_61 : BitVec 32 := 16#32
  let v144 : BitVec 32 := Scalar.addi c16_i32_60 c16_i32_61
  let c1_i32_62 : BitVec 32 := 1#32
  ⟨c16_i32_60, v144, c1_i32_62⟩
def k0_mult12 (k0_t3 : Fin k0_t3_loop.trips) : BitVec 32 :=
  let c16_i32_60 : BitVec 32 := 16#32
  let c1_i32_62 : BitVec 32 := 1#32
  let arg18 : BitVec 32 := Scf.iv c16_i32_60 c1_i32_62 k0_t3
  let c128_i32 : BitVec 32 := 128#32
  let v146 : BitVec 32 := Scalar.muli arg18 c128_i32
  v146
def k0_off16 (k0_t3 : Fin k0_t3_loop.trips) : Fin 2 → Nat :=
  let c16_i32_60 : BitVec 32 := 16#32
  let c1_i32_62 : BitVec 32 := 1#32
  let arg18 : BitVec 32 := Scf.iv c16_i32_60 c1_i32_62 k0_t3
  let c128_i32 : BitVec 32 := 128#32
  let v146 : BitVec 32 := Scalar.muli arg18 c128_i32
  let v147 : BitVec 32 := v146
  let v149 : Index := Scalar.indexCast v147
  let c0_64 : Index := 0#32
  ![v149.toNat, 0]
def k0_off17 (k0_t3 : Fin k0_t3_loop.trips) : Fin 3 → Nat :=
  let c16_i32_60 : BitVec 32 := 16#32
  let c1_i32_62 : BitVec 32 := 1#32
  let arg18 : BitVec 32 := Scf.iv c16_i32_60 c1_i32_62 k0_t3
  let v151 : Index := Scalar.indexCast arg18
  let c0_65 : Index := 0#32
  let c0_66 : Index := 0#32
  ![v151.toNat, 0, 0]
def k0_off18 (k0_t3 : Fin k0_t3_loop.trips) : Fin 3 → Nat :=
  let c0_67 : Index := 0#32
  let c16_i32_60 : BitVec 32 := 16#32
  let c1_i32_62 : BitVec 32 := 1#32
  let arg18 : BitVec 32 := Scf.iv c16_i32_60 c1_i32_62 k0_t3
  let c128_i32 : BitVec 32 := 128#32
  let v146 : BitVec 32 := Scalar.muli arg18 c128_i32
  let v147 : BitVec 32 := v146
  let v154 : Index := Scalar.indexCast v147
  let c0_68 : Index := 0#32
  ![0, v154.toNat, 0]
def k0_off19 (k0_t3 : Fin k0_t3_loop.trips) : Fin 3 → Nat :=
  let c0_69 : Index := 0#32
  let c16_i32_60 : BitVec 32 := 16#32
  let c1_i32_62 : BitVec 32 := 1#32
  let arg18 : BitVec 32 := Scf.iv c16_i32_60 c1_i32_62 k0_t3
  let v158 : Index := Scalar.indexCast arg18
  let c0_70 : Index := 0#32
  ![0, v158.toNat, 0]
def k0_off20 (k0_t3 : Fin k0_t3_loop.trips) : Fin 3 → Nat :=
  let c1_71 : Index := 1#32
  let c16_i32_60 : BitVec 32 := 16#32
  let c1_i32_62 : BitVec 32 := 1#32
  let arg18 : BitVec 32 := Scf.iv c16_i32_60 c1_i32_62 k0_t3
  let v161 : Index := Scalar.indexCast arg18
  let c0_72 : Index := 0#32
  ![1, v161.toNat, 0]
def k0_mult13 (k0_t3 : Fin k0_t3_loop.trips) : BitVec 32 :=
  let c16_i32_60 : BitVec 32 := 16#32
  let c1_i32_62 : BitVec 32 := 1#32
  let arg18 : BitVec 32 := Scf.iv c16_i32_60 c1_i32_62 k0_t3
  let c128_i32_90 : BitVec 32 := 128#32
  let v247 : BitVec 32 := Scalar.muli arg18 c128_i32_90
  v247
def k0_mult14 (k0_t3 : Fin k0_t3_loop.trips) : BitVec 32 :=
  let c16_i32_60 : BitVec 32 := 16#32
  let c1_i32_62 : BitVec 32 := 1#32
  let arg18 : BitVec 32 := Scf.iv c16_i32_60 c1_i32_62 k0_t3
  let c128_i32_92 : BitVec 32 := 128#32
  let v252 : BitVec 32 := Scalar.muli arg18 c128_i32_92
  v252
def k0_mult15 (k0_t3 : Fin k0_t3_loop.trips) : BitVec 32 :=
  let c31_i32 : BitVec 32 := 31#32
  let c16_i32_60 : BitVec 32 := 16#32
  let c1_i32_62 : BitVec 32 := 1#32
  let arg18 : BitVec 32 := Scf.iv c16_i32_60 c1_i32_62 k0_t3
  let v278 : BitVec 32 := Scalar.subi c31_i32 arg18
  let c128_i32_102 : BitVec 32 := 128#32
  let v279 : BitVec 32 := Scalar.muli v278 c128_i32_102
  v279
def k0_off21 (k0_t3 : Fin k0_t3_loop.trips) : Fin 2 → Nat :=
  let c31_i32 : BitVec 32 := 31#32
  let c16_i32_60 : BitVec 32 := 16#32
  let c1_i32_62 : BitVec 32 := 1#32
  let arg18 : BitVec 32 := Scf.iv c16_i32_60 c1_i32_62 k0_t3
  let v278 : BitVec 32 := Scalar.subi c31_i32 arg18
  let c128_i32_102 : BitVec 32 := 128#32
  let v279 : BitVec 32 := Scalar.muli v278 c128_i32_102
  let v280 : BitVec 32 := v279
  let v282 : Index := Scalar.indexCast v280
  let c0_103 : Index := 0#32
  ![v282.toNat, 0]
def k0_off22 (k0_t3 : Fin k0_t3_loop.trips) : Fin 3 → Nat :=
  let c31_i32 : BitVec 32 := 31#32
  let c16_i32_60 : BitVec 32 := 16#32
  let c1_i32_62 : BitVec 32 := 1#32
  let arg18 : BitVec 32 := Scf.iv c16_i32_60 c1_i32_62 k0_t3
  let v278 : BitVec 32 := Scalar.subi c31_i32 arg18
  let v284 : Index := Scalar.indexCast v278
  let c0_104 : Index := 0#32
  let c0_105 : Index := 0#32
  ![v284.toNat, 0, 0]
def k0_off23 (k0_t3 : Fin k0_t3_loop.trips) : Fin 3 → Nat :=
  let c0_106 : Index := 0#32
  let c31_i32 : BitVec 32 := 31#32
  let c16_i32_60 : BitVec 32 := 16#32
  let c1_i32_62 : BitVec 32 := 1#32
  let arg18 : BitVec 32 := Scf.iv c16_i32_60 c1_i32_62 k0_t3
  let v278 : BitVec 32 := Scalar.subi c31_i32 arg18
  let c128_i32_102 : BitVec 32 := 128#32
  let v279 : BitVec 32 := Scalar.muli v278 c128_i32_102
  let v280 : BitVec 32 := v279
  let v287 : Index := Scalar.indexCast v280
  let c0_107 : Index := 0#32
  ![0, v287.toNat, 0]
def k0_off24 (k0_t3 : Fin k0_t3_loop.trips) : Fin 3 → Nat :=
  let c2_108 : Index := 2#32
  let c31_i32 : BitVec 32 := 31#32
  let c16_i32_60 : BitVec 32 := 16#32
  let c1_i32_62 : BitVec 32 := 1#32
  let arg18 : BitVec 32 := Scf.iv c16_i32_60 c1_i32_62 k0_t3
  let v278 : BitVec 32 := Scalar.subi c31_i32 arg18
  let v291 : Index := Scalar.indexCast v278
  let c0_109 : Index := 0#32
  ![2, v291.toNat, 0]
def k0_off25 (k0_t3 : Fin k0_t3_loop.trips) : Fin 3 → Nat :=
  let c3_110 : Index := 3#32
  let c31_i32 : BitVec 32 := 31#32
  let c16_i32_60 : BitVec 32 := 16#32
  let c1_i32_62 : BitVec 32 := 1#32
  let arg18 : BitVec 32 := Scf.iv c16_i32_60 c1_i32_62 k0_t3
  let v278 : BitVec 32 := Scalar.subi c31_i32 arg18
  let v294 : Index := Scalar.indexCast v278
  let c0_111 : Index := 0#32
  ![3, v294.toNat, 0]
def k0_mult16 (k0_t3 : Fin k0_t3_loop.trips) : BitVec 32 :=
  let c31_i32_129 : BitVec 32 := 31#32
  let c16_i32_60 : BitVec 32 := 16#32
  let c1_i32_62 : BitVec 32 := 1#32
  let arg18 : BitVec 32 := Scf.iv c16_i32_60 c1_i32_62 k0_t3
  let v380 : BitVec 32 := Scalar.subi c31_i32_129 arg18
  let c128_i32_130 : BitVec 32 := 128#32
  let v381 : BitVec 32 := Scalar.muli v380 c128_i32_130
  v381
def k0_mult17 (k0_t3 : Fin k0_t3_loop.trips) : BitVec 32 :=
  let c31_i32_131 : BitVec 32 := 31#32
  let c16_i32_60 : BitVec 32 := 16#32
  let c1_i32_62 : BitVec 32 := 1#32
  let arg18 : BitVec 32 := Scf.iv c16_i32_60 c1_i32_62 k0_t3
  let v383 : BitVec 32 := Scalar.subi c31_i32_131 arg18
  let c128_i32_133 : BitVec 32 := 128#32
  let v387 : BitVec 32 := Scalar.muli v383 c128_i32_133
  v387
def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, arg0.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S5x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S5x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4x1x1x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x4096x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S6x4096x7168 : Shape := ⟨3, ![6, 4096, 7168]⟩
abbrev S4x4x6x32x128 : Shape := ⟨5, ![4, 4, 6, 32, 128]⟩
abbrev S5x2048 : Shape := ⟨2, ![5, 2048]⟩
abbrev S1x2048 : Shape := ⟨2, ![1, 2048]⟩
abbrev S1x1024 : Shape := ⟨2, ![1, 1024]⟩
abbrev S6x4096x3072 : Shape := ⟨3, ![6, 4096, 3072]⟩
abbrev S6x4096x1024 : Shape := ⟨3, ![6, 4096, 1024]⟩
abbrev S6x4096x2048 : Shape := ⟨3, ![6, 4096, 2048]⟩
abbrev S2048 : Shape := ⟨1, ![2048]⟩
abbrev S_ : Shape := ⟨0, ![]⟩
abbrev S6x4100x2048 : Shape := ⟨3, ![6, 4100, 2048]⟩
abbrev S1x1x2048 : Shape := ⟨3, ![1, 1, 2048]⟩
abbrev S6x4096x4x256 : Shape := ⟨4, ![6, 4096, 4, 256]⟩
abbrev S6x4x4096x256 : Shape := ⟨4, ![6, 4, 4096, 256]⟩
abbrev S16x6x4096 : Shape := ⟨3, ![16, 6, 4096]⟩
abbrev S6x16x4096 : Shape := ⟨3, ![6, 16, 4096]⟩
abbrev S6x4x4096 : Shape := ⟨3, ![6, 4, 4096]⟩
abbrev S12x4x4096x256 : Shape := ⟨4, ![12, 4, 4096, 256]⟩
abbrev S12x4x4096 : Shape := ⟨3, ![12, 4, 4096]⟩
abbrev S128x128 : Shape := ⟨2, ![128, 128]⟩
abbrev S12x4x256x256 : Shape := ⟨4, ![12, 4, 256, 256]⟩
abbrev S12x4x256 : Shape := ⟨3, ![12, 4, 256]⟩
abbrev S12x4 : Shape := ⟨2, ![12, 4]⟩
abbrev S12x4x32x128x256 : Shape := ⟨5, ![12, 4, 32, 128, 256]⟩
abbrev S32x12x4x128x256 : Shape := ⟨5, ![32, 12, 4, 128, 256]⟩
abbrev S12x4x32x128 : Shape := ⟨4, ![12, 4, 32, 128]⟩
abbrev S32x12x4x128 : Shape := ⟨4, ![32, 12, 4, 128]⟩
abbrev S1x12x4x128x256 : Shape := ⟨5, ![1, 12, 4, 128, 256]⟩
abbrev S12x4x128x256 : Shape := ⟨4, ![12, 4, 128, 256]⟩
abbrev S1x12x4x128 : Shape := ⟨4, ![1, 12, 4, 128]⟩
abbrev S12x4x128 : Shape := ⟨3, ![12, 4, 128]⟩
abbrev S12x4x128x1 : Shape := ⟨4, ![12, 4, 128, 1]⟩
abbrev S12x4x1x128 : Shape := ⟨4, ![12, 4, 1, 128]⟩
abbrev S12x4x128x128 : Shape := ⟨4, ![12, 4, 128, 128]⟩
abbrev S12x4x1 : Shape := ⟨3, ![12, 4, 1]⟩
abbrev S12x4x1x1 : Shape := ⟨4, ![12, 4, 1, 1]⟩
abbrev S4x256 : Shape := ⟨2, ![4, 256]⟩
abbrev S6x4096x4 : Shape := ⟨3, ![6, 4096, 4]⟩
abbrev S6x4096x4x1 : Shape := ⟨4, ![6, 4096, 4, 1]⟩
abbrev S1x1x4x256 : Shape := ⟨4, ![1, 1, 4, 256]⟩

abbrev nBuf : Space → Nat
  | .hbm => 315
  | .vmem => 0
  | .smem => 0
  | _ => 0

abbrev hbmTy0_0 (i : Nat) : BufTy := match i % 128 with
  | 0 => ⟨S6x4096x7168, .bf16⟩
  | 1 => ⟨S4x4x6x32x128, .f32⟩
  | 2 => ⟨S5x2048, .f32⟩
  | 3 => ⟨S1x2048, .f32⟩
  | 4 => ⟨S1x1024, .f32⟩
  | 5 => ⟨S6x4096x3072, .bf16⟩
  | 6 => ⟨S6x4096x3072, .f32⟩
  | 7 => ⟨S6x4096x1024, .f32⟩
  | 8 => ⟨S6x4096x1024, .f32⟩
  | 9 => ⟨S6x4096x1024, .f32⟩
  | 10 => ⟨S6x4096x2048, .f32⟩
  | 11 => ⟨S2048, .f32⟩
  | 12 => ⟨S_, .i32⟩
  | 13 => ⟨S_, .f32⟩
  | 14 => ⟨S6x4100x2048, .f32⟩
  | 15 => ⟨S6x4096x2048, .f32⟩
  | 16 => ⟨S1x2048, .f32⟩
  | 17 => ⟨S2048, .f32⟩
  | 18 => ⟨S1x1x2048, .f32⟩
  | 19 => ⟨S6x4096x2048, .f32⟩
  | 20 => ⟨S6x4096x2048, .f32⟩
  | 21 => ⟨S1x1x2048, .f32⟩
  | 22 => ⟨S6x4096x2048, .f32⟩
  | 23 => ⟨S6x4096x2048, .f32⟩
  | 24 => ⟨S6x4096x2048, .f32⟩
  | 25 => ⟨S1x2048, .f32⟩
  | 26 => ⟨S2048, .f32⟩
  | 27 => ⟨S1x1x2048, .f32⟩
  | 28 => ⟨S6x4096x2048, .f32⟩
  | 29 => ⟨S6x4096x2048, .f32⟩
  | 30 => ⟨S6x4096x2048, .f32⟩
  | 31 => ⟨S6x4096x2048, .f32⟩
  | 32 => ⟨S1x2048, .f32⟩
  | 33 => ⟨S2048, .f32⟩
  | 34 => ⟨S1x1x2048, .f32⟩
  | 35 => ⟨S6x4096x2048, .f32⟩
  | 36 => ⟨S6x4096x2048, .f32⟩
  | 37 => ⟨S6x4096x2048, .f32⟩
  | 38 => ⟨S6x4096x2048, .f32⟩
  | 39 => ⟨S1x2048, .f32⟩
  | 40 => ⟨S2048, .f32⟩
  | 41 => ⟨S1x1x2048, .f32⟩
  | 42 => ⟨S6x4096x2048, .f32⟩
  | 43 => ⟨S6x4096x2048, .f32⟩
  | 44 => ⟨S6x4096x2048, .f32⟩
  | 45 => ⟨S6x4096x2048, .f32⟩
  | 46 => ⟨S1x2048, .f32⟩
  | 47 => ⟨S2048, .f32⟩
  | 48 => ⟨S1x1x2048, .f32⟩
  | 49 => ⟨S6x4096x2048, .f32⟩
  | 50 => ⟨S6x4096x2048, .f32⟩
  | 51 => ⟨S6x4096x2048, .f32⟩
  | 52 => ⟨S6x4096x2048, .f32⟩
  | 53 => ⟨S6x4096x2048, .f32⟩
  | 54 => ⟨S_, .f32⟩
  | 55 => ⟨S6x4096x2048, .f32⟩
  | 56 => ⟨S6x4096x2048, .f32⟩
  | 57 => ⟨S_, .f32⟩
  | 58 => ⟨S6x4096x2048, .f32⟩
  | 59 => ⟨S6x4096x2048, .f32⟩
  | 60 => ⟨S6x4096x2048, .f32⟩
  | 61 => ⟨S6x4096x1024, .f32⟩
  | 62 => ⟨S6x4096x1024, .f32⟩
  | 63 => ⟨S6x4096x4x256, .f32⟩
  | 64 => ⟨S6x4x4096x256, .f32⟩
  | 65 => ⟨S_, .f32⟩
  | 66 => ⟨S6x4x4096x256, .f32⟩
  | 67 => ⟨S6x4x4096x256, .f32⟩
  | 68 => ⟨S6x4096x4x256, .f32⟩
  | 69 => ⟨S6x4x4096x256, .f32⟩
  | 70 => ⟨S6x4096x4x256, .f32⟩
  | 71 => ⟨S6x4x4096x256, .f32⟩
  | 72 => ⟨S16x6x4096, .f32⟩
  | 73 => ⟨S6x16x4096, .f32⟩
  | 74 => ⟨S6x4x4096, .f32⟩
  | 75 => ⟨S6x4x4096, .f32⟩
  | 76 => ⟨S6x4x4096, .f32⟩
  | 77 => ⟨S6x4x4096, .f32⟩
  | 78 => ⟨S6x4x4096, .f32⟩
  | 79 => ⟨S_, .f32⟩
  | 80 => ⟨S6x4x4096, .f32⟩
  | 81 => ⟨S6x4x4096, .f32⟩
  | 82 => ⟨S6x4x4096, .f32⟩
  | 83 => ⟨S6x4x4096, .f32⟩
  | 84 => ⟨S6x4x4096, .i1⟩
  | 85 => ⟨S6x4x4096, .f32⟩
  | 86 => ⟨S6x4x4096, .f32⟩
  | 87 => ⟨S6x4x4096, .f32⟩
  | 88 => ⟨S6x4x4096, .f32⟩
  | 89 => ⟨S6x4x4096, .f32⟩
  | 90 => ⟨S6x4x4096, .f32⟩
  | 91 => ⟨S6x4x4096, .f32⟩
  | 92 => ⟨S6x4x4096, .f32⟩
  | 93 => ⟨S6x4x4096, .f32⟩
  | 94 => ⟨S6x4x4096, .f32⟩
  | 95 => ⟨S_, .f32⟩
  | 96 => ⟨S6x4x4096, .f32⟩
  | 97 => ⟨S6x4x4096, .f32⟩
  | 98 => ⟨S6x4x4096, .f32⟩
  | 99 => ⟨S6x4x4096, .f32⟩
  | 100 => ⟨S6x4x4096, .i1⟩
  | 101 => ⟨S6x4x4096, .f32⟩
  | 102 => ⟨S6x4x4096, .f32⟩
  | 103 => ⟨S6x4x4096, .f32⟩
  | 104 => ⟨S6x4x4096, .f32⟩
  | 105 => ⟨S6x4x4096, .f32⟩
  | 106 => ⟨S6x4x4096, .f32⟩
  | 107 => ⟨S6x4x4096, .f32⟩
  | 108 => ⟨S6x4x4096, .f32⟩
  | 109 => ⟨S6x4x4096, .f32⟩
  | 110 => ⟨S6x4x4096x256, .f32⟩
  | 111 => ⟨S12x4x4096x256, .f32⟩
  | 112 => ⟨S6x4x4096x256, .f32⟩
  | 113 => ⟨S12x4x4096x256, .f32⟩
  | 114 => ⟨S6x4x4096x256, .f32⟩
  | 115 => ⟨S12x4x4096x256, .f32⟩
  | 116 => ⟨S6x4x4096, .f32⟩
  | 117 => ⟨S12x4x4096, .f32⟩
  | 118 => ⟨S6x4x4096, .f32⟩
  | 119 => ⟨S12x4x4096, .f32⟩
  | 120 => ⟨S_, .i1⟩
  | 121 => ⟨S128x128, .i1⟩
  | 122 => ⟨S128x128, .i32⟩
  | 123 => ⟨S_, .i32⟩
  | 124 => ⟨S128x128, .i32⟩
  | 125 => ⟨S128x128, .i32⟩
  | 126 => ⟨S128x128, .i32⟩
  | 127 => ⟨S128x128, .i1⟩
  | _ => ⟨S6x4096x7168, .bf16⟩

abbrev hbmTy0_1 (i : Nat) : BufTy := match i % 128 with
  | 0 => ⟨S_, .i1⟩
  | 1 => ⟨S128x128, .i1⟩
  | 2 => ⟨S128x128, .i1⟩
  | 3 => ⟨S_, .f32⟩
  | 4 => ⟨S12x4x256x256, .f32⟩
  | 5 => ⟨S_, .f32⟩
  | 6 => ⟨S12x4x256, .f32⟩
  | 7 => ⟨S_, .f32⟩
  | 8 => ⟨S12x4, .f32⟩
  | 9 => ⟨S12x4x32x128x256, .f32⟩
  | 10 => ⟨S32x12x4x128x256, .f32⟩
  | 11 => ⟨S12x4x32x128x256, .f32⟩
  | 12 => ⟨S32x12x4x128x256, .f32⟩
  | 13 => ⟨S12x4x32x128x256, .f32⟩
  | 14 => ⟨S32x12x4x128x256, .f32⟩
  | 15 => ⟨S12x4x32x128, .f32⟩
  | 16 => ⟨S32x12x4x128, .f32⟩
  | 17 => ⟨S12x4x32x128, .f32⟩
  | 18 => ⟨S32x12x4x128, .f32⟩
  | 19 => ⟨S_, .f32⟩
  | 20 => ⟨S32x12x4x128x256, .f32⟩
  | 21 => ⟨S_, .i32⟩
  | 22 => ⟨S32x12x4x128x256, .f32⟩
  | 23 => ⟨S32x12x4x128x256, .f32⟩
  | 24 => ⟨S32x12x4x128x256, .f32⟩
  | 25 => ⟨S32x12x4x128, .f32⟩
  | 26 => ⟨S32x12x4x128, .f32⟩
  | 27 => ⟨S128x128, .i1⟩
  | 28 => ⟨S_, .i32⟩
  | 29 => ⟨S12x4x256x256, .f32⟩
  | 30 => ⟨S12x4x256, .f32⟩
  | 31 => ⟨S12x4, .f32⟩
  | 32 => ⟨S32x12x4x128x256, .f32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S1x12x4x128x256, .f32⟩
  | 40 => ⟨S12x4x128x256, .f32⟩
  | 41 => ⟨S_, .i32⟩
  | 42 => ⟨S_, .i32⟩
  | 43 => ⟨S_, .i32⟩
  | 44 => ⟨S_, .i32⟩
  | 45 => ⟨S1x12x4x128x256, .f32⟩
  | 46 => ⟨S12x4x128x256, .f32⟩
  | 47 => ⟨S_, .i32⟩
  | 48 => ⟨S_, .i32⟩
  | 49 => ⟨S_, .i32⟩
  | 50 => ⟨S_, .i32⟩
  | 51 => ⟨S1x12x4x128x256, .f32⟩
  | 52 => ⟨S12x4x128x256, .f32⟩
  | 53 => ⟨S_, .i32⟩
  | 54 => ⟨S_, .i32⟩
  | 55 => ⟨S_, .i32⟩
  | 56 => ⟨S1x12x4x128, .f32⟩
  | 57 => ⟨S12x4x128, .f32⟩
  | 58 => ⟨S_, .i32⟩
  | 59 => ⟨S_, .i32⟩
  | 60 => ⟨S_, .i32⟩
  | 61 => ⟨S1x12x4x128, .f32⟩
  | 62 => ⟨S12x4x128, .f32⟩
  | 63 => ⟨S_, .f32⟩
  | 64 => ⟨S_, .f32⟩
  | 65 => ⟨S12x4x128, .f32⟩
  | 66 => ⟨S12x4x128x1, .f32⟩
  | 67 => ⟨S12x4x1x128, .f32⟩
  | 68 => ⟨S12x4x128x128, .f32⟩
  | 69 => ⟨S12x4x128x128, .f32⟩
  | 70 => ⟨S12x4x128x128, .f32⟩
  | 71 => ⟨S12x4x1x128, .f32⟩
  | 72 => ⟨S12x4x128x128, .f32⟩
  | 73 => ⟨S12x4x128x128, .f32⟩
  | 74 => ⟨S_, .f32⟩
  | 75 => ⟨S_, .f32⟩
  | 76 => ⟨S12x4x128x128, .i1⟩
  | 77 => ⟨S12x4x128x128, .f32⟩
  | 78 => ⟨S12x4x128x128, .f32⟩
  | 79 => ⟨S12x4x1, .f32⟩
  | 80 => ⟨S12x4x128, .f32⟩
  | 81 => ⟨S12x4x128, .f32⟩
  | 82 => ⟨S_, .f32⟩
  | 83 => ⟨S12x4x128, .f32⟩
  | 84 => ⟨S12x4x128, .f32⟩
  | 85 => ⟨S12x4x128x1, .f32⟩
  | 86 => ⟨S12x4x128x128, .f32⟩
  | 87 => ⟨S12x4x128x128, .f32⟩
  | 88 => ⟨S12x4x128x128, .f32⟩
  | 89 => ⟨S12x4x128, .f32⟩
  | 90 => ⟨S12x4x128, .f32⟩
  | 91 => ⟨S12x4x128x128, .f32⟩
  | 92 => ⟨S12x4x128x128, .f32⟩
  | 93 => ⟨S12x4x128x1, .f32⟩
  | 94 => ⟨S12x4x128x256, .f32⟩
  | 95 => ⟨S12x4x128x256, .f32⟩
  | 96 => ⟨S12x4x128x256, .f32⟩
  | 97 => ⟨S12x4x128x256, .f32⟩
  | 98 => ⟨S12x4x128x256, .f32⟩
  | 99 => ⟨S12x4x128, .f32⟩
  | 100 => ⟨S12x4x128, .f32⟩
  | 101 => ⟨S_, .f32⟩
  | 102 => ⟨S12x4x128, .f32⟩
  | 103 => ⟨S12x4x128, .f32⟩
  | 104 => ⟨S12x4x128, .f32⟩
  | 105 => ⟨S12x4x128, .f32⟩
  | 106 => ⟨S12x4x128, .f32⟩
  | 107 => ⟨S12x4x128, .f32⟩
  | 108 => ⟨S12x4x128x1, .f32⟩
  | 109 => ⟨S12x4x128x256, .f32⟩
  | 110 => ⟨S12x4x128x256, .f32⟩
  | 111 => ⟨S12x4x1, .f32⟩
  | 112 => ⟨S12x4, .f32⟩
  | 113 => ⟨S12x4x1, .f32⟩
  | 114 => ⟨S12x4x128, .f32⟩
  | 115 => ⟨S12x4x128, .f32⟩
  | 116 => ⟨S12x4x128, .f32⟩
  | 117 => ⟨S12x4, .f32⟩
  | 118 => ⟨S_, .f32⟩
  | 119 => ⟨S12x4, .f32⟩
  | 120 => ⟨S12x4, .f32⟩
  | 121 => ⟨S12x4, .f32⟩
  | 122 => ⟨S12x4, .f32⟩
  | 123 => ⟨S12x4, .f32⟩
  | 124 => ⟨S12x4x1, .f32⟩
  | 125 => ⟨S12x4x128, .f32⟩
  | 126 => ⟨S12x4x128, .f32⟩
  | 127 => ⟨S12x4x128, .f32⟩
  | _ => ⟨S6x4096x7168, .bf16⟩

abbrev hbmTy0_2 (i : Nat) : BufTy := match i % 128 with
  | 0 => ⟨S12x4x1x1, .f32⟩
  | 1 => ⟨S12x4x256x256, .f32⟩
  | 2 => ⟨S12x4x256x256, .f32⟩
  | 3 => ⟨S12x4x128x1, .f32⟩
  | 4 => ⟨S12x4x128x256, .f32⟩
  | 5 => ⟨S12x4x128x256, .f32⟩
  | 6 => ⟨S12x4x256x256, .f32⟩
  | 7 => ⟨S12x4x256x256, .f32⟩
  | 8 => ⟨S12x4x1, .f32⟩
  | 9 => ⟨S12x4x256, .f32⟩
  | 10 => ⟨S12x4x256, .f32⟩
  | 11 => ⟨S12x4x256, .f32⟩
  | 12 => ⟨S12x4x256, .f32⟩
  | 13 => ⟨S1x12x4x128x256, .f32⟩
  | 14 => ⟨S_, .i32⟩
  | 15 => ⟨S_, .i32⟩
  | 16 => ⟨S_, .i32⟩
  | 17 => ⟨S_, .i32⟩
  | 18 => ⟨S32x12x4x128x256, .f32⟩
  | 19 => ⟨S_, .i32⟩
  | 20 => ⟨S_, .i32⟩
  | 21 => ⟨S12x4x32x128x256, .f32⟩
  | 22 => ⟨S12x4x4096x256, .f32⟩
  | 23 => ⟨S6x4x4096x256, .f32⟩
  | 24 => ⟨S6x4x4096x256, .f32⟩
  | 25 => ⟨S6x4x4096x256, .f32⟩
  | 26 => ⟨S6x4x4096x256, .f32⟩
  | 27 => ⟨S6x4096x4x256, .f32⟩
  | 28 => ⟨S4x256, .f32⟩
  | 29 => ⟨S6x4096x4x256, .f32⟩
  | 30 => ⟨S_, .f32⟩
  | 31 => ⟨S6x4096x4, .f32⟩
  | 32 => ⟨S6x4096x4x1, .f32⟩
  | 33 => ⟨S_, .f32⟩
  | 34 => ⟨S6x4096x4x1, .f32⟩
  | 35 => ⟨S6x4096x4x1, .f32⟩
  | 36 => ⟨S_, .f32⟩
  | 37 => ⟨S6x4096x4x1, .f32⟩
  | 38 => ⟨S6x4096x4x1, .f32⟩
  | 39 => ⟨S6x4096x4x1, .f32⟩
  | 40 => ⟨S6x4096x4x256, .f32⟩
  | 41 => ⟨S6x4096x4x256, .f32⟩
  | 42 => ⟨S1x1x4x256, .f32⟩
  | 43 => ⟨S6x4096x4x256, .f32⟩
  | 44 => ⟨S6x4096x4x256, .f32⟩
  | 45 => ⟨S6x4096x1024, .bf16⟩
  | 46 => ⟨S6x4096x1024, .f32⟩
  | 47 => ⟨S6x4096x1024, .f32⟩
  | 48 => ⟨S6x4096x1024, .f32⟩
  | 49 => ⟨S_, .f32⟩
  | 50 => ⟨S6x4096x1024, .f32⟩
  | 51 => ⟨S6x4096x1024, .f32⟩
  | 52 => ⟨S_, .f32⟩
  | 53 => ⟨S6x4096x1024, .f32⟩
  | 54 => ⟨S6x4096x1024, .f32⟩
  | 55 => ⟨S6x4096x4x256, .f32⟩
  | 56 => ⟨S6x4096x4x256, .f32⟩
  | 57 => ⟨S6x4096x1024, .f32⟩
  | 58 => ⟨S6x4096x1024, .bf16⟩
  | _ => ⟨S6x4096x7168, .bf16⟩

abbrev hbmTy (i : Nat) : BufTy := match i / 128 with
  | 0 => hbmTy0_0 i
  | 1 => hbmTy0_1 i
  | 2 => hbmTy0_2 i
  | _ => ⟨S6x4096x7168, .bf16⟩

abbrev bufTy : (tb : Table) → Fin (tcTables nBuf tb) → BufTy
  | .hbm, ⟨i, _⟩ => hbmTy i
  | _, _ => ⟨S6x4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_call2_v0 : Ref sig .tc := ⟨.hbm, 78, rfl⟩
abbrev main_call2_call0_cst : Ref sig .tc := ⟨.hbm, 79, rfl⟩
abbrev main_call2_call0_v0 : Ref sig .tc := ⟨.hbm, 80, rfl⟩
abbrev main_call2_call0_v1 : Ref sig .tc := ⟨.hbm, 81, rfl⟩
abbrev main_call2_call0_v2 : Ref sig .tc := ⟨.hbm, 82, rfl⟩
abbrev main_call2_call0_v3 : Ref sig .tc := ⟨.hbm, 83, rfl⟩
abbrev main_call2_call0_v4 : Ref sig .tc := ⟨.hbm, 84, rfl⟩
abbrev main_call2_call0_v5 : Ref sig .tc := ⟨.hbm, 85, rfl⟩
abbrev main_call2_call0_v6 : Ref sig .tc := ⟨.hbm, 86, rfl⟩
abbrev main_call2_call0_v7 : Ref sig .tc := ⟨.hbm, 87, rfl⟩
abbrev main_call2_call0_v8 : Ref sig .tc := ⟨.hbm, 88, rfl⟩
abbrev main_call2_call0_v9 : Ref sig .tc := ⟨.hbm, 89, rfl⟩
abbrev main_call2_call0_v10 : Ref sig .tc := ⟨.hbm, 90, rfl⟩
abbrev main_call2_call0_v11 : Ref sig .tc := ⟨.hbm, 91, rfl⟩
abbrev main_call2_v1 : Ref sig .tc := ⟨.hbm, 92, rfl⟩
abbrev main_v62 : Ref sig .tc := ⟨.hbm, 93, rfl⟩
abbrev main_call3_v0 : Ref sig .tc := ⟨.hbm, 94, rfl⟩
abbrev main_call3_call0_cst : Ref sig .tc := ⟨.hbm, 95, rfl⟩
abbrev main_call3_call0_v0 : Ref sig .tc := ⟨.hbm, 96, rfl⟩
abbrev main_call3_call0_v1 : Ref sig .tc := ⟨.hbm, 97, rfl⟩
abbrev main_call3_call0_v2 : Ref sig .tc := ⟨.hbm, 98, rfl⟩
abbrev main_call3_call0_v3 : Ref sig .tc := ⟨.hbm, 99, rfl⟩
abbrev main_call3_call0_v4 : Ref sig .tc := ⟨.hbm, 100, rfl⟩
abbrev main_call3_call0_v5 : Ref sig .tc := ⟨.hbm, 101, rfl⟩
abbrev main_call3_call0_v6 : Ref sig .tc := ⟨.hbm, 102, rfl⟩
abbrev main_call3_call0_v7 : Ref sig .tc := ⟨.hbm, 103, rfl⟩
abbrev main_call3_call0_v8 : Ref sig .tc := ⟨.hbm, 104, rfl⟩
abbrev main_call3_call0_v9 : Ref sig .tc := ⟨.hbm, 105, rfl⟩
abbrev main_call3_call0_v10 : Ref sig .tc := ⟨.hbm, 106, rfl⟩
abbrev main_call3_call0_v11 : Ref sig .tc := ⟨.hbm, 107, rfl⟩
abbrev main_call3_v1 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_c_0 : Ref sig .tc := ⟨.hbm, 120, rfl⟩
abbrev main_v74 : Ref sig .tc := ⟨.hbm, 121, rfl⟩
abbrev main_call9_v0 : Ref sig .tc := ⟨.hbm, 122, rfl⟩
abbrev main_call9_c : Ref sig .tc := ⟨.hbm, 123, rfl⟩
abbrev main_call9_v1 : Ref sig .tc := ⟨.hbm, 124, rfl⟩
abbrev main_call9_v2 : Ref sig .tc := ⟨.hbm, 125, rfl⟩
abbrev main_call9_v3 : Ref sig .tc := ⟨.hbm, 126, rfl⟩
abbrev main_call9_v4 : Ref sig .tc := ⟨.hbm, 127, rfl⟩
abbrev main_call9_c_0 : Ref sig .tc := ⟨.hbm, 128, rfl⟩
abbrev main_call9_v5 : Ref sig .tc := ⟨.hbm, 129, rfl⟩
abbrev main_v75 : Ref sig .tc := ⟨.hbm, 130, rfl⟩
abbrev main_cst_1 : Ref sig .tc := ⟨.hbm, 131, rfl⟩
abbrev main_v76 : Ref sig .tc := ⟨.hbm, 132, rfl⟩
abbrev main_cst_2 : Ref sig .tc := ⟨.hbm, 133, rfl⟩
abbrev main_v77 : Ref sig .tc := ⟨.hbm, 134, rfl⟩
abbrev main_cst_3 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_cst_4 : Ref sig .tc := ⟨.hbm, 147, rfl⟩
abbrev main_v89 : Ref sig .tc := ⟨.hbm, 148, rfl⟩
abbrev main_c_5 : Ref sig .tc := ⟨.hbm, 149, rfl⟩
abbrev main_v90_0 : Ref sig .tc := ⟨.hbm, 150, rfl⟩
abbrev main_v90_1 : Ref sig .tc := ⟨.hbm, 151, rfl⟩
abbrev main_v90_2 : Ref sig .tc := ⟨.hbm, 152, rfl⟩
abbrev main_v90_3 : Ref sig .tc := ⟨.hbm, 153, rfl⟩
abbrev main_v90_4 : Ref sig .tc := ⟨.hbm, 154, rfl⟩
abbrev main_v90_5 : Ref sig .tc := ⟨.hbm, 155, rfl⟩
abbrev main_v90_6 : Ref sig .tc := ⟨.hbm, 156, rfl⟩
abbrev main_v90_7 : Ref sig .tc := ⟨.hbm, 157, rfl⟩
abbrev main_v90_8 : Ref sig .tc := ⟨.hbm, 158, rfl⟩
abbrev main_v90_9 : Ref sig .tc := ⟨.hbm, 159, rfl⟩
abbrev main_v90_10 : Ref sig .tc := ⟨.hbm, 160, rfl⟩
abbrev main_while0c_c_21 : Ref sig .tc := ⟨.hbm, 161, rfl⟩
abbrev main_while0c_v124 : Ref sig .tc := ⟨.hbm, 162, rfl⟩
abbrev main_while0b_call10_c : Ref sig .tc := ⟨.hbm, 163, rfl⟩
abbrev main_while0b_call10_c_0 : Ref sig .tc := ⟨.hbm, 164, rfl⟩
abbrev main_while0b_call10_c_1 : Ref sig .tc := ⟨.hbm, 165, rfl⟩
abbrev main_while0b_call10_c_2 : Ref sig .tc := ⟨.hbm, 166, rfl⟩
abbrev main_while0b_call10_v0 : Ref sig .tc := ⟨.hbm, 167, rfl⟩
abbrev main_while0b_v124 : Ref sig .tc := ⟨.hbm, 168, rfl⟩
abbrev main_while0b_call11_c : Ref sig .tc := ⟨.hbm, 169, rfl⟩
abbrev main_while0b_call11_c_0 : Ref sig .tc := ⟨.hbm, 170, rfl⟩
abbrev main_while0b_call11_c_1 : Ref sig .tc := ⟨.hbm, 171, rfl⟩
abbrev main_while0b_call11_c_2 : Ref sig .tc := ⟨.hbm, 172, rfl⟩
abbrev main_while0b_call11_v0 : Ref sig .tc := ⟨.hbm, 173, rfl⟩
abbrev main_while0b_v125 : Ref sig .tc := ⟨.hbm, 174, rfl⟩
abbrev main_while0b_call12_c : Ref sig .tc := ⟨.hbm, 175, rfl⟩
abbrev main_while0b_call12_c_0 : Ref sig .tc := ⟨.hbm, 176, rfl⟩
abbrev main_while0b_call12_c_1 : Ref sig .tc := ⟨.hbm, 177, rfl⟩
abbrev main_while0b_call12_c_2 : Ref sig .tc := ⟨.hbm, 178, rfl⟩
abbrev main_while0b_call12_v0 : Ref sig .tc := ⟨.hbm, 179, rfl⟩
abbrev main_while0b_v126 : Ref sig .tc := ⟨.hbm, 180, rfl⟩
abbrev main_while0b_call13_c : Ref sig .tc := ⟨.hbm, 181, rfl⟩
abbrev main_while0b_call13_c_0 : Ref sig .tc := ⟨.hbm, 182, rfl⟩
abbrev main_while0b_call13_c_1 : Ref sig .tc := ⟨.hbm, 183, rfl⟩
abbrev main_while0b_call13_v0 : Ref sig .tc := ⟨.hbm, 184, rfl⟩
abbrev main_while0b_v127 : Ref sig .tc := ⟨.hbm, 185, rfl⟩
abbrev main_while0b_call14_c : Ref sig .tc := ⟨.hbm, 186, rfl⟩
abbrev main_while0b_call14_c_0 : Ref sig .tc := ⟨.hbm, 187, rfl⟩
abbrev main_while0b_call14_c_1 : Ref sig .tc := ⟨.hbm, 188, rfl⟩
abbrev main_while0b_call14_v0 : Ref sig .tc := ⟨.hbm, 189, rfl⟩
abbrev main_while0b_v128 : Ref sig .tc := ⟨.hbm, 190, rfl⟩
abbrev main_while0b_call15_call0_cst : Ref sig .tc := ⟨.hbm, 191, rfl⟩
abbrev main_while0b_call15_call0_v0 : Ref sig .tc := ⟨.hbm, 192, rfl⟩
abbrev main_while0b_v129 : Ref sig .tc := ⟨.hbm, 193, rfl⟩
abbrev main_while0b_v130 : Ref sig .tc := ⟨.hbm, 194, rfl⟩
abbrev main_while0b_v131 : Ref sig .tc := ⟨.hbm, 195, rfl⟩
abbrev main_while0b_v132 : Ref sig .tc := ⟨.hbm, 196, rfl⟩
abbrev main_while0b_v133 : Ref sig .tc := ⟨.hbm, 197, rfl⟩
abbrev main_while0b_v134 : Ref sig .tc := ⟨.hbm, 198, rfl⟩
abbrev main_while0b_v135 : Ref sig .tc := ⟨.hbm, 199, rfl⟩
abbrev main_while0b_v136 : Ref sig .tc := ⟨.hbm, 200, rfl⟩
abbrev main_while0b_v137 : Ref sig .tc := ⟨.hbm, 201, rfl⟩
abbrev main_while0b_cst_21 : Ref sig .tc := ⟨.hbm, 202, rfl⟩
abbrev main_while0b_call16_v0 : Ref sig .tc := ⟨.hbm, 203, rfl⟩
abbrev main_while0b_call16_v1 : Ref sig .tc := ⟨.hbm, 204, rfl⟩
abbrev main_while0b_call16_v2 : Ref sig .tc := ⟨.hbm, 205, rfl⟩
abbrev main_while0b_v138 : Ref sig .tc := ⟨.hbm, 206, rfl⟩
abbrev main_while0b_v139 : Ref sig .tc := ⟨.hbm, 207, rfl⟩
abbrev main_while0b_v140 : Ref sig .tc := ⟨.hbm, 208, rfl⟩
abbrev main_while0b_v141 : Ref sig .tc := ⟨.hbm, 209, rfl⟩
abbrev main_while0b_cst_22 : Ref sig .tc := ⟨.hbm, 210, rfl⟩
abbrev main_while0b_v142 : Ref sig .tc := ⟨.hbm, 211, rfl⟩
abbrev main_while0b_v143 : Ref sig .tc := ⟨.hbm, 212, rfl⟩
abbrev main_while0b_v144 : Ref sig .tc := ⟨.hbm, 213, rfl⟩
abbrev main_while0b_v145 : Ref sig .tc := ⟨.hbm, 214, rfl⟩
abbrev main_while0b_v146 : Ref sig .tc := ⟨.hbm, 215, rfl⟩
abbrev main_while0b_v147 : Ref sig .tc := ⟨.hbm, 216, rfl⟩
abbrev main_while0b_v148 : Ref sig .tc := ⟨.hbm, 217, rfl⟩
abbrev main_while0b_v149 : Ref sig .tc := ⟨.hbm, 218, rfl⟩
abbrev main_while0b_v150 : Ref sig .tc := ⟨.hbm, 219, rfl⟩
abbrev main_while0b_v151 : Ref sig .tc := ⟨.hbm, 220, rfl⟩
abbrev main_while0b_v152 : Ref sig .tc := ⟨.hbm, 221, rfl⟩
abbrev main_while0b_v153 : Ref sig .tc := ⟨.hbm, 222, rfl⟩
abbrev main_while0b_v154 : Ref sig .tc := ⟨.hbm, 223, rfl⟩
abbrev main_while0b_v155 : Ref sig .tc := ⟨.hbm, 224, rfl⟩
abbrev main_while0b_v156 : Ref sig .tc := ⟨.hbm, 225, rfl⟩
abbrev main_while0b_v157 : Ref sig .tc := ⟨.hbm, 226, rfl⟩
abbrev main_while0b_v158 : Ref sig .tc := ⟨.hbm, 227, rfl⟩
abbrev main_while0b_v159 : Ref sig .tc := ⟨.hbm, 228, rfl⟩
abbrev main_while0b_cst_23 : Ref sig .tc := ⟨.hbm, 229, rfl⟩
abbrev main_while0b_v160 : Ref sig .tc := ⟨.hbm, 230, rfl⟩
abbrev main_while0b_v161 : Ref sig .tc := ⟨.hbm, 231, rfl⟩
abbrev main_while0b_v162 : Ref sig .tc := ⟨.hbm, 232, rfl⟩
abbrev main_while0b_v163 : Ref sig .tc := ⟨.hbm, 233, rfl⟩
abbrev main_while0b_v164 : Ref sig .tc := ⟨.hbm, 234, rfl⟩
abbrev main_while0b_v165 : Ref sig .tc := ⟨.hbm, 235, rfl⟩
abbrev main_while0b_v166 : Ref sig .tc := ⟨.hbm, 236, rfl⟩
abbrev main_while0b_v167 : Ref sig .tc := ⟨.hbm, 237, rfl⟩
abbrev main_while0b_v168 : Ref sig .tc := ⟨.hbm, 238, rfl⟩
abbrev main_while0b_v169 : Ref sig .tc := ⟨.hbm, 239, rfl⟩
abbrev main_while0b_v170 : Ref sig .tc := ⟨.hbm, 240, rfl⟩
abbrev main_while0b_v171 : Ref sig .tc := ⟨.hbm, 241, rfl⟩
abbrev main_while0b_v172 : Ref sig .tc := ⟨.hbm, 242, rfl⟩
abbrev main_while0b_v173 : Ref sig .tc := ⟨.hbm, 243, rfl⟩
abbrev main_while0b_v174 : Ref sig .tc := ⟨.hbm, 244, rfl⟩
abbrev main_while0b_v175 : Ref sig .tc := ⟨.hbm, 245, rfl⟩
abbrev main_while0b_cst_24 : Ref sig .tc := ⟨.hbm, 246, rfl⟩
abbrev main_while0b_v176 : Ref sig .tc := ⟨.hbm, 247, rfl⟩
abbrev main_while0b_v177 : Ref sig .tc := ⟨.hbm, 248, rfl⟩
abbrev main_while0b_v178 : Ref sig .tc := ⟨.hbm, 249, rfl⟩
abbrev main_while0b_v179 : Ref sig .tc := ⟨.hbm, 250, rfl⟩
abbrev main_while0b_v180 : Ref sig .tc := ⟨.hbm, 251, rfl⟩
abbrev main_while0b_v181 : Ref sig .tc := ⟨.hbm, 252, rfl⟩
abbrev main_while0b_v182 : Ref sig .tc := ⟨.hbm, 253, rfl⟩
abbrev main_while0b_v183 : Ref sig .tc := ⟨.hbm, 254, rfl⟩
abbrev main_while0b_v184 : Ref sig .tc := ⟨.hbm, 255, rfl⟩
abbrev main_while0b_v185 : Ref sig .tc := ⟨.hbm, 256, rfl⟩
abbrev main_while0b_v186 : Ref sig .tc := ⟨.hbm, 257, rfl⟩
abbrev main_while0b_v187 : Ref sig .tc := ⟨.hbm, 258, rfl⟩
abbrev main_while0b_v188 : Ref sig .tc := ⟨.hbm, 259, rfl⟩
abbrev main_while0b_v189 : Ref sig .tc := ⟨.hbm, 260, rfl⟩
abbrev main_while0b_v190 : Ref sig .tc := ⟨.hbm, 261, rfl⟩
abbrev main_while0b_v191 : Ref sig .tc := ⟨.hbm, 262, rfl⟩
abbrev main_while0b_v192 : Ref sig .tc := ⟨.hbm, 263, rfl⟩
abbrev main_while0b_v193 : Ref sig .tc := ⟨.hbm, 264, rfl⟩
abbrev main_while0b_v194 : Ref sig .tc := ⟨.hbm, 265, rfl⟩
abbrev main_while0b_v195 : Ref sig .tc := ⟨.hbm, 266, rfl⟩
abbrev main_while0b_v196 : Ref sig .tc := ⟨.hbm, 267, rfl⟩
abbrev main_while0b_v197 : Ref sig .tc := ⟨.hbm, 268, rfl⟩
abbrev main_while0b_call17_v0 : Ref sig .tc := ⟨.hbm, 269, rfl⟩
abbrev main_while0b_call17_c : Ref sig .tc := ⟨.hbm, 270, rfl⟩
abbrev main_while0b_call17_c_0 : Ref sig .tc := ⟨.hbm, 271, rfl⟩
abbrev main_while0b_call17_c_1 : Ref sig .tc := ⟨.hbm, 272, rfl⟩
abbrev main_while0b_call17_c_2 : Ref sig .tc := ⟨.hbm, 273, rfl⟩
abbrev main_while0b_v198 : Ref sig .tc := ⟨.hbm, 274, rfl⟩
abbrev main_while0b_c_25 : Ref sig .tc := ⟨.hbm, 275, rfl⟩
abbrev main_while0b_v199 : Ref sig .tc := ⟨.hbm, 276, rfl⟩
abbrev main_v91 : Ref sig .tc := ⟨.hbm, 277, rfl⟩
abbrev main_v92 : Ref sig .tc := ⟨.hbm, 278, rfl⟩
abbrev main_v93 : Ref sig .tc := ⟨.hbm, 279, rfl⟩
abbrev main_v94 : Ref sig .tc := ⟨.hbm, 280, rfl⟩
abbrev main_v95 : Ref sig .tc := ⟨.hbm, 281, rfl⟩
abbrev main_v96 : Ref sig .tc := ⟨.hbm, 282, rfl⟩
abbrev main_v97 : Ref sig .tc := ⟨.hbm, 283, rfl⟩
abbrev main_v98 : Ref sig .tc := ⟨.hbm, 284, rfl⟩
abbrev main_v99 : Ref sig .tc := ⟨.hbm, 285, rfl⟩
abbrev main_cst_6 : Ref sig .tc := ⟨.hbm, 286, rfl⟩
abbrev main_v100 : Ref sig .tc := ⟨.hbm, 287, rfl⟩
abbrev main_v101 : Ref sig .tc := ⟨.hbm, 288, rfl⟩
abbrev main_cst_7 : Ref sig .tc := ⟨.hbm, 289, rfl⟩
abbrev main_v102 : Ref sig .tc := ⟨.hbm, 290, rfl⟩
abbrev main_v103 : Ref sig .tc := ⟨.hbm, 291, rfl⟩
abbrev main_cst_8 : Ref sig .tc := ⟨.hbm, 292, rfl⟩
abbrev main_v104 : Ref sig .tc := ⟨.hbm, 293, rfl⟩
abbrev main_v105 : Ref sig .tc := ⟨.hbm, 294, rfl⟩
abbrev main_v106 : Ref sig .tc := ⟨.hbm, 295, rfl⟩
abbrev main_v107 : Ref sig .tc := ⟨.hbm, 296, rfl⟩
abbrev main_v108 : Ref sig .tc := ⟨.hbm, 297, rfl⟩
abbrev main_v109 : Ref sig .tc := ⟨.hbm, 298, rfl⟩
abbrev main_v110 : Ref sig .tc := ⟨.hbm, 299, rfl⟩
abbrev main_v111 : Ref sig .tc := ⟨.hbm, 300, rfl⟩
abbrev main_v112 : Ref sig .tc := ⟨.hbm, 301, rfl⟩
abbrev main_v113 : Ref sig .tc := ⟨.hbm, 302, rfl⟩
abbrev main_v114 : Ref sig .tc := ⟨.hbm, 303, rfl⟩
abbrev main_v115 : Ref sig .tc := ⟨.hbm, 304, rfl⟩
abbrev main_cst_9 : Ref sig .tc := ⟨.hbm, 305, rfl⟩
abbrev main_v116 : Ref sig .tc := ⟨.hbm, 306, rfl⟩
abbrev main_v117 : Ref sig .tc := ⟨.hbm, 307, rfl⟩
abbrev main_cst_10 : Ref sig .tc := ⟨.hbm, 308, rfl⟩
abbrev main_v118 : Ref sig .tc := ⟨.hbm, 309, rfl⟩
abbrev main_v119 : Ref sig .tc := ⟨.hbm, 310, rfl⟩
abbrev main_v120 : Ref sig .tc := ⟨.hbm, 311, rfl⟩
abbrev main_v121 : Ref sig .tc := ⟨.hbm, 312, rfl⟩
abbrev main_v122 : Ref sig .tc := ⟨.hbm, 313, rfl⟩
abbrev main_v123 : Ref sig .tc := ⟨.hbm, 314, rfl⟩

abbrev nD : Nat := 1
abbrev τ : Topo := Topo.v7x

variable {F : FTy → Type} [FloatOps F]

abbrev main_while0_count : Scf.Loop 32 := ⟨0#32, 32#32, 1#32⟩
-- ==== Kernel3.lean ====
abbrev S8192x2048 : Shape := ⟨2, ![8192, 2048]⟩
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S24576x2048 : Shape := ⟨2, ![24576, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S16384x2048, .f32⟩
  | .hbm, ⟨2, _⟩ => ⟨S1x2048, .f32⟩
  | .hbm, ⟨3, _⟩ => ⟨S1x2048, .f32⟩
  | .hbm, ⟨4, _⟩ => ⟨S2048x5632, .bf16⟩
  | .hbm, ⟨5, _⟩ => ⟨S2048x5632, .bf16⟩
  | .hbm, ⟨6, _⟩ => ⟨S5632x2048, .bf16⟩
  | .hbm, ⟨7, _⟩ => ⟨S24576x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![48, 11], ![false, false]⟩

def k0_cond3 (i : grid0.Coords) : BitVec 1 :=
  let arg1 : BitVec 32 := BitVec.ofNat 32 (i 1).val
  let c10_i32 : BitVec 32 := 10#32
  let v29 : BitVec 1 := Scalar.cmpi .eq arg1 c10_i32
  let c0_i32 : BitVec 32 := 0#32
  let arg0 : BitVec 32 := BitVec.ofNat 32 (i 0).val
  let c16_i32 : BitVec 32 := 16#32
  let v0 : BitVec 1 := Scalar.cmpi .sge arg0 c16_i32
  let v1 : BitVec 32 := Scalar.extui v0
  let v2 : BitVec 32 := Scalar.addi c0_i32 v1
  let c0_i32_18 : BitVec 32 := 0#32
  let v30 : BitVec 1 := Scalar.cmpi .eq v2 c0_i32_18
  let v_true : BitVec 1 := 1#1
  let v31 : BitVec 1 := Scalar.andi v30 v_true
  let v32 : BitVec 1 := Scalar.andi v29 v31
  let v33 : BitVec 32 := Scalar.extui v32
  let c0_i32_19 : BitVec 32 := 0#32
  let v34 : BitVec 1 := Scalar.cmpi .ne v33 c0_i32_19
  v34

def k0_cond4 (i : grid0.Coords) : BitVec 1 :=
  let arg1 : BitVec 32 := BitVec.ofNat 32 (i 1).val
  let c10_i32 : BitVec 32 := 10#32
  let v29 : BitVec 1 := Scalar.cmpi .eq arg1 c10_i32
  let c0_i32 : BitVec 32 := 0#32
  let arg0 : BitVec 32 := BitVec.ofNat 32 (i 0).val
  let c16_i32 : BitVec 32 := 16#32
  let v0 : BitVec 1 := Scalar.cmpi .sge arg0 c16_i32
  let v1 : BitVec 32 := Scalar.extui v0
  let v2 : BitVec 32 := Scalar.addi c0_i32 v1
  let c1_i32_20 : BitVec 32 := 1#32
  let v35 : BitVec 1 := Scalar.cmpi .eq v2 c1_i32_20
  let true_21 : BitVec 1 := 1#1
  let v36 : BitVec 1 := Scalar.andi v35 true_21
  let v37 : BitVec 1 := Scalar.andi v29 v36
  let v38 : BitVec 32 := Scalar.extui v37
  let c0_i32_22 : BitVec 32 := 0#32
  let v39 : BitVec 1 := Scalar.cmpi .ne v38 c0_i32_22
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c47_i32 : BitVec 32 := 47#32
  let v1 : BitVec 32 := Scalar.maxsi c0_i32_0 v0
  let v2 : BitVec 32 := Scalar.minsi c47_i32 v1
  let c0_i32_1 : BitVec 32 := 0#32
  let c0_i32_2 : BitVec 32 := 0#32
  ![v2.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S8192x2048 : Shape := ⟨2, ![8192, 2048]⟩
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S24576x2048 : Shape := ⟨2, ![24576, 2048]⟩
abbrev S2048 : Shape := ⟨1, ![2048]⟩
abbrev S_ : Shape := ⟨0, ![]⟩
abbrev S24576 : Shape := ⟨1, ![24576]⟩
abbrev S24576x1 : Shape := ⟨2, ![24576, 1]⟩
abbrev S24576x5632 : Shape := ⟨2, ![24576, 5632]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16384x2048, .f32⟩
  | .hbm, ⟨2, _⟩ => ⟨S1x2048, .f32⟩
  | .hbm, ⟨3, _⟩ => ⟨S1x2048, .f32⟩
  | .hbm, ⟨4, _⟩ => ⟨S2048x5632, .bf16⟩
  | .hbm, ⟨5, _⟩ => ⟨S2048x5632, .bf16⟩
  | .hbm, ⟨6, _⟩ => ⟨S5632x2048, .bf16⟩
  | .hbm, ⟨7, _⟩ => ⟨S24576x2048, .f32⟩
  | .hbm, ⟨8, _⟩ => ⟨S2048, .f32⟩
  | .hbm, ⟨9, _⟩ => ⟨S24576x2048, .f32⟩
  | .hbm, ⟨10, _⟩ => ⟨S_, .f32⟩
  | .hbm, ⟨11, _⟩ => ⟨S24576, .f32⟩
  | .hbm, ⟨12, _⟩ => ⟨S24576x1, .f32⟩
  | .hbm, ⟨13, _⟩ => ⟨S_, .f32⟩
  | .hbm, ⟨14, _⟩ => ⟨S24576x1, .f32⟩
  | .hbm, ⟨15, _⟩ => ⟨S24576x1, .f32⟩
  | .hbm, ⟨16, _⟩ => ⟨S_, .f32⟩
  | .hbm, ⟨17, _⟩ => ⟨S24576x1, .f32⟩
  | .hbm, ⟨18, _⟩ => ⟨S24576x1, .f32⟩
  | .hbm, ⟨19, _⟩ => ⟨S24576x1, .f32⟩
  | .hbm, ⟨20, _⟩ => ⟨S24576x2048, .f32⟩
  | .hbm, ⟨21, _⟩ => ⟨S24576x2048, .f32⟩
  | .hbm, ⟨22, _⟩ => ⟨S1x2048, .f32⟩
  | .hbm, ⟨23, _⟩ => ⟨S24576x2048, .f32⟩
  | .hbm, ⟨24, _⟩ => ⟨S24576x2048, .f32⟩
  | .hbm, ⟨25, _⟩ => ⟨S2048x5632, .f32⟩
  | .hbm, ⟨26, _⟩ => ⟨S2048x5632, .f32⟩
  | .hbm, ⟨27, _⟩ => ⟨S5632x2048, .f32⟩
  | .hbm, ⟨28, _⟩ => ⟨S24576x5632, .f32⟩
  | .hbm, ⟨29, _⟩ => ⟨S24576x5632, .f32⟩
  | .hbm, ⟨30, _⟩ => ⟨S24576x5632, .f32⟩
  | .hbm, ⟨31, _⟩ => ⟨S_, .f32⟩
  | .hbm, ⟨32, _⟩ => ⟨S24576x5632, .f32⟩
  | .hbm, ⟨33, _⟩ => ⟨S24576x5632, .f32⟩
  | .hbm, ⟨34, _⟩ => ⟨S_, .f32⟩
  | .hbm, ⟨35, _⟩ => ⟨S24576x5632, .f32⟩
  | .hbm, ⟨36, _⟩ => ⟨S24576x5632, .f32⟩
  | .hbm, ⟨37, _⟩ => ⟨S24576x5632, .f32⟩
  | .hbm, ⟨38, _⟩ => ⟨S24576x5632, .f32⟩
  | .hbm, ⟨39, _⟩ => ⟨S24576x5632, .f32⟩
  | .hbm, ⟨40, _⟩ => ⟨S24576x2048, .f32⟩
  | .hbm, ⟨41, _⟩ => ⟨S2048, .f32⟩
  | .hbm, ⟨42, _⟩ => ⟨S24576x2048, .f32⟩
  | .hbm, ⟨43, _⟩ => ⟨S_, .f32⟩
  | .hbm, ⟨44, _⟩ => ⟨S24576, .f32⟩
  | .hbm, ⟨45, _⟩ => ⟨S24576x1, .f32⟩
  | .hbm, ⟨46, _⟩ => ⟨S_, .f32⟩
  | .hbm, ⟨47, _⟩ => ⟨S24576x1, .f32⟩
  | .hbm, ⟨48, _⟩ => ⟨S24576x1, .f32⟩
  | .hbm, ⟨49, _⟩ => ⟨S_, .f32⟩
  | .hbm, ⟨50, _⟩ => ⟨S24576x1, .f32⟩
  | .hbm, ⟨51, _⟩ => ⟨S24576x1, .f32⟩
  | .hbm, ⟨52, _⟩ => ⟨S24576x1, .f32⟩
  | .hbm, ⟨53, _⟩ => ⟨S24576x2048, .f32⟩
  | .hbm, ⟨54, _⟩ => ⟨S24576x2048, .f32⟩
  | .hbm, ⟨55, _⟩ => ⟨S1x2048, .f32⟩
  | .hbm, ⟨56, _⟩ => ⟨S24576x2048, .f32⟩
  | .hbm, ⟨57, _⟩ => ⟨S24576x2048, .f32⟩
  | .hbm, ⟨58, _⟩ => ⟨S_, .f32⟩
  | .hbm, ⟨59, _⟩ => ⟨S24576x2048, .f32⟩
  | .hbm, ⟨60, _⟩ => ⟨S24576x2048, .f32⟩
  | .hbm, ⟨61, _⟩ => ⟨S24576x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Kernel2.lean ====
abbrev S24576x2048 : Shape := ⟨2, ![24576, 2048]⟩
abbrev S1x2048 : Shape := ⟨2, ![1, 2048]⟩
abbrev S2048x5632 : Shape := ⟨2, ![2048, 5632]⟩
abbrev S5632x2048 : Shape := ⟨2, ![5632, 2048]⟩
abbrev S8192x2048 : Shape := ⟨2, ![8192, 2048]⟩
abbrev S16384x2048 : Shape := ⟨2, ![16384, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S24576x2048, .f32⟩
  | .hbm, ⟨1, _⟩ => ⟨S1x2048, .f32⟩
  | .hbm, ⟨2, _⟩ => ⟨S1x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S8192x2048, .f32⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![48, 11], ![false, false]⟩

def k0_cond2 (i : grid0.Coords) : BitVec 1 :=
  let arg1 : BitVec 32 := BitVec.ofNat 32 (i 1).val
  let c10_i32 : BitVec 32 := 10#32
  let v23 : BitVec 1 := Scalar.cmpi .eq arg1 c10_i32
  let true_16 : BitVec 1 := 1#1
  let c0_i32 : BitVec 32 := 0#32
  let arg0 : BitVec 32 := BitVec.ofNat 32 (i 0).val
  let c16_i32 : BitVec 32 := 16#32
  let v0 : BitVec 1 := Scalar.cmpi .sge arg0 c16_i32
  let v1 : BitVec 32 := Scalar.extui v0
  let v2 : BitVec 32 := Scalar.addi c0_i32 v1
  let c0_i32_15 : BitVec 32 := 0#32
  let v24 : BitVec 1 := Scalar.cmpi .eq v2 c0_i32_15
  let v25 : BitVec 1 := Scalar.andi true_16 v24
  let v26 : BitVec 1 := Scalar.andi v23 v25
  let v27 : BitVec 32 := Scalar.extui v26
  let c0_i32_17 : BitVec 32 := 0#32
  let v28 : BitVec 1 := Scalar.cmpi .ne v27 c0_i32_17
  v28

def k0_cond3 (i : grid0.Coords) : BitVec 1 :=
  let arg1 : BitVec 32 := BitVec.ofNat 32 (i 1).val
  let c10_i32 : BitVec 32 := 10#32
  let v23 : BitVec 1 := Scalar.cmpi .eq arg1 c10_i32
  let true_18 : BitVec 1 := 1#1
  let c0_i32 : BitVec 32 := 0#32
  let arg0 : BitVec 32 := BitVec.ofNat 32 (i 0).val
  let c16_i32 : BitVec 32 := 16#32
  let v0 : BitVec 1 := Scalar.cmpi .sge arg0 c16_i32
  let v1 : BitVec 32 := Scalar.extui v0
  let v2 : BitVec 32 := Scalar.addi c0_i32 v1
  let c1_i32 : BitVec 32 := 1#32
  let v29 : BitVec 1 := Scalar.cmpi .eq v2 c1_i32
  let v30 : BitVec 1 := Scalar.andi true_18 v29
  let v31 : BitVec 1 := Scalar.andi v23 v30
  let v32 : BitVec 32 := Scalar.extui v31
  let c0_i32_19 : BitVec 32 := 0#32
  let v33 : BitVec 1 := Scalar.cmpi .ne v32 c0_i32_19
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c47_i32 : BitVec 32 := 47#32
  let v1 : BitVec 32 := Scalar.maxsi c0_i32_0 v0
  let v2 : BitVec 32 := Scalar.minsi c47_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S24576x2048 : Shape := ⟨2, ![24576, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S24576 : Shape := ⟨1, ![24576]⟩
abbrev S24576x1 : Shape := ⟨2, ![24576, 1]⟩
abbrev S24576x5632 : Shape := ⟨2, ![24576, 5632]⟩
abbrev S8192x2048 : Shape := ⟨2, ![8192, 2048]⟩
abbrev S16384x2048 : Shape := ⟨2, ![16384, 2048]⟩

abbrev nBuf : Space → Nat
  | .hbm => 62
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S1x2048, .f32⟩
  | .hbm, ⟨2, _⟩ => ⟨S1x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S2048, .f32⟩
  | .hbm, ⟨7, _⟩ => ⟨S24576x2048, .f32⟩
  | .hbm, ⟨8, _⟩ => ⟨S_, .f32⟩
  | .hbm, ⟨9, _⟩ => ⟨S24576, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S_, .f32⟩
  | .hbm, ⟨15, _⟩ => ⟨S24576x1, .f32⟩
  | .hbm, ⟨16, _⟩ => ⟨S24576x1, .f32⟩
  | .hbm, ⟨17, _⟩ => ⟨S24576x1, .f32⟩
  | .hbm, ⟨18, _⟩ => ⟨S24576x2048, .f32⟩
  | .hbm, ⟨19, _⟩ => ⟨S24576x2048, .f32⟩
  | .hbm, ⟨20, _⟩ => ⟨S1x2048, .f32⟩
  | .hbm, ⟨21, _⟩ => ⟨S24576x2048, .f32⟩
  | .hbm, ⟨22, _⟩ => ⟨S24576x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S24576x5632, .f32⟩
  | .hbm, ⟨27, _⟩ => ⟨S24576x5632, .f32⟩
  | .hbm, ⟨28, _⟩ => ⟨S24576x5632, .f32⟩
  | .hbm, ⟨29, _⟩ => ⟨S_, .f32⟩
  | .hbm, ⟨30, _⟩ => ⟨S24576x5632, .f32⟩
  | .hbm, ⟨31, _⟩ => ⟨S24576x5632, .f32⟩
  | .hbm, ⟨32, _⟩ => ⟨S_, .f32⟩
  | .hbm, ⟨33, _⟩ => ⟨S24576x5632, .f32⟩
  | .hbm, ⟨34, _⟩ => ⟨S24576x5632, .f32⟩
  | .hbm, ⟨35, _⟩ => ⟨S24576x5632, .f32⟩
  | .hbm, ⟨36, _⟩ => ⟨S24576x5632, .f32⟩
  | .hbm, ⟨37, _⟩ => ⟨S24576x5632, .f32⟩
  | .hbm, ⟨38, _⟩ => ⟨S24576x2048, .f32⟩
  | .hbm, ⟨39, _⟩ => ⟨S2048, .f32⟩
  | .hbm, ⟨40, _⟩ => ⟨S24576x2048, .f32⟩
  | .hbm, ⟨41, _⟩ => ⟨S_, .f32⟩
  | .hbm, ⟨42, _⟩ => ⟨S24576, .f32⟩
  | .hbm, ⟨43, _⟩ => ⟨S24576x1, .f32⟩
  | .hbm, ⟨44, _⟩ => ⟨S_, .f32⟩
  | .hbm, ⟨45, _⟩ => ⟨S24576x1, .f32⟩
  | .hbm, ⟨46, _⟩ => ⟨S24576x1, .f32⟩
  | .hbm, ⟨47, _⟩ => ⟨S_, .f32⟩
  | .hbm, ⟨48, _⟩ => ⟨S24576x1, .f32⟩
  | .hbm, ⟨49, _⟩ => ⟨S24576x1, .f32⟩
  | .hbm, ⟨50, _⟩ => ⟨S24576x1, .f32⟩
  | .hbm, ⟨51, _⟩ => ⟨S24576x2048, .f32⟩
  | .hbm, ⟨52, _⟩ => ⟨S24576x2048, .f32⟩
  | .hbm, ⟨53, _⟩ => ⟨S1x2048, .f32⟩
  | .hbm, ⟨54, _⟩ => ⟨S24576x2048, .f32⟩
  | .hbm, ⟨55, _⟩ => ⟨S24576x2048, .f32⟩
  | .hbm, ⟨56, _⟩ => ⟨S_, .f32⟩
  | .hbm, ⟨57, _⟩ => ⟨S24576x2048, .f32⟩
  | .hbm, ⟨58, _⟩ => ⟨S24576x2048, .f32⟩
  | .hbm, ⟨59, _⟩ => ⟨S24576x2048, .f32⟩
  | .hbm, ⟨60, _⟩ => ⟨S8192x2048, .f32⟩
  | .hbm, ⟨61, _⟩ => ⟨S16384x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Kernel5.lean ====
abbrev S24576x1024 : Shape := ⟨2, ![24576, 1024]⟩
abbrev S2048x2048 : Shape := ⟨2, ![2048, 2048]⟩
abbrev S24576x2048 : Shape := ⟨2, ![24576, 2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S24576x1024, .bf16⟩
  | .hbm, ⟨1, _⟩ => ⟨S24576x1024, .bf16⟩
  | .hbm, ⟨2, _⟩ => ⟨S2048x2048, .bf16⟩
  | .hbm, ⟨3, _⟩ => ⟨S24576x2048, .f32⟩
  | .hbm, ⟨4, _⟩ => ⟨S1x2048, .f32⟩
  | .hbm, ⟨5, _⟩ => ⟨S24576x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S24576x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S24576x1024 : Shape := ⟨2, ![24576, 1024]⟩
abbrev S2048x2048 : Shape := ⟨2, ![2048, 2048]⟩
abbrev S24576x2048 : Shape := ⟨2, ![24576, 2048]⟩
abbrev S1x2048 : Shape := ⟨2, ![1, 2048]⟩
abbrev S2048 : Shape := ⟨1, ![2048]⟩
abbrev S_ : Shape := ⟨0, ![]⟩
abbrev S24576 : Shape := ⟨1, ![24576]⟩
abbrev S24576x1 : Shape := ⟨2, ![24576, 1]⟩

abbrev nBuf : Space → Nat
  | .hbm => 27
  | .vmem => 0
  | .smem => 0
  | _ => 0

abbrev bufTy : (tb : Table) → Fin (tcTables nBuf tb) → BufTy
  | .hbm, ⟨0, _⟩ => ⟨S24576x1024, .bf16⟩
  | .hbm, ⟨1, _⟩ => ⟨S24576x1024, .bf16⟩
  | .hbm, ⟨2, _⟩ => ⟨S2048x2048, .bf16⟩
  | .hbm, ⟨3, _⟩ => ⟨S24576x2048, .f32⟩
  | .hbm, ⟨4, _⟩ => ⟨S1x2048, .f32⟩
  | .hbm, ⟨5, _⟩ => ⟨S24576x2048, .bf16⟩
  | .hbm, ⟨6, _⟩ => ⟨S24576x2048, .f32⟩
  | .hbm, ⟨7, _⟩ => ⟨S2048x2048, .f32⟩
  | .hbm, ⟨8, _⟩ => ⟨S24576x2048, .f32⟩
  | .hbm, ⟨9, _⟩ => ⟨S2048, .f32⟩
  | .hbm, ⟨10, _⟩ => ⟨S24576x2048, .f32⟩
  | .hbm, ⟨11, _⟩ => ⟨S_, .f32⟩
  | .hbm, ⟨12, _⟩ => ⟨S24576, .f32⟩
  | .hbm, ⟨13, _⟩ => ⟨S24576x1, .f32⟩
  | .hbm, ⟨14, _⟩ => ⟨S_, .f32⟩
  | .hbm, ⟨15, _⟩ => ⟨S24576x1, .f32⟩
  | .hbm, ⟨16, _⟩ => ⟨S24576x1, .f32⟩
  | .hbm, ⟨17, _⟩ => ⟨S_, .f32⟩
  | .hbm, ⟨18, _⟩ => ⟨S24576x1, .f32⟩
  | .hbm, ⟨19, _⟩ => ⟨S24576x1, .f32⟩
  | .hbm, ⟨20, _⟩ => ⟨S24576x1, .f32⟩
  | .hbm, ⟨21, _⟩ => ⟨S24576x2048, .f32⟩
  | .hbm, ⟨22, _⟩ => ⟨S24576x2048, .f32⟩
  | .hbm, ⟨23, _⟩ => ⟨S1x2048, .f32⟩
  | .hbm, ⟨24, _⟩ => ⟨S24576x2048, .f32⟩
  | .hbm, ⟨25, _⟩ => ⟨S24576x2048, .f32⟩
  | .hbm, ⟨26, _⟩ => ⟨S24576x2048, .f32⟩
  | _, _ => ⟨S24576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel4.lean ====
abbrev S24576x2048 : Shape := ⟨2, ![24576, 2048]⟩
abbrev S1x2048 : Shape := ⟨2, ![1, 2048]⟩
abbrev S2048x7184 : Shape := ⟨2, ![2048, 7184]⟩
abbrev S1x7168 : Shape := ⟨2, ![1, 7168]⟩
abbrev S2048x128 : Shape := ⟨2, ![2048, 128]⟩
abbrev S1x128 : Shape := ⟨2, ![1, 128]⟩
abbrev S24576x7168 : Shape := ⟨2, ![24576, 7168]⟩
abbrev S128x24576 : Shape := ⟨2, ![128, 24576]⟩
abbrev S1024x2048 : Shape := ⟨2, ![1024, 2048]⟩
abbrev S2048x1792 : Shape := ⟨2, ![2048, 1792]⟩
abbrev S1x1792 : Shape := ⟨2, ![1, 1792]⟩
abbrev S1024x1792 : Shape := ⟨2, ![1024, 1792]⟩
abbrev S128x1024 : Shape := ⟨2, ![128, 1024]⟩
abbrev S1024 : Shape := ⟨1, ![1024]⟩
abbrev S1024x1 : Shape := ⟨2, ![1024, 1]⟩
abbrev S1024x128 : Shape := ⟨2, ![1024, 128]⟩

abbrev nBuf : Space → Nat
  | .hbm => 8
  | .vmem => 14
  | .smem => 0
  | _ => 0

abbrev bufTy : (tb : Table) → Fin (tcTables nBuf tb) → BufTy
  | .hbm, ⟨0, _⟩ => ⟨S24576x2048, .f32⟩
  | .hbm, ⟨1, _⟩ => ⟨S1x2048, .f32⟩
  | .hbm, ⟨2, _⟩ => ⟨S2048x7184, .bf16⟩
  | .hbm, ⟨3, _⟩ => ⟨S1x7168, .f32⟩
  | .hbm, ⟨4, _⟩ => ⟨S2048x128, .bf16⟩
  | .hbm, ⟨5, _⟩ => ⟨S1x128, .f32⟩
  | .hbm, ⟨6, _⟩ => ⟨S24576x7168, .bf16⟩
  | .hbm, ⟨7, _⟩ => ⟨S128x24576, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1792, .bf16⟩
  | .local _ .vmem, ⟨4, _⟩ => ⟨S2048x1792, .bf16⟩
  | .local _ .vmem, ⟨5, _⟩ => ⟨S1x1792, .f32⟩
  | .local _ .vmem, ⟨6, _⟩ => ⟨S1x1792, .f32⟩
  | .local _ .vmem, ⟨7, _⟩ => ⟨S2048x128, .bf16⟩
  | .local _ .vmem, ⟨8, _⟩ => ⟨S1x128, .f32⟩
  | .local _ .vmem, ⟨9, _⟩ => ⟨S1024x1792, .bf16⟩
  | .local _ .vmem, ⟨10, _⟩ => ⟨S1024x1792, .bf16⟩
  | .local _ .vmem, ⟨11, _⟩ => ⟨S128x1024, .f32⟩
  | .local _ .vmem, ⟨12, _⟩ => ⟨S128x1024, .f32⟩
  | .local _ .vmem, ⟨13, _⟩ => ⟨S1024x2048, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![24, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1792 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference4Ideal.lean ====
abbrev S24576x2048 : Shape := ⟨2, ![24576, 2048]⟩
abbrev S1x2048 : Shape := ⟨2, ![1, 2048]⟩
abbrev S2048x7184 : Shape := ⟨2, ![2048, 7184]⟩
abbrev S1x7168 : Shape := ⟨2, ![1, 7168]⟩
abbrev S2048x128 : Shape := ⟨2, ![2048, 128]⟩
abbrev S1x128 : Shape := ⟨2, ![1, 128]⟩
abbrev S2048 : Shape := ⟨1, ![2048]⟩
abbrev S_ : Shape := ⟨0, ![]⟩
abbrev S24576 : Shape := ⟨1, ![24576]⟩
abbrev S24576x1 : Shape := ⟨2, ![24576, 1]⟩
abbrev S2048x7168 : Shape := ⟨2, ![2048, 7168]⟩
abbrev S24576x7168 : Shape := ⟨2, ![24576, 7168]⟩
abbrev S24576x128 : Shape := ⟨2, ![24576, 128]⟩
abbrev S128x24576 : Shape := ⟨2, ![128, 24576]⟩

abbrev nBuf : Space → Nat
  | .hbm => 34
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S1x2048, .f32⟩
  | .hbm, ⟨2, _⟩ => ⟨S2048x7184, .bf16⟩
  | .hbm, ⟨3, _⟩ => ⟨S1x7168, .f32⟩
  | .hbm, ⟨4, _⟩ => ⟨S2048x128, .bf16⟩
  | .hbm, ⟨5, _⟩ => ⟨S1x128, .f32⟩
  | .hbm, ⟨6, _⟩ => ⟨S2048, .f32⟩
  | .hbm, ⟨7, _⟩ => ⟨S24576x2048, .f32⟩
  | .hbm, ⟨8, _⟩ => ⟨S_, .f32⟩
  | .hbm, ⟨9, _⟩ => ⟨S24576, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S_, .f32⟩
  | .hbm, ⟨15, _⟩ => ⟨S24576x1, .f32⟩
  | .hbm, ⟨16, _⟩ => ⟨S24576x1, .f32⟩
  | .hbm, ⟨17, _⟩ => ⟨S24576x1, .f32⟩
  | .hbm, ⟨18, _⟩ => ⟨S24576x2048, .f32⟩
  | .hbm, ⟨19, _⟩ => ⟨S24576x2048, .f32⟩
  | .hbm, ⟨20, _⟩ => ⟨S1x2048, .f32⟩
  | .hbm, ⟨21, _⟩ => ⟨S24576x2048, .f32⟩
  | .hbm, ⟨22, _⟩ => ⟨S24576x2048, .f32⟩
  | .hbm, ⟨23, _⟩ => ⟨S2048x7168, .bf16⟩
  | .hbm, ⟨24, _⟩ => ⟨S2048x7168, .f32⟩
  | .hbm, ⟨25, _⟩ => ⟨S24576x7168, .f32⟩
  | .hbm, ⟨26, _⟩ => ⟨S24576x7168, .f32⟩
  | .hbm, ⟨27, _⟩ => ⟨S24576x7168, .f32⟩
  | .hbm, ⟨28, _⟩ => ⟨S2048x128, .f32⟩
  | .hbm, ⟨29, _⟩ => ⟨S24576x128, .f32⟩
  | .hbm, ⟨30, _⟩ => ⟨S24576x128, .f32⟩
  | .hbm, ⟨31, _⟩ => ⟨S24576x128, .f32⟩
  | .hbm, ⟨32, _⟩ => ⟨S24576x7168, .bf16⟩
  | .hbm, ⟨33, _⟩ => ⟨S128x24576, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.Forget.Runs.lean ====
/- What the kernel's run is stated over: the entry contents, the windows' blocks, the buffers at a grid point. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Forget
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 3 rfl).trans ((hA c 3).trans (V_main_arg0 m c)),
      (Pipeline.RDat.FramePost.arr_in h c 8 rfl).trans ((hA c 8).trans (V_main_arg1 m c)),
      (Pipeline.RDat.FramePost.arr_in h c 5 rfl).trans ((hA c 5).trans (V_main_arg2 m c)),
      (Pipeline.RDat.FramePost.arr_in h c 7 rfl).trans ((hA c 7).trans (V_main_arg3 m c)),
      (Pipeline.RDat.FramePost.arr_in h c 9 rfl).trans ((hA c 9).trans (V_main_arg4 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x4096x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x1x1x32x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4096x256 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S4096x256 .bf16 := Memref.whole cc0_scratch0
abbrev scM0_1 : Memref sig .tc .vmem S32x256x128 .bf16 := Memref.whole cc0_scratch1
abbrev scM0_2 : Memref sig .tc .vmem S4x32x128 .f32 := Memref.whole cc0_scratch2
abbrev scM0_3 : Memref sig .tc .vmem S4096x256 .f32 := Memref.whole cc0_scratch3
abbrev scM0_4 : Memref sig .tc .vmem S2x256x384 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Forget

end
-- ==== Proof.Forget.RunA.lean ====
/- The kernel's body at a grid point, run whole: it returns its buffers, the output's contents left unnamed. -/
module

public import proofs.«01_k».proof.Proof.Forget.Runs

@[expose] public section

-- membership in a rectangle of production extents (`View.cover_of_tiled`): the elaborator's structural look
-- recurses once per coordinate of the long axes
set_option maxRecDepth 16384

noncomputable section

namespace Cert.Kernel.Forget
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (10) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S5x256 .f32) (harg6 : arg6.IsWhole) (arg7 : Memref sig .tc .vmem S5x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S4x1x1x32x128 .f32) (harg10 : arg10.IsWhole) (arg11 : Memref sig .tc .vmem S1x256 .f32) (harg11 : arg11.IsWhole) (arg12 : Memref sig .tc .vmem S1x4096x256 .bf16) (harg12 : arg12.IsWhole) (arg13 : Memref sig .tc .vmem S4096x256 .bf16) (harg13 : arg13.IsWhole) (arg14 : Memref sig .tc .vmem S32x256x128 .bf16) (harg14 : arg14.IsWhole) (arg15 : Memref sig .tc .vmem S4x32x128 .f32) (harg15 : arg15.IsWhole) (arg16 : Memref sig .tc .vmem S4096x256 .f32) (harg16 : arg16.IsWhole) (arg17 : Memref sig .tc .vmem S2x256x384 .f32) (harg17 : arg17.IsWhole)
    (x0 : Vec F S1x4096x256 .bf16) (x1 : Vec F S1x4096x256 .bf16) (x2 : Vec F S1x4096x256 .bf16) (x3 : Vec F S1x4096x256 .bf16) (x4 : Vec F S5x256 .f32) (x5 : Vec F S5x256 .f32) (x6 : Vec F S1x256 .f32) (x7 : Vec F S1x256 .f32) (x8 : Vec F S4x1x1x32x128 .f32) (x9 : Vec F S1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_mlstm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_mlstm_eq_skeleton]; unfold cc0_mlstm_skel
    simp only [k0_part16_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Forget

end
-- ==== Proof.Forget.Frame.lean ====
/- The kernel runs, leaves its arguments as they were and every counter at zero; what it writes is not named here. -/
module

public import proofs.«01_k».proof.Proof.Forget.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Forget
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (10): nothing reads what the kernel leaves in them, so nothing
    of it is named (Lib/Pipeline/Dat.lean `Dat.toRForget`). -/
def forgets0 : Fin 11 → Bool := fun w => w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: the claim's statement, at any float values:
    `theorem Cert.Proof.claim : Cert.Claim := ⟨Cert.Kernel.Forget.facts, fun m ρ _ => Cert.Kernel.Forget.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Forget

end
-- ==== Proof.Mlstm.Chunk.lean ====
/- One chunk step of the recurrence as one function: the four places of the kernel where it is written out
(two loops, two directions) compute it, with their mask and their last lane. -/
module

public import proofs.«01_k».proof.Proof.Gen.KernelIdeal.Skeleton

@[expose] public section

set_option maxRecDepth 16384

noncomputable section

namespace Cert.KernelIdeal.Mlstm

open Idealize.ShloMosaic Idealize.ShloMosaic.TcCoe
open Cert.KernelIdeal.Gen

variable {F : FTy → Type} [FloatOps F]

section
variable (rows cols : IVec S128x128 32) (lanes : IVec S1x128 32) (mask : IVec S128x128 1) (last : IVec S1x128 32)
  (q : Vec F S128x256 .bf16) (kt : Vec F S1x256x128 .bf16) (v : Vec F S1x128x256 .bf16)
  (b r : Vec F S1x1x128 .f32) (c : Vec F S1x256x384 .f32) (m : FVec F S1x1 .f32)

/-- The chunk's outputs. -/
def chH : FVec F S128x256 .f32 :=
  k0_pay93 lanes m (k0_pay77 kt) (k0_pay78 (k0_pay113 (F := F)) v) (k0_pay79 b) (k0_pay80 r) (k0_pay81 rows cols b)
    (k0_pay83 rows cols mask b r) (k0_pay86 q kt c) (k0_pay87 rows cols mask q kt b r c) last

/-- The stabiliser after the chunk. -/
def chM : FVec F S1x1 .f32 := k0_pay94 lanes m (k0_pay79 b) (k0_pay80 r) last

/-- The state after the chunk. -/
def chC : FVec F S1x256x384 .f32 :=
  k0_pay118 (k0_pay95 lanes m (k0_pay77 kt) (k0_pay78 (k0_pay113 (F := F)) v) (k0_pay79 b) (k0_pay80 r) (k0_pay84 c)
    (k0_pay87 rows cols mask q kt b r c) last)

/-- The mask of the positions up to one. -/
abbrev upTo : IVec S128x128 1 := cmpi .sle cols rows
/-- The mask of the positions from one on. -/
abbrev onFrom : IVec S128x128 1 := cmpi .sge cols rows
abbrev lane127 : IVec S1x128 32 := broadcast S1x128 127#32
abbrev lane0 : IVec S1x128 32 := broadcast S1x128 0#32

set_option maxHeartbeats 1000000 in
theorem h_fwd2 : k0_pay31 (k0_pay26 lanes m (k0_pay9 kt) (k0_pay10 (k0_pay113 (F := F)) v) (k0_pay11 b) (k0_pay12 r)
      (k0_pay13 rows cols b) (k0_pay15 rows cols b r) (k0_pay18 q kt c) (k0_pay19 q kt c) (k0_pay20 rows cols b r))
    = k0_pay31 (chH rows cols lanes (upTo rows cols) lane127 q kt v b r c m) := rfl

theorem m_fwd2 : k0_pay27 lanes m (k0_pay11 b) (k0_pay12 r) = chM lanes lane127 b r m := rfl

theorem c_fwd2 : k0_pay30
      (k0_pay25 lanes (k0_pay9 kt) (k0_pay10 (k0_pay113 (F := F)) v) (k0_pay11 b) (k0_pay12 r) (k0_pay18 q kt c)
        (k0_pay20 rows cols b r))
      (k0_pay28 lanes m (k0_pay11 b) (k0_pay12 r) (k0_pay16 c)) (k0_pay29 lanes m (k0_pay11 b) (k0_pay12 r))
    = chC rows cols lanes (upTo rows cols) lane127 q kt v b r c m := rfl

theorem h_bwd2 : k0_pay117
      (k0_pay50 m (k0_pay32 rows cols) (k0_pay37 rows cols b) (k0_pay38 rows cols b) (k0_pay39 r))
      (k0_pay51 m (k0_pay32 rows cols) q (k0_pay33 kt) (k0_pay37 rows cols b) (k0_pay38 rows cols b) (k0_pay39 r) c)
      (k0_pay52 lanes m (k0_pay32 rows cols) q (k0_pay33 kt) (k0_pay34 (k0_pay113 (F := F)) v) (k0_pay35 b) (k0_pay36 r)
        (k0_pay37 rows cols b) (k0_pay38 rows cols b) (k0_pay39 r) c)
    = k0_pay31 (chH rows cols lanes (onFrom rows cols) lane0 q kt v b r c m) := rfl

theorem m_bwd2 : k0_pay115 m (k0_pay44 lanes (k0_pay35 b)) (k0_pay46 lanes (k0_pay35 b) (k0_pay36 r))
    = chM lanes lane0 b r m := rfl

theorem c_bwd2 : k0_pay116 m (k0_pay42 c) (k0_pay44 lanes (k0_pay35 b)) (k0_pay46 lanes (k0_pay35 b) (k0_pay36 r))
      (k0_pay48 lanes (k0_pay32 rows cols) q (k0_pay33 kt) (k0_pay34 (k0_pay113 (F := F)) v) (k0_pay35 b) (k0_pay36 r)
        (k0_pay38 rows cols b) (k0_pay39 r) c)
    = chC rows cols lanes (onFrom rows cols) lane0 q kt v b r c m := rfl

theorem h_fwd3 : k0_pay70 lanes m (k0_pay53 kt) (k0_pay54 (k0_pay113 (F := F)) v) (k0_pay55 b) (k0_pay56 r)
      (k0_pay57 rows cols b) (k0_pay59 rows cols b r) (k0_pay62 q kt c) (k0_pay63 q kt c) (k0_pay64 rows cols b r)
    = chH rows cols lanes (upTo rows cols) lane127 q kt v b r c m := rfl

theorem m_fwd3 : k0_pay71 lanes m (k0_pay55 b) (k0_pay56 r) = chM lanes lane127 b r m := rfl

theorem c_fwd3 : k0_pay74
      (k0_pay69 lanes (k0_pay53 kt) (k0_pay54 (k0_pay113 (F := F)) v) (k0_pay55 b) (k0_pay56 r) (k0_pay62 q kt c)
        (k0_pay64 rows cols b r))
      (k0_pay72 lanes m (k0_pay55 b) (k0_pay56 r) (k0_pay60 c)) (k0_pay73 lanes m (k0_pay55 b) (k0_pay56 r))
    = chC rows cols lanes (upTo rows cols) lane127 q kt v b r c m := rfl

theorem pay75_eq (x y : Vec F S128x256 .f32) (g : Vec F S1x256 .f32) (o : Vec F S1x128x256 .bf16) :
    k0_pay75 x y g o = k0_pay119 x y g o := rfl

end

end Cert.KernelIdeal.Mlstm

end
-- ==== Proof.Mlstm.Math.lean ====
/- The chunk step of the recurrence over the extended reals: the kernel's stabilised form of it and the
plain form are the same function. -/
module

public import Idealize.ShloMosaic.PureOps.Ideal
public import Mathlib.Data.EReal.Operations

@[expose] public section

noncomputable section

namespace Cert.Proof.Math

open Idealize.ShloMosaic

theorem exp_bot : Ideal.exp ⊥ = 0 := rfl
theorem exp_top : Ideal.exp ⊤ = ⊤ := rfl
theorem exp_coe (r : ℝ) : Ideal.exp (r : EReal) = ((Real.exp r : ℝ) : EReal) := rfl

theorem exp_nonneg (x : EReal) : 0 ≤ Ideal.exp x := by
  induction x using EReal.rec with
  | bot => exact le_refl _
  | top => exact le_top
  | coe r => rw [exp_coe]; exact_mod_cast (Real.exp_pos r).le

/-- Differences along a chain `x ≤ y ≤ z` compose under the exponential, infinities included. -/
theorem exp_chain {x y z : EReal} (h₁ : x ≤ y) (h₂ : y ≤ z) :
    Ideal.exp (x - y) * Ideal.exp (y - z) = Ideal.exp (x - z) := by
  induction x using EReal.rec with
  | bot => simp [exp_bot, sub_eq_add_neg, EReal.bot_add]
  | top =>
    obtain rfl : y = ⊤ := top_le_iff.mp h₁
    obtain rfl : z = ⊤ := top_le_iff.mp h₂
    simp [exp_bot]
  | coe x =>
    induction y using EReal.rec with
    | bot => exact absurd h₁ (by simp)
    | top =>
      obtain rfl : z = ⊤ := top_le_iff.mp h₂
      simp [exp_bot]
    | coe y =>
      induction z using EReal.rec with
      | bot => exact absurd h₂ (by simp)
      | top => simp [exp_bot]
      | coe z =>
        rw [← EReal.coe_sub, ← EReal.coe_sub, ← EReal.coe_sub, exp_coe, exp_coe, exp_coe, ← EReal.coe_mul,
          ← Real.exp_add]
        congr 2; ring

theorem exp_sub_ne_top {y z : EReal} (h : y ≤ z) : Ideal.exp (y - z) ≠ ⊤ := by
  induction y using EReal.rec with
  | bot => simp [exp_bot, sub_eq_add_neg, EReal.bot_add]
  | top =>
    obtain rfl : z = ⊤ := top_le_iff.mp h
    simp [exp_bot]
  | coe y =>
    induction z using EReal.rec with
    | bot => exact absurd h (by simp)
    | top => simp [exp_bot]
    | coe z => rw [← EReal.coe_sub, exp_coe]; exact EReal.coe_ne_top _

/-- A finite nonnegative factor goes through a sum. -/
theorem mul_sum {ι : Type} (s : Finset ι) (f : ι → EReal) {c : EReal} (h0 : 0 ≤ c) (hc : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 hc, ih]

variable {T D E : Type} [Fintype T] [Fintype D] [Fintype E]

/-- The largest of finitely many values (`⊥` of none). -/
def top (f : T → EReal) : EReal := Finset.univ.sup f

theorem le_top (f : T → EReal) (t : T) : f t ≤ top f := Finset.le_sup (f := f) (Finset.mem_univ t)

theorem fold_max (f : T → EReal) : Finset.univ.fold max ⊥ f = top f := rfl

theorem top_equiv (σ : T ≃ T) (f : T → EReal) : top (fun t => f (σ t)) = top f := by
  unfold top
  apply le_antisymm
  · exact Finset.sup_le fun t _ => Finset.le_sup (f := f) (Finset.mem_univ (σ t))
  · refine Finset.sup_le fun t _ => ?_
    have := Finset.le_sup (f := fun t => f (σ t)) (Finset.mem_univ (σ.symm t))
    simpa using this

/-! ### The step, plainly -/

/-- The log decay summed up to a position (of those before it in the order `P`). -/
def cum (P : T → T → Bool) (lf : T → EReal) (t : T) : EReal := ∑ s, if P t s then lf s else 0

/-- The log weight of position `s` at position `t`. -/
def ldec (P : T → T → Bool) (b i : T → EReal) (t s : T) : EReal := if P t s then b t - b s + i s else ⊥

/-- The stabiliser of position `t`. -/
def stab (P : T → T → Bool) (b i : T → EReal) (m : EReal) (t : T) : EReal := max (b t + m) (top (ldec P b i t))

/-- The numerator (the denominator is its column of ones). -/
def numer (P : T → T → Bool) (b i : T → EReal) (q : T → D → EReal) (k : T → D → EReal) (v : T → E → EReal)
    (c : D → E → EReal) (m : EReal) (t : T) (e : E) : EReal :=
  Ideal.exp (b t + m - stab P b i m t) * (∑ d, c d e * q t d)
    + ∑ s, ((∑ d, q t d * k s d) * Ideal.exp (ldec P b i t s - stab P b i m t)) * v s e

/-- The log weight of position `s` in the state after the chunk. -/
def glog (last : T) (b i : T → EReal) (s : T) : EReal := b last - b s + i s

/-- The stabiliser after the chunk. -/
def mnext (last : T) (b i : T → EReal) (m : EReal) : EReal := max (b last + m) (top (glog last b i))

/-- The state after the chunk. -/
def cnext (last : T) (b i : T → EReal) (k : T → D → EReal) (v : T → E → EReal) (c : D → E → EReal) (m : EReal)
    (d : D) (e : E) : EReal :=
  Ideal.exp (b last + m - mnext last b i m) * c d e
    + ∑ s, (Ideal.exp (glog last b i s - mnext last b i m) * v s e) * k s d

/-! ### The step as the kernel computes it -/

theorem ldec_eq (P : T → T → Bool) (b i r : T → EReal) (hr : ∀ s, r s = i s - b s) (t s : T) :
    (if P t s then b t + r s else ⊥) = ldec P b i t s := by
  unfold ldec; rw [hr, sub_eq_add_neg, sub_eq_add_neg, add_assoc, add_comm (i s)]

theorem glog_eq (last : T) (b i r : T → EReal) (hr : ∀ s, r s = i s - b s) (s : T) :
    b last + r s = glog last b i s := by
  unfold glog; rw [hr, sub_eq_add_neg, sub_eq_add_neg, add_assoc, add_comm (i s)]

theorem numer_eq (P : T → T → Bool) (b i : T → EReal) (q : T → D → EReal) (k : T → D → EReal) (v : T → E → EReal)
    (c : D → E → EReal) (m : EReal) (t : T) (e : E) :
    Ideal.exp (b t + m - stab P b i m t) * (∑ d, q t d * c d e)
      + Ideal.exp (top (ldec P b i t) - stab P b i m t)
        * ∑ s, ((∑ d, q t d * k s d) * Ideal.exp (ldec P b i t s - top (ldec P b i t))) * v s e
    = numer P b i q k v c m t e := by
  unfold numer
  have h2 : top (ldec P b i t) ≤ stab P b i m t := le_max_right _ _
  congr 1
  · simp only [mul_comm]
  · rw [mul_sum _ _ (exp_nonneg _) (exp_sub_ne_top h2)]
    refine Finset.sum_congr rfl fun s _ => ?_
    rw [← exp_chain (le_top (ldec P b i t) s) h2]
    ac_rfl

theorem cnext_eq (last : T) (b i : T → EReal) (k : T → D → EReal) (v : T → E → EReal) (c : D → E → EReal)
    (m : EReal) (d : D) (e : E) :
    Ideal.exp (b last + m - mnext last b i m) * c d e
      + Ideal.exp (top (glog last b i) - mnext last b i m)
        * ∑ s, (k s d * Ideal.exp (glog last b i s - top (glog last b i))) * v s e
    = cnext last b i k v c m d e := by
  unfold cnext
  have h2 : top (glog last b i) ≤ mnext last b i m := le_max_right _ _
  congr 1
  rw [mul_sum _ _ (exp_nonneg _) (exp_sub_ne_top h2)]
  refine Finset.sum_congr rfl fun s _ => ?_
  rw [← exp_chain (le_top (glog last b i) s) h2]
  ac_rfl

/-! ### The step under a renaming of the positions -/

theorem cum_equiv (σ : T ≃ T) (P P' : T → T → Bool) (hP : ∀ t s, P' t s = P (σ t) (σ s)) (lf : T → EReal) (t : T) :
    cum P' (fun s => lf (σ s)) t = cum P lf (σ t) := by
  unfold cum; simp only [hP]
  exact Equiv.sum_comp σ (fun s => if P (σ t) s then lf s else 0)

theorem ldec_equiv (σ : T ≃ T) (P P' : T → T → Bool) (hP : ∀ t s, P' t s = P (σ t) (σ s)) (b i : T → EReal) (t s : T) :
    ldec P' (fun s => b (σ s)) (fun s => i (σ s)) t s = ldec P b i (σ t) (σ s) := by
  unfold ldec; simp only [hP]

theorem stab_equiv (σ : T ≃ T) (P P' : T → T → Bool) (hP : ∀ t s, P' t s = P (σ t) (σ s)) (b i : T → EReal)
    (m : EReal) (t : T) :
    stab P' (fun s => b (σ s)) (fun s => i (σ s)) m t = stab P b i m (σ t) := by
  unfold stab
  rw [show ldec P' (fun s => b (σ s)) (fun s => i (σ s)) t = fun s => ldec P b i (σ t) (σ s) from
    funext fun s => ldec_equiv σ P P' hP b i t s, top_equiv]

theorem numer_equiv (σ : T ≃ T) (P P' : T → T → Bool) (hP : ∀ t s, P' t s = P (σ t) (σ s)) (b i : T → EReal)
    (q k : T → D → EReal) (v : T → E → EReal) (c : D → E → EReal) (m : EReal) (t : T) (e : E) :
    numer P' (fun s => b (σ s)) (fun s => i (σ s)) (fun s => q (σ s)) (fun s => k (σ s)) (fun s => v (σ s)) c m t e
      = numer P b i q k v c m (σ t) e := by
  unfold numer
  rw [stab_equiv σ P P' hP]
  simp only [ldec_equiv σ P P' hP]
  congr 1
  exact Equiv.sum_comp σ
    (fun s => (∑ d, q (σ t) d * k s d) * Ideal.exp (ldec P b i (σ t) s - stab P b i m (σ t)) * v s e)

theorem mnext_equiv (σ : T ≃ T) (last last' : T) (hl : σ last' = last) (b i : T → EReal) (m : EReal) :
    mnext last' (fun s => b (σ s)) (fun s => i (σ s)) m = mnext last b i m := by
  subst hl
  unfold mnext
  rw [show glog last' (fun s => b (σ s)) (fun s => i (σ s)) = fun s => glog (σ last') b i (σ s) from rfl, top_equiv]

theorem cnext_equiv (σ : T ≃ T) (last last' : T) (hl : σ last' = last) (b i : T → EReal)
    (k : T → D → EReal) (v : T → E → EReal) (c : D → E → EReal) (m : EReal) (d : D) (e : E) :
    cnext last' (fun s => b (σ s)) (fun s => i (σ s)) (fun s => k (σ s)) (fun s => v (σ s)) c m d e
      = cnext last b i k v c m d e := by
  unfold cnext
  rw [mnext_equiv σ last last' hl]
  subst hl
  congr 1
  exact Equiv.sum_comp σ (fun s => Ideal.exp (glog (σ last') b i s - mnext (σ last') b i m) * v s e * k s d)

/-! ### The log of the forget gate -/

theorem log1p_exp_neg (x : EReal) : ∃ r : ℝ, Ideal.log1p (Ideal.exp (-(max x (-x)))) = (r : EReal) := by
  have key : ∃ r : ℝ, 0 ≤ r ∧ Ideal.exp (-(max x (-x))) = (r : EReal) := by
    induction x using EReal.rec with
    | bot => exact ⟨0, le_refl _, by simp [exp_bot]⟩
    | top => exact ⟨0, le_refl _, by simp [exp_bot]⟩
    | coe x =>
      refine ⟨Real.exp (-(max x (-x))), (Real.exp_pos _).le, ?_⟩
      rw [← EReal.coe_neg, ← EReal.coe_strictMono.monotone.map_max, ← EReal.coe_neg, exp_coe]
  obtain ⟨r, h0, h⟩ := key
  refine ⟨Real.log (1 + r), ?_⟩
  rw [h]
  unfold Ideal.log1p
  rw [show (1 : EReal) + (r : EReal) = ((1 + r : ℝ) : EReal) by push_cast; rfl]
  exact if_neg (by linarith)

/-- The log-sigmoid, as the kernel computes it. -/
def logsig (x : EReal) : EReal := min x 0 - Ideal.log1p (Ideal.exp (-(max x (-x))))

theorem logsig_eq (x : EReal) : -(max (-x) 0 + Ideal.log1p (Ideal.exp (-(max x (-x))))) = logsig x := by
  unfold logsig
  obtain ⟨r, hr⟩ := log1p_exp_neg x
  rw [hr, EReal.neg_add (.inr (EReal.coe_ne_top r)) (.inr (EReal.coe_ne_bot r))]
  congr 1
  rcases le_total x 0 with h | h
  · rw [max_eq_left (by simpa using EReal.neg_le_neg_iff.mpr h), min_eq_left h, neg_neg]
  · rw [max_eq_right (by simpa using EReal.neg_le_neg_iff.mpr h), min_eq_right h, neg_zero]

end Cert.Proof.Math

end
-- ==== Proof.Mlstm.ChunkAt.lean ====
/- The chunk step read at an index over the extended reals: the plain step of the recurrence. -/
module

public import proofs.«01_k».proof.Proof.Mlstm.Chunk
public import proofs.«01_k».proof.Proof.Mlstm.Math
public import Idealize.ShloMosaic.Lib.Pointwise
public import Idealize.ShloMosaic.Lib.WordCmp

@[expose] public section

set_option maxRecDepth 16384

noncomputable section

namespace Cert.KernelIdeal.Mlstm

open Idealize.ShloMosaic Idealize.ShloMosaic.TcCoe
open Cert.KernelIdeal.Gen Cert.Proof

abbrev rws : IVec S128x128 32 := iota .tc S128x128 32 [0] iota_S128x128_d0_w32
abbrev cls : IVec S128x128 32 := iota .tc S128x128 32 [1] iota_S128x128_d1_w32
abbrev lns : IVec S1x128 32 := iota .tc S1x128 32 [1] iota_S1x128_d1_w32

/-- The values and a column of ones beside them. -/
def ones (v : Fin 128 → Fin 256 → EReal) (s : Fin 128) (e : Fin 384) : EReal :=
  if h : e.val < 256 then v s ⟨e.val, h⟩ else if e.val = 256 then 1 else 0

theorem neg_inf : Ideal.ofBits .f32 4286578688#32 = ⊥ := by simp [Ideal.ofBits, Ideal.ieee]

theorem select_eq_ofNat {α : Type} {a b : Nat} (ha : a < 2 ^ 32) (hb : b < 2 ^ 32) (x y : α) :
    Scalar.select (IntOp.cmpi .eq (BitVec.ofNat 32 a) (BitVec.ofNat 32 b)) x y = if a = b then x else y := by
  rw [Idealize.ShloMosaic.WordCmp.cmpi_eq_ofNat ha hb]
  unfold Scalar.select
  by_cases h : a = b <;> simp [h]

section
variable (mask : IVec S128x128 1) (last : IVec S1x128 32)
  (q : Vec Ideal S128x256 .bf16) (kt : Vec Ideal S1x256x128 .bf16) (v : Vec Ideal S1x128x256 .bf16)
  (b r : Vec Ideal S1x1x128 .f32) (c : Vec Ideal S1x256x384 .f32) (m : FVec Ideal S1x1 .f32)

theorem pay81_at (t : Fin 128) : k0_pay81 rws cls b (ix2 t 0) = b (ix3 0 0 t) := by
  pointwise [k0_pay81, k0_pay79]
  rw [Finset.sum_congr rfl fun (x : Fin 128) _ => select_eq_ofNat (by omega) (by omega) _ _]
  simp only [← Fin.ext_iff, Finset.sum_ite_eq, Finset.mem_univ, if_true]

theorem pay82_at (t s : Fin 128) : k0_pay82 rws cls mask b r (ix2 t s)
    = if mask (ix2 t s) = 1#1 then b (ix3 0 0 t) + r (ix3 0 0 s) else ⊥ := by
  have := pay81_at b t
  pointwise [k0_pay82, k0_pay80, this]
  rw [neg_inf]; rfl

theorem pay83_at (t : Fin 128) : k0_pay83 rws cls mask b r (ix2 t 0)
    = Math.top fun s => k0_pay82 rws cls mask b r (ix2 t s) := by
  rw [← Math.fold_max]
  pointwise [k0_pay83]
  rw [neg_inf]

theorem pay85_left (t s : Fin 128) : k0_pay85 q kt c (ix2 t ⟨s.val, by omega⟩) = ∑ d, q (ix2 t d) * kt (ix3 0 d s) := by
  pointwise [k0_pay85, k0_pay77, k0_pay84]

theorem pay86_at (t : Fin 128) (e : Fin 384) : k0_pay86 q kt c (ix2 t e) = ∑ d, q (ix2 t d) * c (ix3 0 d e) := by
  pointwise [k0_pay86, k0_pay85, k0_pay77, k0_pay84]

theorem pay87_at (t s : Fin 128) : k0_pay87 rws cls mask q kt b r c (ix2 t s)
    = (∑ d, q (ix2 t d) * kt (ix3 0 d s)) * Ideal.exp (k0_pay82 rws cls mask b r (ix2 t s) - k0_pay83 rws cls mask b r (ix2 t 0)) := by
  have := pay85_left q kt c t s
  pointwise [k0_pay87, this]

theorem pay78_at (s : Fin 128) (e : Fin 384) : k0_pay78 (k0_pay113 (F := Ideal)) v (ix2 s e) = ones (fun s e => v (ix3 0 s e)) s e := by
  pointwise [k0_pay78, k0_pay113, ones]
  rw [select_eq_ofNat (a := e.val - 256) (b := 0) (by omega) (by omega)]
  by_cases h : e.val < 256
  · simp [h]
  · simp only [h, dite_false]
    congr 1
    exact propext ⟨fun _ => by omega, fun _ => by omega⟩

variable {l : Fin 128} (hl : ∀ s : Fin 128, last (ix2 0 s) = BitVec.ofNat 32 l.val)
include hl

theorem pay89_at : k0_pay89 lns (k0_pay79 b) last (ix2 0 0) = b (ix3 0 0 l) := by
  pointwise [k0_pay89, k0_pay79, hl]
  rw [Finset.sum_congr rfl fun (x : Fin 128) _ => select_eq_ofNat (by omega) (by omega) _ _]
  simp only [← Fin.ext_iff, Finset.sum_ite_eq', Finset.mem_univ, if_true]

theorem pay90_at (s : Fin 128) : k0_pay90 lns (k0_pay79 b) (k0_pay80 r) last (ix2 0 s) = b (ix3 0 0 l) + r (ix3 0 0 s) := by
  have := pay89_at last b hl
  pointwise [k0_pay90, this, k0_pay80]

theorem pay91_at : k0_pay91 lns (k0_pay79 b) (k0_pay80 r) last (ix2 0 0)
    = Math.top fun s => b (ix3 0 0 l) + r (ix3 0 0 s) := by
  have := pay90_at last b r hl
  rw [← Math.fold_max]
  pointwise [k0_pay91, this]
  rw [neg_inf]

theorem pay94_at : k0_pay94 lns m (k0_pay79 b) (k0_pay80 r) last (ix2 0 0)
    = max (b (ix3 0 0 l) + m (ix2 0 0)) (Math.top fun s => b (ix3 0 0 l) + r (ix3 0 0 s)) := by
  have h1 := pay89_at last b hl
  have h2 := pay91_at last b r hl
  pointwise [k0_pay94, h1, h2]

variable (x : FVec Ideal S128x128 .bf16) (va : FVec Ideal S128x384 .bf16)

omit hl in
theorem pay92_top (t : Fin 128) (e : Fin 384) :
    k0_pay92 lns (k0_pay77 kt) va (k0_pay79 b) (k0_pay80 r) x last (ix2 ⟨t.val, by omega⟩ e)
      = ∑ s, x (ix2 t s) * va (ix2 s e) := by
  pointwise [k0_pay92]

theorem pay92_bot (d : Fin 256) (e : Fin 384) :
    k0_pay92 lns (k0_pay77 kt) va (k0_pay79 b) (k0_pay80 r) x last (ix2 ⟨128 + d.val, by omega⟩ e)
      = ∑ s, (kt (ix3 0 d s) * Ideal.exp (b (ix3 0 0 l) + r (ix3 0 0 s) - Math.top fun s => b (ix3 0 0 l) + r (ix3 0 0 s))) * va (ix2 s e) := by
  have h1 := pay90_at last b r hl
  have h2 := pay91_at last b r hl
  pointwise [k0_pay92, h1, h2, k0_pay77]

/-! ### The chunk -/

section
variable {P : Fin 128 → Fin 128 → Bool} (hm : ∀ t s, mask (ix2 t s) = BitVec.ofBool (P t s))
  {i : Fin 128 → EReal} (hr : ∀ s, r (ix3 0 0 s) = i s - b (ix3 0 0 s))
include hm hr

omit hl in
theorem pay82_ldec (t s : Fin 128) : k0_pay82 rws cls mask b r (ix2 t s) = Math.ldec P (fun s => b (ix3 0 0 s)) i t s := by
  rw [pay82_at, hm, ← Math.ldec_eq P _ i (fun s => r (ix3 0 0 s)) hr]
  cases P t s <;> simp

omit hl in
theorem pay83_top (t : Fin 128) :
    k0_pay83 rws cls mask b r (ix2 t 0) = Math.top (Math.ldec P (fun s => b (ix3 0 0 s)) i t) := by
  rw [pay83_at]; simp only [pay82_ldec mask b r hm hr]

omit hm hl in
theorem glog_top : (Math.top fun s => b (ix3 0 0 l) + r (ix3 0 0 s)) = Math.top (Math.glog l (fun s => b (ix3 0 0 s)) i) := by
  unfold Math.top; refine congrArg _ (funext fun s => ?_)
  exact Math.glog_eq l _ i (fun s => r (ix3 0 0 s)) hr s

omit hm in
theorem chM_at : chM lns last b r m (ix2 0 0) = Math.mnext l (fun s => b (ix3 0 0 s)) i (m (ix2 0 0)) := by
  unfold chM
  rw [pay94_at last b r m hl, glog_top b r hr]; rfl

theorem chC_at (d : Fin 256) (e : Fin 384) : chC rws cls lns mask last q kt v b r c m (ix3 0 d e)
    = Math.cnext l (fun s => b (ix3 0 0 s)) i (fun s d => kt (ix3 0 d s)) (ones fun s e => v (ix3 0 s e))
        (fun d e => c (ix3 0 d e)) (m (ix2 0 0)) d e := by
  rw [← Math.cnext_eq]
  have h1 := pay89_at last b hl
  have h2 := pay91_at last b r hl
  have h3 := chM_at last b r m hl hr
  unfold chM at h3
  have h4 := pay92_bot last kt b r hl (k0_pay87 rws cls mask q kt b r c) (k0_pay78 (k0_pay113 (F := Ideal)) v) d e
  rw [glog_top b r hr] at h2 h4
  simp only [pay78_at, Math.glog_eq l _ i (fun s => r (ix3 0 0 s)) hr] at h4
  pointwise [chC, k0_pay118, k0_pay95, k0_pay84, h1, h2, h3, h4]

theorem num_at (t : Fin 128) (e : Fin 384) :
    Ideal.exp (b (ix3 0 0 t) + m (ix2 0 0) - max (b (ix3 0 0 t) + m (ix2 0 0)) (k0_pay83 rws cls mask b r (ix2 t 0)))
        * k0_pay86 q kt c (ix2 t e)
      + Ideal.exp (k0_pay83 rws cls mask b r (ix2 t 0) - max (b (ix3 0 0 t) + m (ix2 0 0)) (k0_pay83 rws cls mask b r (ix2 t 0)))
        * k0_pay92 lns (k0_pay77 kt) (k0_pay78 (k0_pay113 (F := Ideal)) v) (k0_pay79 b) (k0_pay80 r)
            (k0_pay87 rws cls mask q kt b r c) last (ix2 ⟨t.val, by omega⟩ e)
    = Math.numer P (fun s => b (ix3 0 0 s)) i (fun t d => q (ix2 t d)) (fun s d => kt (ix3 0 d s))
        (ones fun s e => v (ix3 0 s e)) (fun d e => c (ix3 0 d e)) (m (ix2 0 0)) t e := by
  rw [← Math.numer_eq, pay92_top, pay86_at]
  simp only [pay87_at, pay83_top mask b r hm hr, pay82_ldec mask b r hm hr, pay78_at]
  rfl

/-- The chunk's output at a position and a column, from its numerator. -/
def outOf (num : Fin 384 → EReal) (st : EReal) (e : Fin 256) : EReal :=
  Ideal.div (num ⟨e.val, by omega⟩) (max (max (num 256) (-(num 256))) (Ideal.exp (0 - st)))

theorem chH_at (t : Fin 128) (e : Fin 256) : chH rws cls lns mask last q kt v b r c m (ix2 t e)
    = outOf (Math.numer P (fun s => b (ix3 0 0 s)) i (fun t d => q (ix2 t d)) (fun s d => kt (ix3 0 d s))
        (ones fun s e => v (ix3 0 s e)) (fun d e => c (ix3 0 d e)) (m (ix2 0 0)) t)
        (Math.stab P (fun s => b (ix3 0 0 s)) i (m (ix2 0 0)) t) e := by
  unfold outOf
  rw [← num_at mask last q kt v b r c m hl hm hr t ⟨e.val, by omega⟩, ← num_at mask last q kt v b r c m hl hm hr t 256]
  unfold Math.stab
  rw [← pay83_top mask b r hm hr t]
  have h1 := pay81_at b t
  pointwise [chH, k0_pay93, h1]
  rfl
end

end
end Cert.KernelIdeal.Mlstm
end
-- ==== Proof.Mlstm.Trip.lean ====
/- The pieces one trip of each loop writes, and what it carries on, in terms of the chunk step. -/
module

public import proofs.«01_k».proof.Proof.Mlstm.Chunk
public import proofs.«01_k».proof.Proof.Mlstm.ChunkAt
public import proofs.«01_k».proof.Proof.Gen.KernelIdeal.Loops

@[expose] public section

set_option maxRecDepth 16384

noncomputable section

namespace Cert.KernelIdeal.Mlstm

open Idealize.ShloMosaic Idealize.ShloMosaic.TcCoe
open Cert.KernelIdeal.Gen

variable (𝒱 : Variants) (c : Dev nD) (bd : Option 𝒱.V) (i : grid0.Coords)
  (arg2 : Memref sig .tc .vmem S1x4096x256 .bf16) (harg2 : arg2.IsWhole)
  (arg3 : Memref sig .tc .vmem S1x4096x256 .bf16) (harg3 : arg3.IsWhole)
  (arg4 : Memref sig .tc .vmem S1x4096x256 .bf16) (harg4 : arg4.IsWhole)
  (arg5 : Memref sig .tc .vmem S1x4096x256 .bf16) (harg5 : arg5.IsWhole)
  (arg6 : Memref sig .tc .vmem S5x256 .f32) (harg6 : arg6.IsWhole)
  (arg7 : Memref sig .tc .vmem S5x256 .f32) (harg7 : arg7.IsWhole)
  (arg8 : Memref sig .tc .vmem S1x256 .f32) (harg8 : arg8.IsWhole)
  (arg9 : Memref sig .tc .vmem S1x256 .f32) (harg9 : arg9.IsWhole)
  (arg10 : Memref sig .tc .vmem S4x1x1x32x128 .f32) (harg10 : arg10.IsWhole)
  (arg11 : Memref sig .tc .vmem S1x256 .f32) (harg11 : arg11.IsWhole)
  (arg12 : Memref sig .tc .vmem S1x4096x256 .bf16) (harg12 : arg12.IsWhole)
  (arg13 : Memref sig .tc .vmem S4096x256 .bf16) (harg13 : arg13.IsWhole)
  (arg14 : Memref sig .tc .vmem S32x256x128 .bf16) (harg14 : arg14.IsWhole)
  (arg15 : Memref sig .tc .vmem S4x32x128 .f32) (harg15 : arg15.IsWhole)
  (arg16 : Memref sig .tc .vmem S4096x256 .f32) (harg16 : arg16.IsWhole)
  (arg17 : Memref sig .tc .vmem S2x256x384 .f32) (harg17 : arg17.IsWhole)

theorem tripL1 (X2 : BufTy.Contents (Elt Ideal) arg2.view.ty) (X3 : BufTy.Contents (Elt Ideal) arg3.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (k : Fin k0_t1_loop.trips) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X6 X7 X8 X9 k
    = ([⟨Rect.unit (k0_off4 k) S128x256.size (k0_off4_inb k),
        k0_pay5 (k0_pay1 0#32 1#32 k (View.readAt (Elt Ideal) arg2.view (Rect.unit (s := S1x4096x256) (k0_off1 k) S1x128x256.size (k0_off1_inb k)).toLoadRect X2) (View.readAt (Elt Ideal) arg2.view (Rect.unit (s := S1x4096x256) (k0_off2 k) S1x16x256.size (k0_off2_inb k)).toLoadRect X2) (View.readAt (Elt Ideal) arg2.view (Rect.unit (s := S1x4096x256) (k0_off3 k) S1x16x256.size (k0_off3_inb k)).toLoadRect X2)) (View.readAt (Elt Ideal) arg6.view (Rect.unit (s := S5x256) ![0, 0] S5x256.size inb_S5x256_S5x256_0_0).toLoadRect X6) (k0_pay2 (View.readAt (Elt Ideal) arg8.view (Rect.unit (s := S1x256) ![0, 0] S1x256.size inb_S1x256_S1x256_0_0).toLoadRect X8)) (k0_pay3 0#32 1#32 k (View.readAt (Elt Ideal) arg2.view (Rect.unit (s := S1x4096x256) (k0_off1 k) S1x128x256.size (k0_off1_inb k)).toLoadRect X2) (View.readAt (Elt Ideal) arg2.view (Rect.unit (s := S1x4096x256) (k0_off2 k) S1x16x256.size (k0_off2_inb k)).toLoadRect X2) (View.readAt (Elt Ideal) arg2.view (Rect.unit (s := S1x4096x256) (k0_off3 k) S1x16x256.size (k0_off3_inb k)).toLoadRect X2)) (k0_pay4 (View.readAt (Elt Ideal) arg6.view (Rect.unit (s := S5x256) ![0, 0] S5x256.size inb_S5x256_S5x256_0_0).toLoadRect X6))⟩],
      [⟨Rect.unit (k0_off5 k) S1x256x128.size (k0_off5_inb k),
        k0_pay96 (k0_pay8 (Scf.iv 0#32 1#32 k) (k0_pay6 (View.readAt (Elt Ideal) arg3.view (Rect.unit (s := S1x4096x256) (k0_off1 k) S1x128x256.size (k0_off1_inb k)).toLoadRect X3)) (k0_pay7 (View.readAt (Elt Ideal) arg3.view (Rect.unit (s := S1x4096x256) (k0_off2 k) S1x16x256.size (k0_off2_inb k)).toLoadRect X3)) (View.readAt (Elt Ideal) arg3.view (Rect.unit (s := S1x4096x256) (k0_off3 k) S1x16x256.size (k0_off3_inb k)).toLoadRect X3) (View.readAt (Elt Ideal) arg7.view (Rect.unit (s := S5x256) ![0, 0] S5x256.size inb_S5x256_S5x256_0_0).toLoadRect X7) (View.readAt (Elt Ideal) arg9.view (Rect.unit (s := S1x256) ![0, 0] S1x256.size inb_S1x256_S1x256_0_0).toLoadRect X9))⟩]) := by
  unfold tripL_k0_t1 trip_k0_t1
  rfl

theorem tripR2 (X4 : BufTy.Contents (Elt Ideal) arg4.view.ty) (X13 : BufTy.Contents (Elt Ideal) arg13.view.ty) (X14 : BufTy.Contents (Elt Ideal) arg14.view.ty) (X15 : BufTy.Contents (Elt Ideal) arg15.view.ty) (k : Fin k0_t2_loop.trips) (acc : FVec Ideal S1x1 .f32 × FVec Ideal S1x1 .f32) (f16 : BufTy.Contents (Elt Ideal) arg16.view.ty) (f17 : BufTy.Contents (Elt Ideal) arg17.view.ty) :
    tripR_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X13 X14 X15 k acc f16 f17
    = (chM lns lane127 (View.readAt (Elt Ideal) arg15.view (Rect.unit (s := S4x32x128) (k0_off9 k) S1x1x128.size (k0_off9_inb k)).toLoadRect X15) (View.readAt (Elt Ideal) arg15.view (Rect.unit (s := S4x32x128) (k0_off10 k) S1x1x128.size (k0_off10_inb k)).toLoadRect X15) acc.1, chM lns lane0 (View.readAt (Elt Ideal) arg15.view (Rect.unit (s := S4x32x128) (k0_off14 k) S1x1x128.size (k0_off14_inb k)).toLoadRect X15) (View.readAt (Elt Ideal) arg15.view (Rect.unit (s := S4x32x128) (k0_off15 k) S1x1x128.size (k0_off15_inb k)).toLoadRect X15) acc.2) := by
  unfold tripR_k0_t2 trip_k0_t2
  rfl

theorem tripL2 (X4 : BufTy.Contents (Elt Ideal) arg4.view.ty) (X13 : BufTy.Contents (Elt Ideal) arg13.view.ty) (X14 : BufTy.Contents (Elt Ideal) arg14.view.ty) (X15 : BufTy.Contents (Elt Ideal) arg15.view.ty) (k : Fin k0_t2_loop.trips) (acc : FVec Ideal S1x1 .f32 × FVec Ideal S1x1 .f32) (f16 : BufTy.Contents (Elt Ideal) arg16.view.ty) (f17 : BufTy.Contents (Elt Ideal) arg17.view.ty) :
    tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X13 X14 X15 k acc f16 f17
    = ([⟨Rect.unit (k0_off11 k) S128x256.size (k0_off11_inb k), k0_pay31 (chH rws cls lns (onFrom rws cls) lane0 (View.readAt (Elt Ideal) arg13.view (Rect.unit (s := S4096x256) (k0_off11 k) S128x256.size (k0_off11_inb k)).toLoadRect X13) (View.readAt (Elt Ideal) arg14.view (Rect.unit (s := S32x256x128) (k0_off12 k) S1x256x128.size (k0_off12_inb k)).toLoadRect X14) (View.readAt (Elt Ideal) arg4.view (Rect.unit (s := S1x4096x256) (k0_off13 k) S1x128x256.size (k0_off13_inb k)).toLoadRect X4) (View.readAt (Elt Ideal) arg15.view (Rect.unit (s := S4x32x128) (k0_off14 k) S1x1x128.size (k0_off14_inb k)).toLoadRect X15) (View.readAt (Elt Ideal) arg15.view (Rect.unit (s := S4x32x128) (k0_off15 k) S1x1x128.size (k0_off15_inb k)).toLoadRect X15) (View.readAt (Elt Ideal) arg17.view (Rect.unit (s := S2x256x384) ![1, 0, 0] S1x256x384.size inb_S2x256x384_S1x256x384_1_0_0).toLoadRect f17) acc.2)⟩,
       ⟨Rect.unit (k0_off6 k) S128x256.size (k0_off6_inb k), k0_pay31 (chH rws cls lns (upTo rws cls) lane127 (View.readAt (Elt Ideal) arg13.view (Rect.unit (s := S4096x256) (k0_off6 k) S128x256.size (k0_off6_inb k)).toLoadRect X13) (View.readAt (Elt Ideal) arg14.view (Rect.unit (s := S32x256x128) (k0_off7 k) S1x256x128.size (k0_off7_inb k)).toLoadRect X14) (View.readAt (Elt Ideal) arg4.view (Rect.unit (s := S1x4096x256) (k0_off8 k) S1x128x256.size (k0_off8_inb k)).toLoadRect X4) (View.readAt (Elt Ideal) arg15.view (Rect.unit (s := S4x32x128) (k0_off9 k) S1x1x128.size (k0_off9_inb k)).toLoadRect X15) (View.readAt (Elt Ideal) arg15.view (Rect.unit (s := S4x32x128) (k0_off10 k) S1x1x128.size (k0_off10_inb k)).toLoadRect X15) (View.readAt (Elt Ideal) arg17.view (Rect.unit (s := S2x256x384) ![0, 0, 0] S1x256x384.size inb_S2x256x384_S1x256x384_0_0_0).toLoadRect f17) acc.1)⟩],
      [⟨Rect.unit ![1, 0, 0] S1x256x384.size inb_S2x256x384_S1x256x384_1_0_0, chC rws cls lns (onFrom rws cls) lane0 (View.readAt (Elt Ideal) arg13.view (Rect.unit (s := S4096x256) (k0_off11 k) S128x256.size (k0_off11_inb k)).toLoadRect X13) (View.readAt (Elt Ideal) arg14.view (Rect.unit (s := S32x256x128) (k0_off12 k) S1x256x128.size (k0_off12_inb k)).toLoadRect X14) (View.readAt (Elt Ideal) arg4.view (Rect.unit (s := S1x4096x256) (k0_off13 k) S1x128x256.size (k0_off13_inb k)).toLoadRect X4) (View.readAt (Elt Ideal) arg15.view (Rect.unit (s := S4x32x128) (k0_off14 k) S1x1x128.size (k0_off14_inb k)).toLoadRect X15) (View.readAt (Elt Ideal) arg15.view (Rect.unit (s := S4x32x128) (k0_off15 k) S1x1x128.size (k0_off15_inb k)).toLoadRect X15) (View.readAt (Elt Ideal) arg17.view (Rect.unit (s := S2x256x384) ![1, 0, 0] S1x256x384.size inb_S2x256x384_S1x256x384_1_0_0).toLoadRect f17) acc.2⟩,
       ⟨Rect.unit ![0, 0, 0] S1x256x384.size inb_S2x256x384_S1x256x384_0_0_0, chC rws cls lns (upTo rws cls) lane127 (View.readAt (Elt Ideal) arg13.view (Rect.unit (s := S4096x256) (k0_off6 k) S128x256.size (k0_off6_inb k)).toLoadRect X13) (View.readAt (Elt Ideal) arg14.view (Rect.unit (s := S32x256x128) (k0_off7 k) S1x256x128.size (k0_off7_inb k)).toLoadRect X14) (View.readAt (Elt Ideal) arg4.view (Rect.unit (s := S1x4096x256) (k0_off8 k) S1x128x256.size (k0_off8_inb k)).toLoadRect X4) (View.readAt (Elt Ideal) arg15.view (Rect.unit (s := S4x32x128) (k0_off9 k) S1x1x128.size (k0_off9_inb k)).toLoadRect X15) (View.readAt (Elt Ideal) arg15.view (Rect.unit (s := S4x32x128) (k0_off10 k) S1x1x128.size (k0_off10_inb k)).toLoadRect X15) (View.readAt (Elt Ideal) arg17.view (Rect.unit (s := S2x256x384) ![0, 0, 0] S1x256x384.size inb_S2x256x384_S1x256x384_0_0_0).toLoadRect f17) acc.1⟩]) := by
  unfold tripL_k0_t2 trip_k0_t2
  rfl

theorem tripR3 (X4 : BufTy.Contents (Elt Ideal) arg4.view.ty) (X5 : BufTy.Contents (Elt Ideal) arg5.view.ty) (X11 : BufTy.Contents (Elt Ideal) arg11.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (k : Fin k0_t3_loop.trips) (acc : FVec Ideal S1x1 .f32 × FVec Ideal S1x1 .f32) (f12 : BufTy.Contents (Elt Ideal) arg12.view.ty) (f17 : BufTy.Contents (Elt Ideal) arg17.view.ty) :
    tripR_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X5 X11 X13 X14 X15 X16 k acc f12 f17
    = (chM lns lane127 (View.readAt (Elt Ideal) arg15.view (Rect.unit (s := S4x32x128) (k0_off19 k) S1x1x128.size (k0_off19_inb k)).toLoadRect X15) (View.readAt (Elt Ideal) arg15.view (Rect.unit (s := S4x32x128) (k0_off20 k) S1x1x128.size (k0_off20_inb k)).toLoadRect X15) acc.1, chM lns lane0 (View.readAt (Elt Ideal) arg15.view (Rect.unit (s := S4x32x128) (k0_off24 k) S1x1x128.size (k0_off24_inb k)).toLoadRect X15) (View.readAt (Elt Ideal) arg15.view (Rect.unit (s := S4x32x128) (k0_off25 k) S1x1x128.size (k0_off25_inb k)).toLoadRect X15) acc.2) := by
  unfold tripR_k0_t3 trip_k0_t3
  rfl

theorem tripL3 (X4 : BufTy.Contents (Elt Ideal) arg4.view.ty) (X5 : BufTy.Contents (Elt Ideal) arg5.view.ty) (X11 : BufTy.Contents (Elt Ideal) arg11.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (k : Fin k0_t3_loop.trips) (acc : FVec Ideal S1x1 .f32 × FVec Ideal S1x1 .f32) (f12 : BufTy.Contents (Elt Ideal) arg12.view.ty) (f17 : BufTy.Contents (Elt Ideal) arg17.view.ty) :
    tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X5 X11 X13 X14 X15 X16 k acc f12 f17
    = ([⟨Rect.unit (k0_off23 k) S1x128x256.size (k0_off23_inb k), k0_pay119 (chH rws cls lns (onFrom rws cls) lane0 (View.readAt (Elt Ideal) arg13.view (Rect.unit (s := S4096x256) (k0_off21 k) S128x256.size (k0_off21_inb k)).toLoadRect X13) (View.readAt (Elt Ideal) arg14.view (Rect.unit (s := S32x256x128) (k0_off22 k) S1x256x128.size (k0_off22_inb k)).toLoadRect X14) (View.readAt (Elt Ideal) arg4.view (Rect.unit (s := S1x4096x256) (k0_off23 k) S1x128x256.size (k0_off23_inb k)).toLoadRect X4) (View.readAt (Elt Ideal) arg15.view (Rect.unit (s := S4x32x128) (k0_off24 k) S1x1x128.size (k0_off24_inb k)).toLoadRect X15) (View.readAt (Elt Ideal) arg15.view (Rect.unit (s := S4x32x128) (k0_off25 k) S1x1x128.size (k0_off25_inb k)).toLoadRect X15) (View.readAt (Elt Ideal) arg17.view (Rect.unit (s := S2x256x384) ![1, 0, 0] S1x256x384.size inb_S2x256x384_S1x256x384_1_0_0).toLoadRect f17) acc.2) (View.readAt (Elt Ideal) arg16.view (Rect.unit (s := S4096x256) (k0_off21 k) S128x256.size (k0_off21_inb k)).toLoadRect X16) (View.readAt (Elt Ideal) arg11.view (Rect.unit (s := S1x256) ![0, 0] S1x256.size inb_S1x256_S1x256_0_0).toLoadRect X11) (View.readAt (Elt Ideal) arg5.view (Rect.unit (s := S1x4096x256) (k0_off23 k) S1x128x256.size (k0_off23_inb k)).toLoadRect X5)⟩,
       ⟨Rect.unit (k0_off18 k) S1x128x256.size (k0_off18_inb k), k0_pay119 (chH rws cls lns (upTo rws cls) lane127 (View.readAt (Elt Ideal) arg13.view (Rect.unit (s := S4096x256) (k0_off16 k) S128x256.size (k0_off16_inb k)).toLoadRect X13) (View.readAt (Elt Ideal) arg14.view (Rect.unit (s := S32x256x128) (k0_off17 k) S1x256x128.size (k0_off17_inb k)).toLoadRect X14) (View.readAt (Elt Ideal) arg4.view (Rect.unit (s := S1x4096x256) (k0_off18 k) S1x128x256.size (k0_off18_inb k)).toLoadRect X4) (View.readAt (Elt Ideal) arg15.view (Rect.unit (s := S4x32x128) (k0_off19 k) S1x1x128.size (k0_off19_inb k)).toLoadRect X15) (View.readAt (Elt Ideal) arg15.view (Rect.unit (s := S4x32x128) (k0_off20 k) S1x1x128.size (k0_off20_inb k)).toLoadRect X15) (View.readAt (Elt Ideal) arg17.view (Rect.unit (s := S2x256x384) ![0, 0, 0] S1x256x384.size inb_S2x256x384_S1x256x384_0_0_0).toLoadRect f17) acc.1) (View.readAt (Elt Ideal) arg16.view (Rect.unit (s := S4096x256) (k0_off16 k) S128x256.size (k0_off16_inb k)).toLoadRect X16) (View.readAt (Elt Ideal) arg11.view (Rect.unit (s := S1x256) ![0, 0] S1x256.size inb_S1x256_S1x256_0_0).toLoadRect X11) (View.readAt (Elt Ideal) arg5.view (Rect.unit (s := S1x4096x256) (k0_off18 k) S1x128x256.size (k0_off18_inb k)).toLoadRect X5)⟩],
      [⟨Rect.unit ![1, 0, 0] S1x256x384.size inb_S2x256x384_S1x256x384_1_0_0, chC rws cls lns (onFrom rws cls) lane0 (View.readAt (Elt Ideal) arg13.view (Rect.unit (s := S4096x256) (k0_off21 k) S128x256.size (k0_off21_inb k)).toLoadRect X13) (View.readAt (Elt Ideal) arg14.view (Rect.unit (s := S32x256x128) (k0_off22 k) S1x256x128.size (k0_off22_inb k)).toLoadRect X14) (View.readAt (Elt Ideal) arg4.view (Rect.unit (s := S1x4096x256) (k0_off23 k) S1x128x256.size (k0_off23_inb k)).toLoadRect X4) (View.readAt (Elt Ideal) arg15.view (Rect.unit (s := S4x32x128) (k0_off24 k) S1x1x128.size (k0_off24_inb k)).toLoadRect X15) (View.readAt (Elt Ideal) arg15.view (Rect.unit (s := S4x32x128) (k0_off25 k) S1x1x128.size (k0_off25_inb k)).toLoadRect X15) (View.readAt (Elt Ideal) arg17.view (Rect.unit (s := S2x256x384) ![1, 0, 0] S1x256x384.size inb_S2x256x384_S1x256x384_1_0_0).toLoadRect f17) acc.2⟩,
       ⟨Rect.unit ![0, 0, 0] S1x256x384.size inb_S2x256x384_S1x256x384_0_0_0, chC rws cls lns (upTo rws cls) lane127 (View.readAt (Elt Ideal) arg13.view (Rect.unit (s := S4096x256) (k0_off16 k) S128x256.size (k0_off16_inb k)).toLoadRect X13) (View.readAt (Elt Ideal) arg14.view (Rect.unit (s := S32x256x128) (k0_off17 k) S1x256x128.size (k0_off17_inb k)).toLoadRect X14) (View.readAt (Elt Ideal) arg4.view (Rect.unit (s := S1x4096x256) (k0_off18 k) S1x128x256.size (k0_off18_inb k)).toLoadRect X4) (View.readAt (Elt Ideal) arg15.view (Rect.unit (s := S4x32x128) (k0_off19 k) S1x1x128.size (k0_off19_inb k)).toLoadRect X15) (View.readAt (Elt Ideal) arg15.view (Rect.unit (s := S4x32x128) (k0_off20 k) S1x1x128.size (k0_off20_inb k)).toLoadRect X15) (View.readAt (Elt Ideal) arg17.view (Rect.unit (s := S2x256x384) ![0, 0, 0] S1x256x384.size inb_S2x256x384_S1x256x384_0_0_0).toLoadRect f17) acc.1⟩]) := by
  unfold tripL_k0_t3 trip_k0_t3
  rfl

end Cert.KernelIdeal.Mlstm

end
-- ==== Proof.Mlstm.PreAt.lean ====
/- What is computed before the recurrence and after it, read at an index: the convolution, the gates' scans, the output. -/
module

public import proofs.«01_k».proof.Proof.Mlstm.ChunkAt
public import Idealize.ShloMosaic.Lib.WordCmp

@[expose] public section

set_option maxRecDepth 16384

noncomputable section

namespace Cert.KernelIdeal.Mlstm

open Idealize.ShloMosaic Idealize.ShloMosaic.TcCoe
open Cert.KernelIdeal.Gen Cert.Proof

/-- An array of 4096 rows with zeros before it and after it, at a row counted from sixteen before its first. -/
def pad (X : Fin 4096 → Fin 256 → EReal) (y : ℕ) (e : Fin 256) : EReal :=
  if h : 16 ≤ y ∧ y < 4112 then X ⟨y - 16, by omega⟩ e else 0

/-- The five taps of the convolution around a row. -/
def taps (X : Fin 4096 → Fin 256 → EReal) (w : Fin 5 → Fin 256 → EReal) (b : Fin 256 → EReal) (t : ℕ) (e : Fin 256) : EReal :=
  b e + pad X (t + 14) e * w 0 e + pad X (t + 15) e * w 1 e + pad X (t + 16) e * w 2 e + pad X (t + 17) e * w 3 e
    + pad X (t + 18) e * w 4 e

/-- The convolution and its activation. -/
def conv (X : Fin 4096 → Fin 256 → EReal) (w : Fin 5 → Fin 256 → EReal) (b : Fin 256 → EReal) (t : ℕ) (e : Fin 256) : EReal :=
  taps X w b t e * Ideal.logistic (taps X w b t e)

theorem t1_trips : k0_t1_loop.trips = 32 := by decide +kernel
theorem t2_trips : k0_t2_loop.trips = 16 := by decide +kernel
theorem t3_trips : k0_t3_loop.trips = 16 := by decide +kernel
theorem t1_lt (k : Fin k0_t1_loop.trips) : k.val < 32 := lt_of_lt_of_eq k.isLt t1_trips
theorem t2_lt (k : Fin k0_t2_loop.trips) : k.val < 16 := lt_of_lt_of_eq k.isLt t2_trips
theorem t3_lt (k : Fin k0_t3_loop.trips) : k.val < 16 := lt_of_lt_of_eq k.isLt t3_trips

theorem mid_lt (k : Fin k0_t1_loop.trips) (p : Fin 128) : 128 * k.val + p.val < 4096 := by have := t1_lt k; omega
theorem lo_lt (k : Fin k0_t1_loop.trips) (p : Fin 16) : 128 * k.val - 16 + p.val < 4096 := by have := t1_lt k; omega
theorem hi_lt (k : Fin k0_t1_loop.trips) (p : Fin 16) : min (128 * k.val + 128) 4080 + p.val < 4096 := by omega

section Conv
variable (k : Fin k0_t1_loop.trips) (mid : Vec Ideal S1x128x256 .bf16) (lo hi : Vec Ideal S1x16x256 .bf16)
  (w : Vec Ideal S5x256 .f32) (b : Vec Ideal S1x256 .f32)

theorem iv_pos : ∀ k : Fin k0_t1_loop.trips,
    Scalar.cmpi .sgt (Scf.iv 0#32 1#32 k) 0#32 = BitVec.ofBool (decide (0 < k.val)) := by decide +kernel
theorem iv_last : ∀ k : Fin k0_t1_loop.trips,
    Scalar.cmpi .slt (Scf.iv 0#32 1#32 k) 31#32 = BitVec.ofBool (decide (k.val < 31)) := by decide +kernel

theorem select_bool {α : Type} (p : Bool) (x y : α) : Scalar.select (BitVec.ofBool p) x y = if p then x else y := by
  cases p <;> rfl

variable {X : Fin 4096 → Fin 256 → EReal}
  (hmid : ∀ (p : Fin 128) e, mid (ix3 0 p e) = X ⟨128 * k.val + p.val, mid_lt k p⟩ e)
  (hlo : ∀ (p : Fin 16) e, lo (ix3 0 p e) = X ⟨128 * k.val - 16 + p.val, lo_lt k p⟩ e)
  (hhi : ∀ (p : Fin 16) e, hi (ix3 0 p e) = X ⟨min (128 * k.val + 128) 4080 + p.val, hi_lt k p⟩ e)
include hmid hlo hhi

theorem pay1_at (x : Fin 160) (e : Fin 256) :
    k0_pay1 (F := Ideal) 0#32 1#32 k mid lo hi (ix2 x e) = pad X (128 * k.val + x.val) e := by
  have hk := t1_lt k
  pointwise [k0_pay1]
  unfold pad
  by_cases h1 : x.val < 16
  · simp only [h1, dite_true, hlo, iv_pos, select_bool]
    by_cases h2 : 0 < k.val
    · have h3 : 16 ≤ 128 * k.val + x.val ∧ 128 * k.val + x.val < 4112 := by omega
      simp only [h2, decide_true, if_true, h3, and_self, dite_true]
      congr 2; omega
    · have h3 : ¬ (16 ≤ 128 * k.val + x.val ∧ 128 * k.val + x.val < 4112) := by omega
      simp [h2, h3]
  · by_cases h2 : x.val - 16 < 128
    · have h3 : 16 ≤ 128 * k.val + x.val ∧ 128 * k.val + x.val < 4112 := by omega
      simp only [h1, dite_false, h2, dite_true, hmid, h3, and_self]
      congr 2; omega
    · simp only [h1, dite_false, h2, hhi, iv_last, select_bool]
      by_cases h4 : k.val < 31
      · have h3 : 16 ≤ 128 * k.val + x.val ∧ 128 * k.val + x.val < 4112 := by omega
        simp only [h4, decide_true, if_true, h3, and_self, dite_true]
        congr 2; omega
      · have h3 : ¬ (16 ≤ 128 * k.val + x.val ∧ 128 * k.val + x.val < 4112) := by omega
        simp [h4, h3]

theorem pay5_at (p : Fin 128) (e : Fin 256) :
    k0_pay5 (k0_pay1 0#32 1#32 k mid lo hi) w (k0_pay2 b) (k0_pay3 0#32 1#32 k mid lo hi) (k0_pay4 w) (ix2 p e)
      = conv X (fun j e => w (ix2 j e)) (fun e => b (ix2 0 e)) (128 * k.val + p.val) e * Ideal.ofBits .f32 1031798784#32 := by
  have := pay1_at k mid lo hi hmid hlo hhi
  pointwise [k0_pay5, k0_pay3, k0_pay2, k0_pay4, this]
  unfold conv taps
  simp only [Nat.add_assoc, Nat.add_comm p.val]

omit hmid hlo hhi in
/-- The taps as the kernel adds them, of the rows already put together. -/
def tapsV {F : FTy → Type} [FloatOps F] (x : FVec F S160x256 .f32) (w : Vec F S5x256 .f32) (b : Vec F S1x256 .f32) :
    FVec F S128x256 .f32 :=
  let tap (o : Nat) (hx : S160x256.Slices ![14 + o, 0] S128x256) (hw : S5x256.Slices ![o, 0] S1x256) : FVec F S128x256 .f32 :=
    mulf (extractStridedSlice S128x256 ![14 + o, 0] x hx)
      (broadcastTo S128x256 (extractStridedSlice S1x256 ![o, 0] w hw) broadcasts_S1x256_S128x256)
  addf (addf (addf (addf (addf (broadcastTo S128x256 (shapeCast S1x256 b shapeCasts_S1x256_S1x256) broadcasts_S1x256_S128x256)
    (tap 0 slices_S160x256_o14_0_S128x256 slices_S5x256_o0_0_S1x256))
    (tap 1 slices_S160x256_o15_0_S128x256 slices_S5x256_o1_0_S1x256))
    (tap 2 slices_S160x256_o16_0_S128x256 slices_S5x256_o2_0_S1x256))
    (tap 3 slices_S160x256_o17_0_S128x256 slices_S5x256_o3_0_S1x256))
    (tap 4 slices_S160x256_o18_0_S128x256 slices_S5x256_o4_0_S1x256)

omit hmid hlo hhi in
theorem pay8_eq {F : FTy → Type} [FloatOps F] (k : Fin k0_t1_loop.trips) (mid : Vec F S1x128x256 .bf16)
    (lo hi : Vec F S1x16x256 .bf16) (w : Vec F S5x256 .f32) (b : Vec F S1x256 .f32) :
    k0_pay8 (Scf.iv 0#32 1#32 k) (k0_pay6 mid) (k0_pay7 lo) hi w b
      = truncf .bf16 (transpose S256x128 [1, 0] (mulf (tapsV (k0_pay1 0#32 1#32 k mid lo hi) w b)
          (logistic (tapsV (k0_pay1 0#32 1#32 k mid lo hi) w b))) transposes_S128x256_p1_0_S256x128) bitsLt_bf16_f32 := rfl

theorem pay96_at (p : Fin 128) (e : Fin 256) :
    k0_pay96 (k0_pay8 (Scf.iv 0#32 1#32 k) (k0_pay6 mid) (k0_pay7 lo) hi w b) (ix3 0 e p)
      = conv X (fun j e => w (ix2 j e)) (fun e => b (ix2 0 e)) (128 * k.val + p.val) e := by
  have := pay1_at k mid lo hi hmid hlo hhi
  rw [pay8_eq]
  pointwise [k0_pay96, tapsV, this]
  unfold conv taps
  simp only [Nat.add_assoc, Nat.add_comm p.val]
end Conv

/-! ### The scans -/

/-- One doubling step of the scan along the lanes. -/
def fstep {F : FTy → Type} [FloatOps F] (s : BitVec 32) (x : FVec F S32x128 .f32) : FVec F S32x128 .f32 :=
  addf x (select (cmpi .sge (iota .tc S32x128 32 [1] iota_S32x128_d1_w32) (broadcast S32x128 s))
    (dynamicRotate 1 s none x rotates_S32x128_d1) (broadcast S32x128 (Scalar.ofBits .f32 0x00000000#32)))

/-- One doubling step of the scan against the lanes. -/
def bstep {F : FTy → Type} [FloatOps F] (s : BitVec 32) (x : FVec F S32x128 .f32) : FVec F S32x128 .f32 :=
  addf x (select (cmpi .slt (iota .tc S32x128 32 [1] iota_S32x128_d1_w32) (broadcast S32x128 s))
    (dynamicRotate 1 s none x rotates_S32x128_d1) (broadcast S32x128 (Scalar.ofBits .f32 0x00000000#32)))

/-- The log of the forget gates' sigmoid, of one of the rows of gates. -/
def lsig {F : FTy → Type} [FloatOps F] (x : FVec F S32x128 .f32) : FVec F S32x128 .f32 :=
  subf (minimumf x (broadcast S32x128 (Scalar.ofBits .f32 0x00000000#32)))
    (log1p (exp (subf (broadcast S32x128 (Scalar.ofBits .f32 0x00000000#32)) (absf x))))

theorem fscan_eq {F : FTy → Type} [FloatOps F] (g : Vec F S4x1x1x32x128 .f32) :
    k0_pay101 (iota .tc S32x128 32 [1] iota_S32x128_d1_w32) (k0_pay98 g) k0_pay99 (k0_pay100 g)
      = fstep 64#32 (fstep 32#32 (fstep 16#32 (fstep 8#32 (fstep 4#32 (fstep 2#32 (fstep 1#32
          (lsig (shapeCast S32x128 (extractStridedSlice S1x32x128 ![2, 0, 0] (k0_pay97 g) slices_S4x32x128_o2_0_0_S1x32x128)
            shapeCasts_S1x32x128_S32x128)))))))) := rfl

theorem bscan_eq {F : FTy → Type} [FloatOps F] (g : FVec F S4x32x128 .f32) :
    k0_pay106 (iota .tc S32x128 32 [1] iota_S32x128_d1_w32) (k0_pay102 g) k0_pay103 (k0_pay104 g) k0_pay105
      = bstep 64#32 (bstep 96#32 (bstep 112#32 (bstep 120#32 (bstep 124#32 (bstep 126#32 (bstep 127#32
          (lsig (shapeCast S32x128 (extractStridedSlice S1x32x128 ![3, 0, 0] g slices_S4x32x128_o3_0_0_S1x32x128)
            shapeCasts_S1x32x128_S32x128)))))))) := rfl

/-- The sum over the `n` positions ending at `p`. -/
def win (n : ℕ) (f : Fin 128 → EReal) (p : Fin 128) : EReal :=
  ∑ q : Fin 128, if q.val ≤ p.val ∧ p.val < q.val + n then f q else 0

/-- The sum over the `n` positions beginning at `p`. -/
def wib (n : ℕ) (f : Fin 128 → EReal) (p : Fin 128) : EReal :=
  ∑ q : Fin 128, if p.val ≤ q.val ∧ q.val < p.val + n then f q else 0

theorem fstep_at (n : ℕ) (h0 : 0 < n) (hn : n < 128) (x : FVec Ideal S32x128 .f32) (c : Fin 32) (f : Fin 128 → EReal)
    (hx : ∀ p, x (ix2 c p) = win n f p) (p : Fin 128) : fstep (BitVec.ofNat 32 n) x (ix2 c p) = win (2 * n) f p := by
  have e1 : fstep (BitVec.ofNat 32 n) x (ix2 c p)
      = x (ix2 c p) + if n ≤ p.val then x (ix2 c ⟨(p.val + 128 - n) % 128, Nat.mod_lt _ (by decide)⟩) else 0 := by
    pointwise [fstep]
    have e2 : (BitVec.ofNat 32 n).toNat % 128 = n := by
      rw [BitVec.toNat_ofNat, Nat.mod_eq_of_lt (show n < 2 ^ 32 by omega), Nat.mod_eq_of_lt hn]
    rw [show IntOp.cmpi .sge (BitVec.ofNat 32 p.val) (BitVec.ofNat 32 n) = BitVec.ofBool (decide (n ≤ p.val)) from
      WordCmp.cmpi_sge_ofNat (by have := p.isLt; norm_num; omega) (by norm_num; omega), select_bool]
    simp only [e2, decide_eq_true_eq]
  rw [e1, hx]
  by_cases h : n ≤ p.val
  · rw [if_pos h, hx]
    unfold win
    rw [← Finset.sum_add_distrib]
    refine Finset.sum_congr rfl fun q _ => ?_
    have hq := q.isLt
    have hp := p.isLt
    have h5 : (p.val + 128 - n) % 128 = p.val - n := by omega
    simp only [h5]
    split_ifs <;> first | omega | simp
  · rw [if_neg h, add_zero]
    unfold win
    refine Finset.sum_congr rfl fun q _ => ?_
    split_ifs <;> first | omega | rfl

theorem bstep_at (n : ℕ) (h0 : 0 < n) (hn : n < 128) (x : FVec Ideal S32x128 .f32) (c : Fin 32) (f : Fin 128 → EReal)
    (hx : ∀ p, x (ix2 c p) = wib n f p) (p : Fin 128) : bstep (BitVec.ofNat 32 (128 - n)) x (ix2 c p) = wib (2 * n) f p := by
  have e1 : bstep (BitVec.ofNat 32 (128 - n)) x (ix2 c p)
      = x (ix2 c p) + if p.val < 128 - n then x (ix2 c ⟨(p.val + 128 - (128 - n)) % 128, Nat.mod_lt _ (by decide)⟩) else 0 := by
    pointwise [bstep]
    have e2 : (BitVec.ofNat 32 (128 - n)).toNat % 128 = 128 - n := by
      rw [BitVec.toNat_ofNat, Nat.mod_eq_of_lt (show 128 - n < 2 ^ 32 by omega), Nat.mod_eq_of_lt (by omega)]
    rw [show IntOp.cmpi .slt (BitVec.ofNat 32 p.val) (BitVec.ofNat 32 (128 - n)) = BitVec.ofBool (decide (p.val < 128 - n)) from
      WordCmp.cmpi_slt_ofNat (by have := p.isLt; norm_num; omega) (by norm_num; omega), select_bool]
    simp only [e2, decide_eq_true_eq]
  rw [e1, hx]
  by_cases h : p.val < 128 - n
  · rw [if_pos h, hx]
    unfold wib
    rw [← Finset.sum_add_distrib]
    refine Finset.sum_congr rfl fun q _ => ?_
    have hq := q.isLt
    have hp := p.isLt
    have h5 : (p.val + 128 - (128 - n)) % 128 = p.val + n := by omega
    simp only [h5]
    split_ifs <;> first | omega | simp
  · rw [if_neg h, add_zero]
    unfold wib
    refine Finset.sum_congr rfl fun q _ => ?_
    have hq := q.isLt
    split_ifs <;> first | omega | rfl

theorem win_one (f : Fin 128 → EReal) (p : Fin 128) : win 1 f p = f p := by
  unfold win
  rw [Finset.sum_eq_single p]
  · simp
  · intro q _ hq
    have : q.val ≠ p.val := fun h => hq (Fin.ext h)
    rw [if_neg (by omega)]
  · simp
theorem wib_one (f : Fin 128 → EReal) (p : Fin 128) : wib 1 f p = f p := by
  unfold wib
  rw [Finset.sum_eq_single p]
  · simp
  · intro q _ hq
    have : q.val ≠ p.val := fun h => hq (Fin.ext h)
    rw [if_neg (by omega)]
  · simp

/-- The order of the positions read forwards, and read backwards. -/
def Pf (t s : Fin 128) : Bool := decide (s.val ≤ t.val)
def Pb (t s : Fin 128) : Bool := decide (t.val ≤ s.val)

theorem win_all (f : Fin 128 → EReal) (p : Fin 128) : win 128 f p = Math.cum Pf f p := by
  unfold win Math.cum Pf
  refine Finset.sum_congr rfl fun q _ => ?_
  have := q.isLt; have := p.isLt
  by_cases h : q.val ≤ p.val <;> simp [h]; omega
theorem wib_all (f : Fin 128 → EReal) (p : Fin 128) : wib 128 f p = Math.cum Pb f p := by
  unfold wib Math.cum Pb
  refine Finset.sum_congr rfl fun q _ => ?_
  have := q.isLt; have := p.isLt
  by_cases h : p.val ≤ q.val <;> simp [h]; omega

theorem lsig_at (x : FVec Ideal S32x128 .f32) (c : Fin 32) (p : Fin 128) : lsig x (ix2 c p) = Math.logsig (x (ix2 c p)) := by
  pointwise [lsig, Math.logsig]
  rw [zero_sub]
  rfl

variable (g : Vec Ideal S4x1x1x32x128 .f32)

theorem fscan_at (c : Fin 32) (p : Fin 128) :
    k0_pay101 (iota .tc S32x128 32 [1] iota_S32x128_d1_w32) (k0_pay98 g) k0_pay99 (k0_pay100 g) (ix2 c p)
      = Math.cum Pf (fun s => Math.logsig (g (ix5 2 0 0 c s))) p := by
  rw [fscan_eq, ← win_all]
  refine fstep_at 64 (by decide) (by decide) _ c _ ?_ p
  refine fstep_at 32 (by decide) (by decide) _ c _ ?_
  refine fstep_at 16 (by decide) (by decide) _ c _ ?_
  refine fstep_at 8 (by decide) (by decide) _ c _ ?_
  refine fstep_at 4 (by decide) (by decide) _ c _ ?_
  refine fstep_at 2 (by decide) (by decide) _ c _ ?_
  refine fstep_at 1 (by decide) (by decide) _ c _ ?_
  intro p
  rw [win_one, lsig_at]
  pointwise [k0_pay97]

theorem bscan_at (c : Fin 32) (p : Fin 128) :
    k0_pay106 (iota .tc S32x128 32 [1] iota_S32x128_d1_w32) (k0_pay102 (k0_pay97 g)) k0_pay103 (k0_pay104 (k0_pay97 g)) k0_pay105 (ix2 c p)
      = Math.cum Pb (fun s => Math.logsig (g (ix5 3 0 0 c s))) p := by
  rw [bscan_eq, ← wib_all]
  refine bstep_at 64 (by decide) (by decide) _ c _ ?_ p
  refine bstep_at 32 (by decide) (by decide) _ c _ ?_
  refine bstep_at 16 (by decide) (by decide) _ c _ ?_
  refine bstep_at 8 (by decide) (by decide) _ c _ ?_
  refine bstep_at 4 (by decide) (by decide) _ c _ ?_
  refine bstep_at 2 (by decide) (by decide) _ c _ ?_
  refine bstep_at 1 (by decide) (by decide) _ c _ ?_
  intro p
  rw [wib_one, lsig_at]
  pointwise [k0_pay97]

/-- The normalised and gated output. -/
def gated (hm : Fin 256 → EReal) (g o : Fin 256 → EReal) (e : Fin 256) : EReal :=
  Ideal.logistic (o e) * (hm e * Ideal.rsqrt (Ideal.div (∑ x, hm x * hm x) (Ideal.ofBits .f32 1132462080#32)
    + Ideal.ofBits .f32 897988541#32) * g e)

theorem pay119_at (x y : Vec Ideal S128x256 .f32) (g : Vec Ideal S1x256 .f32) (o : Vec Ideal S1x128x256 .bf16) (p : Fin 128) (e : Fin 256) :
    k0_pay119 x y g o (ix3 0 p e)
      = gated (fun e => x (ix2 p e) + y (ix2 p e)) (fun e => g (ix2 0 e)) (fun e => o (ix3 0 p e)) e := by
  unfold gated
  pointwise [k0_pay119]

end Cert.KernelIdeal.Mlstm
end
-- ==== Proof.Mlstm.Spec.lean ====
/- The recurrence over the chunks, in either direction, and one trip of a loop as one step of it. -/
module

public import proofs.«01_k».proof.Proof.Mlstm.PreAt
public import Idealize.ShloMosaic.Lib.VecWindow
public import Idealize.ShloMosaic.Lib.WritesUnit

@[expose] public section

set_option maxRecDepth 16384

noncomputable section

namespace Cert.KernelIdeal.Mlstm

open Idealize.ShloMosaic Idealize.ShloMosaic.TcCoe
open Cert.KernelIdeal.Gen Cert.Proof

/-- What the recurrence takes from one chunk: queries, keys, values, the cumulative forget gates, the input gates. -/
structure Chunk where
  q : Fin 128 → Fin 256 → EReal
  k : Fin 128 → Fin 256 → EReal
  v : Fin 128 → Fin 256 → EReal
  b : Fin 128 → EReal
  i : Fin 128 → EReal

/-- The matrix with its column of sums, and the stabiliser. -/
abbrev State := (Fin 256 → Fin 384 → EReal) × EReal

/-- The state after a chunk. -/
def next (l : Fin 128) (D : Chunk) (σ : State) : State :=
  (fun d e => Math.cnext l D.b D.i D.k (ones D.v) σ.1 σ.2 d e, Math.mnext l D.b D.i σ.2)

/-- The output of a chunk. -/
def outC (P : Fin 128 → Fin 128 → Bool) (D : Chunk) (σ : State) (t : Fin 128) (e : Fin 256) : EReal :=
  outOf (Math.numer P D.b D.i D.q D.k (ones D.v) σ.1 σ.2 t) (Math.stab P D.b D.i σ.2 t) e

/-- The states before each chunk, from zeros. -/
def states (l : Fin 128) (D : ℕ → Chunk) : ℕ → State
  | 0 => (fun _ _ => 0, 0)
  | n + 1 => next l (D n) (states l D n)

/-- The chunks' outputs. -/
def outs (P : Fin 128 → Fin 128 → Bool) (l : Fin 128) (D : ℕ → Chunk) (n : ℕ) : Fin 128 → Fin 256 → EReal :=
  outC P (D n) (states l D n)

/-- What one head of one sequence is given. -/
structure Inp where
  xq : Fin 4096 → Fin 256 → EReal
  xk : Fin 4096 → Fin 256 → EReal
  xv : Fin 4096 → Fin 256 → EReal
  xo : Fin 4096 → Fin 256 → EReal
  wq : Fin 5 → Fin 256 → EReal
  wk : Fin 5 → Fin 256 → EReal
  bq : Fin 256 → EReal
  bk : Fin 256 → EReal
  g : Fin 4 → Fin 32 → Fin 128 → EReal
  h : Fin 256 → EReal

/-- The row of a chunk's position. -/
def row (c : Fin 32) (p : Fin 128) : Fin 4096 := ⟨128 * c.val + p.val, by omega⟩

/-- The chunks in their order, and from the last. -/
def cf (n : ℕ) : Fin 32 := ⟨n % 32, Nat.mod_lt _ (by decide)⟩
def cb (n : ℕ) : Fin 32 := ⟨31 - n % 32, by omega⟩

variable (I : Inp)

/-- The chunk at a place, for the gates of one direction. -/
def chunk (P : Fin 128 → Fin 128 → Bool) (gi gf : Fin 4) (c : Fin 32) : Chunk where
  q t d := conv I.xq I.wq I.bq (128 * c.val + t.val) d * Ideal.ofBits .f32 1031798784#32
  k s d := conv I.xk I.wk I.bk (128 * c.val + s.val) d
  v s e := I.xv (row c s) e
  b := Math.cum P fun s => Math.logsig (I.g gf c s)
  i := I.g gi c

def dF (n : ℕ) : Chunk := chunk I Pf 0 2 (cf n)
def dB (n : ℕ) : Chunk := chunk I Pb 1 3 (cb n)
def sF : ℕ → State := states 127 (dF I)
def sB : ℕ → State := states 0 (dB I)
def oF : ℕ → Fin 128 → Fin 256 → EReal := outs Pf 127 (dF I)
def oB : ℕ → Fin 128 → Fin 256 → EReal := outs Pb 0 (dB I)

/-- The output of the head: both directions' sum at each row, normalised and gated. -/
def block (c : Fin 32) (p : Fin 128) (e : Fin 256) : EReal :=
  gated (fun e => oF I c.val p e + oB I (31 - c.val) p e) I.h (I.xo (row c p)) e

/-! ### Reading a window -/

theorem rdAt {sig : RefSig} {κ : Kind} {sp : Space} {s : Shape} {e : EltTy} {Val : EltTy → Type} (v : View sig κ sp s e)
    (f : v.ty.Contents Val) {off off' size : Fin s.rank → ℕ} (inb : ∀ a, off a + size a ≤ s.size a) (h : off = off')
    (x : (Rect.unit off size inb).shape.Idx) (y : s.Idx) (hx : ∀ a, (y a).val = off' a + (x a).val) :
    v.readAt Val (Rect.unit off size inb).toLoadRect f x = v.read Val f y := by
  subst h
  exact congrArg (v.read Val f) (funext fun a => Fin.ext (by
    show off a + 1 * (x a).val = (y a).val
    have := hx a; omega))

section Step
variable (P : Fin 128 → Fin 128 → Bool) (l : Fin 128) (mask : IVec S128x128 1) (last : IVec S1x128 32)
  (hl : ∀ s, last (ix2 0 s) = BitVec.ofNat 32 l.val) (hm : ∀ t s, mask (ix2 t s) = BitVec.ofBool (P t s))
include hl hm

theorem step_of (D : Chunk) (σ : State) (q : Vec Ideal S128x256 .bf16) (kt : Vec Ideal S1x256x128 .bf16) (v : Vec Ideal S1x128x256 .bf16)
    (b r : Vec Ideal S1x1x128 .f32) (c : Vec Ideal S1x256x384 .f32) (m : FVec Ideal S1x1 .f32)
    (hq : ∀ t d, q (ix2 t d) = D.q t d) (hk : ∀ d s, kt (ix3 0 d s) = D.k s d) (hv : ∀ s e, v (ix3 0 s e) = D.v s e)
    (hb : ∀ s, b (ix3 0 0 s) = D.b s) (hr : ∀ s, r (ix3 0 0 s) = D.i s - D.b s) (hc : ∀ d e, c (ix3 0 d e) = σ.1 d e)
    (hmm : m (ix2 0 0) = σ.2) :
    chM lns last b r m (ix2 0 0) = (next l D σ).2
      ∧ (∀ d e, chC rws cls lns mask last q kt v b r c m (ix3 0 d e) = (next l D σ).1 d e)
      ∧ ∀ t e, chH rws cls lns mask last q kt v b r c m (ix2 t e) = outC P D σ t e := by
  have hr' : ∀ s, r (ix3 0 0 s) = D.i s - b (ix3 0 0 s) := fun s => by rw [hr, hb]
  refine ⟨?_, fun d e => ?_, fun t e => ?_⟩
  · rw [chM_at last b r m hl hr']; simp only [hb, hmm]; rfl
  · rw [chC_at mask last q kt v b r c m hl hm hr' d e]; simp only [hb, hmm, hk, hv, hc]; rfl
  · rw [chH_at mask last q kt v b r c m hl hm hr' t e]; simp only [hb, hmm, hk, hv, hc, hq]; rfl

variable (arg4 : Memref sig .tc .vmem S1x4096x256 .bf16) (arg13 : Memref sig .tc .vmem S4096x256 .bf16)
  (arg14 : Memref sig .tc .vmem S32x256x128 .bf16) (arg15 : Memref sig .tc .vmem S4x32x128 .f32)
  (arg17 : Memref sig .tc .vmem S2x256x384 .f32)
  (X4 : BufTy.Contents (Elt Ideal) arg4.view.ty) (X13 : BufTy.Contents (Elt Ideal) arg13.view.ty)
  (X14 : BufTy.Contents (Elt Ideal) arg14.view.ty) (X15 : BufTy.Contents (Elt Ideal) arg15.view.ty)
  (X17 : BufTy.Contents (Elt Ideal) arg17.view.ty)

/-- The step with its loads: everything read at the chunk's place. -/
theorem step_at (cc : Fin 32) (D : Chunk) (σ : State) (m : FVec Ideal S1x1 .f32) (g0 g1 : Fin 4) (z : Fin 2)
    (hq : ∀ t d, arg13.view.read (Elt Ideal) X13 (ix2 (row cc t) d) = D.q t d)
    (hk : ∀ d s, arg14.view.read (Elt Ideal) X14 (ix3 cc d s) = D.k s d)
    (hv : ∀ s e, arg4.view.read (Elt Ideal) X4 (ix3 0 (row cc s) e) = D.v s e)
    (hb : ∀ s, arg15.view.read (Elt Ideal) X15 (ix3 g0 cc s) = D.b s)
    (hr : ∀ s, arg15.view.read (Elt Ideal) X15 (ix3 g1 cc s) = D.i s - D.b s)
    (hc : ∀ d e, arg17.view.read (Elt Ideal) X17 (ix3 z d e) = σ.1 d e) (hmm : m (ix2 0 0) = σ.2)
    {oq : Fin S4096x256.rank → ℕ} {ok : Fin S32x256x128.rank → ℕ} {ov : Fin S1x4096x256.rank → ℕ}
    {ob or : Fin S4x32x128.rank → ℕ} {oc : Fin S2x256x384.rank → ℕ}
    (iq : ∀ a, oq a + S128x256.size a ≤ S4096x256.size a) (ik : ∀ a, ok a + S1x256x128.size a ≤ S32x256x128.size a)
    (iv : ∀ a, ov a + S1x128x256.size a ≤ S1x4096x256.size a) (ib : ∀ a, ob a + S1x1x128.size a ≤ S4x32x128.size a)
    (ir : ∀ a, or a + S1x1x128.size a ≤ S4x32x128.size a) (ic : ∀ a, oc a + S1x256x384.size a ≤ S2x256x384.size a)
    {nq nk nv nb nr : ℕ}
    (eq : oq = ![nq, 0]) (ek : ok = ![nk, 0, 0]) (ev : ov = ![0, nv, 0]) (eb : ob = ![g0.val, nb, 0]) (er : or = ![g1.val, nr, 0])
    (ec : oc = ![z.val, 0, 0]) (fq : nq = 128 * cc.val) (fk : nk = cc.val) (fv : nv = 128 * cc.val) (fb : nb = cc.val) (fr : nr = cc.val) :
    let q := View.readAt (Elt Ideal) arg13.view (Rect.unit (s := S4096x256) oq S128x256.size iq).toLoadRect X13
    let kt := View.readAt (Elt Ideal) arg14.view (Rect.unit (s := S32x256x128) ok S1x256x128.size ik).toLoadRect X14
    let v := View.readAt (Elt Ideal) arg4.view (Rect.unit (s := S1x4096x256) ov S1x128x256.size iv).toLoadRect X4
    let b := View.readAt (Elt Ideal) arg15.view (Rect.unit (s := S4x32x128) ob S1x1x128.size ib).toLoadRect X15
    let r := View.readAt (Elt Ideal) arg15.view (Rect.unit (s := S4x32x128) or S1x1x128.size ir).toLoadRect X15
    let c := View.readAt (Elt Ideal) arg17.view (Rect.unit (s := S2x256x384) oc S1x256x384.size ic).toLoadRect X17
    chM lns last b r m (ix2 0 0) = (next l D σ).2
      ∧ (∀ d e, chC rws cls lns mask last q kt v b r c m (ix3 0 d e) = (next l D σ).1 d e)
      ∧ ∀ t e, chH rws cls lns mask last q kt v b r c m (ix2 t e) = outC P D σ t e := by
  subst fq fk fv fb fr
  refine step_of P l mask last hl hm D σ _ _ _ _ _ _ m (fun t d => ?_) (fun d s => ?_) (fun s e => ?_) (fun s => ?_)
    (fun s => ?_) (fun d e => ?_) hmm
  · rw [← hq]; exact rdAt _ _ _ eq _ _ fun a => by fin_cases a <;> simp [row]
  · rw [← hk]; exact rdAt _ _ _ ek _ _ fun a => by fin_cases a <;> simp
  · rw [← hv]; exact rdAt _ _ _ ev _ _ fun a => by fin_cases a <;> simp [row]
  · rw [← hb]; exact rdAt _ _ _ eb _ _ fun a => by fin_cases a <;> simp
  · rw [← hr]; exact rdAt _ _ _ er _ _ fun a => by fin_cases a <;> simp
  · rw [← hc]; exact rdAt _ _ _ ec _ _ fun a => by fin_cases a <;> simp
end Step

theorem upTo_at (t s : Fin 128) : upTo rws cls (ix2 t s) = BitVec.ofBool (Pf t s) := by
  unfold Pf
  pointwise []
  exact WordCmp.cmpi_sle_ofNat (by have := s.isLt; norm_num; omega) (by have := t.isLt; norm_num; omega)
theorem onFrom_at (t s : Fin 128) : onFrom rws cls (ix2 t s) = BitVec.ofBool (Pb t s) := by
  unfold Pb
  pointwise []
  exact WordCmp.cmpi_sge_ofNat (by have := s.isLt; norm_num; omega) (by have := t.isLt; norm_num; omega)
theorem lane127_at (s : Fin 128) : lane127 (ix2 0 s) = BitVec.ofNat 32 (127 : Fin 128).val := rfl
theorem lane0_at (s : Fin 128) : lane0 (ix2 0 s) = BitVec.ofNat 32 (0 : Fin 128).val := rfl

end Cert.KernelIdeal.Mlstm
end
-- ==== Proof.Mlstm.Loops.lean ====
/- What the loops leave: the queries and keys of every chunk, then the states and outputs of the recurrence. -/
module

public import proofs.«01_k».proof.Proof.Mlstm.Trip
public import proofs.«01_k».proof.Proof.Mlstm.Spec

@[expose] public section

set_option maxRecDepth 16384

noncomputable section

namespace Cert.KernelIdeal.Mlstm

open Idealize.ShloMosaic Idealize.ShloMosaic.TcCoe
open Cert.KernelIdeal.Gen Cert.Proof

theorem off2_eq : ∀ k : Fin k0_t1_loop.trips, k0_off2 k = ![0, 128 * k.val - 16, 0] := by decide +kernel

theorem cf_val {n : ℕ} (h : n < 32) : (cf n).val = n := Nat.mod_eq_of_lt h
theorem cb_val {n : ℕ} (h : n < 32) : (cb n).val = 31 - n := by show 31 - n % 32 = _; rw [Nat.mod_eq_of_lt h]

variable (I : Inp)

variable (𝒱 : Variants) (c : Dev nD) (bd : Option 𝒱.V) (i : grid0.Coords)
  (arg2 : Memref sig .tc .vmem S1x4096x256 .bf16) (harg2 : arg2.IsWhole)
  (arg3 : Memref sig .tc .vmem S1x4096x256 .bf16) (harg3 : arg3.IsWhole)
  (arg4 : Memref sig .tc .vmem S1x4096x256 .bf16) (harg4 : arg4.IsWhole)
  (arg5 : Memref sig .tc .vmem S1x4096x256 .bf16) (harg5 : arg5.IsWhole)
  (arg6 : Memref sig .tc .vmem S5x256 .f32) (harg6 : arg6.IsWhole)
  (arg7 : Memref sig .tc .vmem S5x256 .f32) (harg7 : arg7.IsWhole)
  (arg8 : Memref sig .tc .vmem S1x256 .f32) (harg8 : arg8.IsWhole)
  (arg9 : Memref sig .tc .vmem S1x256 .f32) (harg9 : arg9.IsWhole)
  (arg10 : Memref sig .tc .vmem S4x1x1x32x128 .f32) (harg10 : arg10.IsWhole)
  (arg11 : Memref sig .tc .vmem S1x256 .f32) (harg11 : arg11.IsWhole)
  (arg12 : Memref sig .tc .vmem S1x4096x256 .bf16) (harg12 : arg12.IsWhole)
  (arg13 : Memref sig .tc .vmem S4096x256 .bf16) (harg13 : arg13.IsWhole)
  (arg14 : Memref sig .tc .vmem S32x256x128 .bf16) (harg14 : arg14.IsWhole)
  (arg15 : Memref sig .tc .vmem S4x32x128 .f32) (harg15 : arg15.IsWhole)
  (arg16 : Memref sig .tc .vmem S4096x256 .f32) (harg16 : arg16.IsWhole)
  (arg17 : Memref sig .tc .vmem S2x256x384 .f32) (harg17 : arg17.IsWhole)

section First
variable (X2 : BufTy.Contents (Elt Ideal) arg2.view.ty) (X3 : BufTy.Contents (Elt Ideal) arg3.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (G13 : BufTy.Contents (Elt Ideal) arg13.view.ty) (G14 : BufTy.Contents (Elt Ideal) arg14.view.ty)
  (h2 : ∀ r e, arg2.view.read (Elt Ideal) X2 (ix3 0 r e) = I.xq r e) (h3 : ∀ r e, arg3.view.read (Elt Ideal) X3 (ix3 0 r e) = I.xk r e)
  (h6 : ∀ j e, arg6.view.read (Elt Ideal) X6 (ix2 j e) = I.wq j e) (h7 : ∀ j e, arg7.view.read (Elt Ideal) X7 (ix2 j e) = I.wk j e)
  (h8 : ∀ e, arg8.view.read (Elt Ideal) X8 (ix2 0 e) = I.bq e) (h9 : ∀ e, arg9.view.read (Elt Ideal) X9 (ix2 0 e) = I.bk e)
include h2 h3 h6 h7 h8 h9

theorem first_inv (n : ℕ) (hn : n ≤ 32) :
    (∀ m : Fin 32, m.val < n → ∀ t e, arg13.view.read (Elt Ideal) (arg13.view.writes (Elt Ideal) G13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X6 X7 X8 X9 n).1) (ix2 (row m t) e)
        = conv I.xq I.wq I.bq (128 * m.val + t.val) e * Ideal.ofBits .f32 1031798784#32)
    ∧ (∀ m : Fin 32, m.val < n → ∀ e t, arg14.view.read (Elt Ideal) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X6 X7 X8 X9 n).2) (ix3 m e t)
        = conv I.xk I.wk I.bk (128 * m.val + t.val) e) := by
  induction n with
  | zero => exact ⟨fun m h => absurd h (by omega), fun m h => absurd h (by omega)⟩
  | succ n ih =>
    obtain ⟨ih1, ih2⟩ := ih (by omega)
    have hk : n < k0_t1_loop.trips := by rw [t1_trips]; omega
    have E := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X6 X7 X8 X9 ⟨n, hk⟩
    rw [tripL1] at E
    dsimp only at E
    rw [E]
    generalize pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X6 X7 X8 X9 n = S at ih1 ih2
    refine ⟨fun m hm t e => ?_, fun m hm e t => ?_⟩
    · by_cases hmn : m.val = n
      · subst hmn
        refine (View.read_writes_cons_unit_of_mem _ _ _ _ _ _ (ix2 t e) (k0_off4_eq _) fun a => by
          fin_cases a <;> simp [row]).trans ?_
        refine (pay5_at (X := I.xq) ⟨_, hk⟩ _ _ _ _ _
          (fun p e => (rdAt _ _ _ (k0_off1_eq _) _ (ix3 0 ⟨128 * m.val + p.val, by omega⟩ e) fun a => by fin_cases a <;> simp).trans (h2 _ _))
          (fun p e => (rdAt _ _ _ (off2_eq _) _ (ix3 0 ⟨128 * m.val - 16 + p.val, by omega⟩ e) fun a => by fin_cases a <;> simp).trans (h2 _ _))
          (fun p e => (rdAt _ _ _ (k0_off3_eq _) _ (ix3 0 ⟨min (128 * m.val + 128) 4080 + p.val, by omega⟩ e) fun a => by fin_cases a <;> simp).trans (h2 _ _)) _ _).trans ?_
        exact congrArg₂ (fun w b => conv I.xq w b (128 * m.val + t.val) e * Ideal.ofBits .f32 1031798784#32)
          (funext fun j => funext fun e => (rdAt _ _ _ rfl _ (ix2 j e) fun a => by fin_cases a <;> simp).trans (h6 j e))
          (funext fun e => (rdAt _ _ _ rfl _ (ix2 0 e) fun a => by fin_cases a <;> simp).trans (h8 e))
      · refine (View.read_writes_cons_unit_of_not_mem _ _ _ _ _ _ (k0_off4_eq _) (0 : Fin 2) ?_).trans (ih1 m (by omega) t e)
        left; show 128 * m.val + t.val < 128 * n; omega
    · by_cases hmn : m.val = n
      · subst hmn
        refine (View.read_writes_cons_unit_of_mem _ _ _ _ _ _ (ix3 0 e t) (k0_off5_eq _) fun a => by
          fin_cases a <;> simp).trans ?_
        refine (pay96_at (X := I.xk) ⟨_, hk⟩ _ _ _ _ _
          (fun p e => (rdAt _ _ _ (k0_off1_eq _) _ (ix3 0 ⟨128 * m.val + p.val, by omega⟩ e) fun a => by fin_cases a <;> simp).trans (h3 _ _))
          (fun p e => (rdAt _ _ _ (off2_eq _) _ (ix3 0 ⟨128 * m.val - 16 + p.val, by omega⟩ e) fun a => by fin_cases a <;> simp).trans (h3 _ _))
          (fun p e => (rdAt _ _ _ (k0_off3_eq _) _ (ix3 0 ⟨min (128 * m.val + 128) 4080 + p.val, by omega⟩ e) fun a => by fin_cases a <;> simp).trans (h3 _ _)) _ _).trans ?_
        exact congrArg₂ (fun w b => conv I.xk w b (128 * m.val + t.val) e )
          (funext fun j => funext fun e => (rdAt _ _ _ rfl _ (ix2 j e) fun a => by fin_cases a <;> simp).trans (h7 j e))
          (funext fun e => (rdAt _ _ _ rfl _ (ix2 0 e) fun a => by fin_cases a <;> simp).trans (h9 e))
      · refine (View.read_writes_cons_unit_of_not_mem _ _ _ _ _ _ (k0_off5_eq _) (0 : Fin 3) ?_).trans (ih2 m (by omega) e t)
        left; show m.val < n; omega
end First

section T2
variable (X4 : BufTy.Contents (Elt Ideal) arg4.view.ty) (X13 : BufTy.Contents (Elt Ideal) arg13.view.ty) (X14 : BufTy.Contents (Elt Ideal) arg14.view.ty) (X15 : BufTy.Contents (Elt Ideal) arg15.view.ty) (G16 : BufTy.Contents (Elt Ideal) arg16.view.ty) (G17 : BufTy.Contents (Elt Ideal) arg17.view.ty)
  (init : FVec Ideal S1x1 .f32 × FVec Ideal S1x1 .f32)
  (h4 : ∀ r e, arg4.view.read (Elt Ideal) X4 (ix3 0 r e) = I.xv r e)
  (h13 : ∀ (m : Fin 32) t e, arg13.view.read (Elt Ideal) X13 (ix2 (row m t) e) = conv I.xq I.wq I.bq (128 * m.val + t.val) e * Ideal.ofBits .f32 1031798784#32)
  (h14 : ∀ (m : Fin 32) e t, arg14.view.read (Elt Ideal) X14 (ix3 m e t) = conv I.xk I.wk I.bk (128 * m.val + t.val) e)
  (h150 : ∀ m s, arg15.view.read (Elt Ideal) X15 (ix3 0 m s) = Math.cum Pf (fun s => Math.logsig (I.g 2 m s)) s)
  (h151 : ∀ m s, arg15.view.read (Elt Ideal) X15 (ix3 1 m s) = I.g 0 m s - Math.cum Pf (fun s => Math.logsig (I.g 2 m s)) s)
  (h152 : ∀ m s, arg15.view.read (Elt Ideal) X15 (ix3 2 m s) = Math.cum Pb (fun s => Math.logsig (I.g 3 m s)) s)
  (h153 : ∀ m s, arg15.view.read (Elt Ideal) X15 (ix3 3 m s) = I.g 1 m s - Math.cum Pb (fun s => Math.logsig (I.g 3 m s)) s)
  (g170 : ∀ d e, arg17.view.read (Elt Ideal) G17 (ix3 0 d e) = (sF I 0).1 d e)
  (g171 : ∀ d e, arg17.view.read (Elt Ideal) G17 (ix3 1 d e) = (sB I 0).1 d e)
  (i1 : init.1 (ix2 0 0) = (sF I 0).2) (i2 : init.2 (ix2 0 0) = (sB I 0).2)
include h4 h13 h14 h150 h151 h152 h153 g170 g171 i1 i2

theorem inv2 (n : ℕ) (hn : n ≤ 16) :
    (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X13 X14 X15 G16 G17 init n).1.1 (ix2 0 0) = (sF I n).2
    ∧ (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X13 X14 X15 G16 G17 init n).1.2 (ix2 0 0) = (sB I n).2
    ∧ (∀ d e, arg17.view.read (Elt Ideal) (arg17.view.writes (Elt Ideal) G17 (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X13 X14 X15 G16 G17 init n).2.2) (ix3 0 d e) = (sF I n).1 d e)
    ∧ (∀ d e, arg17.view.read (Elt Ideal) (arg17.view.writes (Elt Ideal) G17 (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X13 X14 X15 G16 G17 init n).2.2) (ix3 1 d e) = (sB I n).1 d e)
    ∧ (∀ m, m < n → ∀ p e, arg16.view.read (Elt Ideal) (arg16.view.writes (Elt Ideal) G16 (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X13 X14 X15 G16 G17 init n).2.1) (ix2 (row (cf m) p) e) = oF I m p e)
    ∧ (∀ m, m < n → ∀ p e, arg16.view.read (Elt Ideal) (arg16.view.writes (Elt Ideal) G16 (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X13 X14 X15 G16 G17 init n).2.1) (ix2 (row (cb m) p) e) = oB I m p e) := by
  induction n with
  | zero => exact ⟨i1, i2, g170, g171, fun m h => absurd h (by omega), fun m h => absurd h (by omega)⟩
  | succ n ih =>
    obtain ⟨ih1, ih2, ih3, ih4, ih5, ih6⟩ := ih (by omega)
    have hk : n < k0_t2_loop.trips := by rw [t2_trips]; omega
    have E := st_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X13 X14 X15 G16 G17 init ⟨n, hk⟩
    rw [tripR2, tripL2] at E
    dsimp only at E
    rw [E]
    generalize st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X13 X14 X15 G16 G17 init n = S at ih1 ih2 ih3 ih4 ih5 ih6
    have hcf : (cf n).val = n := cf_val (by omega)
    have hcb : (cb n).val = 31 - n := cb_val (by omega)
    obtain ⟨fm, fc, fh⟩ := step_at Pf 127 (upTo rws cls) lane127 lane127_at upTo_at arg4 arg13 arg14 arg15 arg17
      X4 X13 X14 X15 (arg17.view.writes (Elt Ideal) G17 S.2.2) (cf n) (dF I n) (sF I n) S.1.1 0 1 0
      (fun t d => h13 _ t d) (fun d s => h14 _ d s) (fun s e => h4 _ e) (fun s => h150 _ s) (fun s => h151 _ s) ih3 ih1
      (k0_off6_inb ⟨n, hk⟩) (k0_off7_inb ⟨n, hk⟩) (k0_off8_inb ⟨n, hk⟩) (k0_off9_inb ⟨n, hk⟩) (k0_off10_inb ⟨n, hk⟩) inb_S2x256x384_S1x256x384_0_0_0
      (k0_off6_eq ⟨n, hk⟩) (k0_off7_eq ⟨n, hk⟩) (k0_off8_eq ⟨n, hk⟩) (k0_off9_eq ⟨n, hk⟩) (k0_off10_eq ⟨n, hk⟩) rfl (by simp only [hcf] <;> omega) (by simp only [hcf] <;> omega) (by simp only [hcf] <;> omega) (by simp only [hcf] <;> omega) (by simp only [hcf] <;> omega)
    obtain ⟨bm, bc, bh⟩ := step_at Pb 0 (onFrom rws cls) lane0 lane0_at onFrom_at arg4 arg13 arg14 arg15 arg17
      X4 X13 X14 X15 (arg17.view.writes (Elt Ideal) G17 S.2.2) (cb n) (dB I n) (sB I n) S.1.2 2 3 1
      (fun t d => h13 _ t d) (fun d s => h14 _ d s) (fun s e => h4 _ e) (fun s => h152 _ s) (fun s => h153 _ s) ih4 ih2
      (k0_off11_inb ⟨n, hk⟩) (k0_off12_inb ⟨n, hk⟩) (k0_off13_inb ⟨n, hk⟩) (k0_off14_inb ⟨n, hk⟩) (k0_off15_inb ⟨n, hk⟩) inb_S2x256x384_S1x256x384_1_0_0
      (k0_off11_eq ⟨n, hk⟩) (k0_off12_eq ⟨n, hk⟩) (k0_off13_eq ⟨n, hk⟩) (k0_off14_eq ⟨n, hk⟩) (k0_off15_eq ⟨n, hk⟩) rfl (by simp only [hcb] <;> omega) (by simp only [hcb] <;> omega) (by simp only [hcb] <;> omega) (by simp only [hcb] <;> omega) (by simp only [hcb] <;> omega)
    refine ⟨fm, bm, fun d e => ?_, fun d e => ?_, fun m hm p e => ?_, fun m hm p e => ?_⟩
    · refine (View.read_writes_cons_unit_of_not_mem _ _ _ _ _ _ rfl (0 : Fin 3) (by left; show (0 : ℕ) < 1; omega)).trans ?_
      refine (View.read_writes_cons_unit_of_mem _ _ _ _ _ _ (ix3 0 d e) rfl fun a => by fin_cases a <;> simp).trans ?_
      exact fc d e
    · refine (View.read_writes_cons_unit_of_mem _ _ _ _ _ _ (ix3 0 d e) rfl fun a => by fin_cases a <;> simp).trans ?_
      exact bc d e
    · have hcm : (cf m).val = m := cf_val (by omega)
      refine (View.read_writes_cons_unit_of_not_mem _ _ _ _ _ _ (k0_off11_eq _) (0 : Fin 2) (by
        left; show 128 * (cf m).val + p.val < 3968 - 128 * n; omega)).trans ?_
      by_cases hmn : m = n
      · subst hmn
        refine (View.read_writes_cons_unit_of_mem _ _ _ _ _ _ (ix2 p e) (k0_off6_eq _) fun a => by
          fin_cases a <;> simp [row, hcm]).trans ?_
        refine Eq.trans ?_ (fh p e)
        pointwise [k0_pay31]
      · refine (View.read_writes_cons_unit_of_not_mem _ _ _ _ _ _ (k0_off6_eq _) (0 : Fin 2) ?_).trans (ih5 m (by omega) p e)
        left; show 128 * (cf m).val + p.val < 128 * n; omega
    · have hcm : (cb m).val = 31 - m := cb_val (by omega)
      by_cases hmn : m = n
      · subst hmn
        refine (View.read_writes_cons_unit_of_mem _ _ _ _ _ _ (ix2 p e) (k0_off11_eq _) fun a => by
          fin_cases a <;> simp [row, hcm]; omega).trans ?_
        refine Eq.trans ?_ (bh p e)
        pointwise [k0_pay31]
      · refine (View.read_writes_cons_unit_of_not_mem _ _ _ _ _ _ (k0_off11_eq _) (0 : Fin 2) (by
          right; show 3968 - 128 * n + 128 ≤ 128 * (cb m).val + p.val; omega)).trans ?_
        refine (View.read_writes_cons_unit_of_not_mem _ _ _ _ _ _ (k0_off6_eq _) (0 : Fin 2) (by
          right; show 128 * n + 128 ≤ 128 * (cb m).val + p.val; omega)).trans (ih6 m (by omega) p e)
end T2

section T3
variable (X4 : BufTy.Contents (Elt Ideal) arg4.view.ty) (X5 : BufTy.Contents (Elt Ideal) arg5.view.ty) (X11 : BufTy.Contents (Elt Ideal) arg11.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (G12 : BufTy.Contents (Elt Ideal) arg12.view.ty) (G17 : BufTy.Contents (Elt Ideal) arg17.view.ty)
  (init : FVec Ideal S1x1 .f32 × FVec Ideal S1x1 .f32)
  (h4 : ∀ r e, arg4.view.read (Elt Ideal) X4 (ix3 0 r e) = I.xv r e)
  (h13 : ∀ (m : Fin 32) t e, arg13.view.read (Elt Ideal) X13 (ix2 (row m t) e) = conv I.xq I.wq I.bq (128 * m.val + t.val) e * Ideal.ofBits .f32 1031798784#32)
  (h14 : ∀ (m : Fin 32) e t, arg14.view.read (Elt Ideal) X14 (ix3 m e t) = conv I.xk I.wk I.bk (128 * m.val + t.val) e)
  (h150 : ∀ m s, arg15.view.read (Elt Ideal) X15 (ix3 0 m s) = Math.cum Pf (fun s => Math.logsig (I.g 2 m s)) s)
  (h151 : ∀ m s, arg15.view.read (Elt Ideal) X15 (ix3 1 m s) = I.g 0 m s - Math.cum Pf (fun s => Math.logsig (I.g 2 m s)) s)
  (h152 : ∀ m s, arg15.view.read (Elt Ideal) X15 (ix3 2 m s) = Math.cum Pb (fun s => Math.logsig (I.g 3 m s)) s)
  (h153 : ∀ m s, arg15.view.read (Elt Ideal) X15 (ix3 3 m s) = I.g 1 m s - Math.cum Pb (fun s => Math.logsig (I.g 3 m s)) s)
  (h5 : ∀ r e, arg5.view.read (Elt Ideal) X5 (ix3 0 r e) = I.xo r e) (h11 : ∀ e, arg11.view.read (Elt Ideal) X11 (ix2 0 e) = I.h e)
  (h16f : ∀ m, m < 16 → ∀ p e, arg16.view.read (Elt Ideal) X16 (ix2 (row (cf m) p) e) = oF I m p e)
  (h16b : ∀ m, m < 16 → ∀ p e, arg16.view.read (Elt Ideal) X16 (ix2 (row (cb m) p) e) = oB I m p e)
  (g170 : ∀ d e, arg17.view.read (Elt Ideal) G17 (ix3 0 d e) = (sF I 16).1 d e)
  (g171 : ∀ d e, arg17.view.read (Elt Ideal) G17 (ix3 1 d e) = (sB I 16).1 d e)
  (i1 : init.1 (ix2 0 0) = (sF I 16).2) (i2 : init.2 (ix2 0 0) = (sB I 16).2)
include h4 h13 h14 h150 h151 h152 h153 g170 g171 i1 i2 h5 h11 h16f h16b

theorem inv3 (n : ℕ) (hn : n ≤ 16) :
    (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X5 X11 X13 X14 X15 X16 G12 G17 init n).1.1 (ix2 0 0) = (sF I (16 + n)).2
    ∧ (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X5 X11 X13 X14 X15 X16 G12 G17 init n).1.2 (ix2 0 0) = (sB I (16 + n)).2
    ∧ (∀ d e, arg17.view.read (Elt Ideal) (arg17.view.writes (Elt Ideal) G17 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X5 X11 X13 X14 X15 X16 G12 G17 init n).2.2) (ix3 0 d e) = (sF I (16 + n)).1 d e)
    ∧ (∀ d e, arg17.view.read (Elt Ideal) (arg17.view.writes (Elt Ideal) G17 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X5 X11 X13 X14 X15 X16 G12 G17 init n).2.2) (ix3 1 d e) = (sB I (16 + n)).1 d e)
    ∧ (∀ m, m < n → ∀ p e, arg12.view.read (Elt Ideal) (arg12.view.writes (Elt Ideal) G12 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X5 X11 X13 X14 X15 X16 G12 G17 init n).2.1) (ix3 0 (row (cf (16 + m)) p) e) = block I (cf (16 + m)) p e)
    ∧ (∀ m, m < n → ∀ p e, arg12.view.read (Elt Ideal) (arg12.view.writes (Elt Ideal) G12 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X5 X11 X13 X14 X15 X16 G12 G17 init n).2.1) (ix3 0 (row (cb (16 + m)) p) e) = block I (cb (16 + m)) p e) := by
  induction n with
  | zero => exact ⟨i1, i2, g170, g171, fun m h => absurd h (by omega), fun m h => absurd h (by omega)⟩
  | succ n ih =>
    obtain ⟨ih1, ih2, ih3, ih4, ih5, ih6⟩ := ih (by omega)
    have hk : n < k0_t3_loop.trips := by rw [t3_trips]; omega
    have E := st_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X5 X11 X13 X14 X15 X16 G12 G17 init ⟨n, hk⟩
    rw [tripR3, tripL3] at E
    dsimp only at E
    rw [E]
    generalize st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X5 X11 X13 X14 X15 X16 G12 G17 init n = S at ih1 ih2 ih3 ih4 ih5 ih6
    have hcf : (cf (16 + n)).val = (16 + n) := cf_val (by omega)
    have hcb : (cb (16 + n)).val = 31 - (16 + n) := cb_val (by omega)
    obtain ⟨fm, fc, fh⟩ := step_at Pf 127 (upTo rws cls) lane127 lane127_at upTo_at arg4 arg13 arg14 arg15 arg17
      X4 X13 X14 X15 (arg17.view.writes (Elt Ideal) G17 S.2.2) (cf (16 + n)) (dF I (16 + n)) (sF I (16 + n)) S.1.1 0 1 0
      (fun t d => h13 _ t d) (fun d s => h14 _ d s) (fun s e => h4 _ e) (fun s => h150 _ s) (fun s => h151 _ s) ih3 ih1
      (k0_off16_inb ⟨n, hk⟩) (k0_off17_inb ⟨n, hk⟩) (k0_off18_inb ⟨n, hk⟩) (k0_off19_inb ⟨n, hk⟩) (k0_off20_inb ⟨n, hk⟩) inb_S2x256x384_S1x256x384_0_0_0
      (k0_off16_eq ⟨n, hk⟩) (k0_off17_eq ⟨n, hk⟩) (k0_off18_eq ⟨n, hk⟩) (k0_off19_eq ⟨n, hk⟩) (k0_off20_eq ⟨n, hk⟩) rfl (by simp only [hcf] <;> omega) (by simp only [hcf] <;> omega) (by simp only [hcf] <;> omega) (by simp only [hcf] <;> omega) (by simp only [hcf] <;> omega)
    obtain ⟨bm, bc, bh⟩ := step_at Pb 0 (onFrom rws cls) lane0 lane0_at onFrom_at arg4 arg13 arg14 arg15 arg17
      X4 X13 X14 X15 (arg17.view.writes (Elt Ideal) G17 S.2.2) (cb (16 + n)) (dB I (16 + n)) (sB I (16 + n)) S.1.2 2 3 1
      (fun t d => h13 _ t d) (fun d s => h14 _ d s) (fun s e => h4 _ e) (fun s => h152 _ s) (fun s => h153 _ s) ih4 ih2
      (k0_off21_inb ⟨n, hk⟩) (k0_off22_inb ⟨n, hk⟩) (k0_off23_inb ⟨n, hk⟩) (k0_off24_inb ⟨n, hk⟩) (k0_off25_inb ⟨n, hk⟩) inb_S2x256x384_S1x256x384_1_0_0
      (k0_off21_eq ⟨n, hk⟩) (k0_off22_eq ⟨n, hk⟩) (k0_off23_eq ⟨n, hk⟩) (k0_off24_eq ⟨n, hk⟩) (k0_off25_eq ⟨n, hk⟩) rfl (by simp only [hcb] <;> omega) (by simp only [hcb] <;> omega) (by simp only [hcb] <;> omega) (by simp only [hcb] <;> omega) (by simp only [hcb] <;> omega)
    refine ⟨fm, bm, fun d e => ?_, fun d e => ?_, fun m hm p e => ?_, fun m hm p e => ?_⟩
    · refine (View.read_writes_cons_unit_of_not_mem _ _ _ _ _ _ rfl (0 : Fin 3) (by left; show (0 : ℕ) < 1; omega)).trans ?_
      refine (View.read_writes_cons_unit_of_mem _ _ _ _ _ _ (ix3 0 d e) rfl fun a => by fin_cases a <;> simp).trans ?_
      exact fc d e
    · refine (View.read_writes_cons_unit_of_mem _ _ _ _ _ _ (ix3 0 d e) rfl fun a => by fin_cases a <;> simp).trans ?_
      exact bc d e
    · have hcm : (cf (16 + m)).val = 16 + m := cf_val (by omega)
      refine (View.read_writes_cons_unit_of_not_mem _ _ _ _ _ _ (k0_off23_eq _) (1 : Fin 3) (by
        right; show 1920 - 128 * n + 128 ≤ 128 * (cf (16 + m)).val + p.val; omega)).trans ?_
      by_cases hmn : m = n
      · subst hmn
        refine (View.read_writes_cons_unit_of_mem _ _ _ _ _ _ (ix3 0 p e) (k0_off18_eq _) fun a => by
          fin_cases a <;> simp [row, hcm]; omega).trans ?_
        rw [pay119_at]
        unfold block
        congr 1
        · funext e
          rw [hcm]
          refine congrArg₂ (HAdd.hAdd : EReal → EReal → EReal) (fh p e) ?_
          rw [← h16b (31 - (16 + m)) (by omega) p e]
          refine rdAt _ _ _ (k0_off16_eq _) _ _ fun a => ?_
          have : (cb (31 - (16 + m))).val = 16 + m := by rw [cb_val (by omega)]; omega
          fin_cases a <;> simp [row, this]; omega
        · funext e
          exact (rdAt _ _ _ rfl _ (ix2 0 e) fun a => by fin_cases a <;> simp).trans (h11 e)
        · funext e
          rw [← h5]
          refine rdAt _ _ _ (k0_off18_eq _) _ _ fun a => ?_
          fin_cases a <;> simp [row, hcm]; omega
      · refine (View.read_writes_cons_unit_of_not_mem _ _ _ _ _ _ (k0_off18_eq _) (1 : Fin 3) ?_).trans (ih5 m (by omega) p e)
        left; show 128 * (cf (16 + m)).val + p.val < 128 * n + 2048; omega
    · have hcm : (cb (16 + m)).val = 31 - (16 + m) := cb_val (by omega)
      by_cases hmn : m = n
      · subst hmn
        refine (View.read_writes_cons_unit_of_mem _ _ _ _ _ _ (ix3 0 p e) (k0_off23_eq _) fun a => by
          fin_cases a <;> simp [row, hcm]; omega).trans ?_
        rw [pay119_at]
        unfold block
        congr 1
        · funext e
          rw [hcm, show 31 - (31 - (16 + m)) = 16 + m by omega, add_comm (oF I _ p e)]
          refine congrArg₂ (HAdd.hAdd : EReal → EReal → EReal) (bh p e) ?_
          rw [← h16f (31 - (16 + m)) (by omega) p e]
          refine rdAt _ _ _ (k0_off21_eq _) _ _ fun a => ?_
          have : (cf (31 - (16 + m))).val = 31 - (16 + m) := cf_val (by omega)
          fin_cases a <;> simp [row, this]; omega
        · funext e
          exact (rdAt _ _ _ rfl _ (ix2 0 e) fun a => by fin_cases a <;> simp).trans (h11 e)
        · funext e
          rw [← h5]
          refine rdAt _ _ _ (k0_off23_eq _) _ _ fun a => ?_
          fin_cases a <;> simp [row, hcm]; omega
      · refine (View.read_writes_cons_unit_of_not_mem _ _ _ _ _ _ (k0_off23_eq _) (1 : Fin 3) (by
          right; show 1920 - 128 * n + 128 ≤ 128 * (cb (16 + m)).val + p.val; omega)).trans ?_
        refine (View.read_writes_cons_unit_of_not_mem _ _ _ _ _ _ (k0_off18_eq _) (1 : Fin 3) (by
          left; show 128 * (cb (16 + m)).val + p.val < 128 * n + 2048; omega)).trans (ih6 m (by omega) p e)
end T3

end Cert.KernelIdeal.Mlstm

end
-- ==== Proof.Mlstm.Run.lean ====
/- The body run to its end: its inputs and scratch as they were, its output block the head's output. -/
module

public import proofs.«01_k».proof.Proof.Mlstm.Loops
public import proofs.«01_k».proof.Proof.Gen.KernelIdeal.Frame.Runs
public import Idealize.ShloMosaic.Lib.WholeRead

@[expose] public section

set_option maxRecDepth 16384

noncomputable section

namespace Cert.KernelIdeal.Mlstm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Proof

local notation "𝕄" => MT nD τ sig Unit (Elt Ideal) ℕ (UR sig nD τ) ℕ

/-- What a head's windows hold. -/
def inp (x0 x1 x2 x3 : Vec Ideal S1x4096x256 .bf16) (x4 x5 : Vec Ideal S5x256 .f32) (x6 x7 : Vec Ideal S1x256 .f32)
    (x8 : Vec Ideal S4x1x1x32x128 .f32) (x9 : Vec Ideal S1x256 .f32) : Inp where
  xq r e := x0 (ix3 0 r e)
  xk r e := x1 (ix3 0 r e)
  xv r e := x2 (ix3 0 r e)
  xo r e := x3 (ix3 0 r e)
  wq j e := x4 (ix2 j e)
  wk j e := x5 (ix2 j e)
  bq e := x6 (ix2 0 e)
  bk e := x7 (ix2 0 e)
  g a c s := x8 (ix5 a 0 0 c s)
  h e := x9 (ix2 0 e)

/-- The output block of a head. -/
def bodyOut (x0 x1 x2 x3 : Vec Ideal S1x4096x256 .bf16) (x4 x5 : Vec Ideal S5x256 .f32) (x6 x7 : Vec Ideal S1x256 .f32)
    (x8 : Vec Ideal S4x1x1x32x128 .f32) (x9 : Vec Ideal S1x256 .f32) : Vec Ideal S1x4096x256 .bf16 := fun y =>
  block (inp x0 x1 x2 x3 x4 x5 x6 x7 x8 x9) ⟨(y (1 : Fin 3)).val / 128, by have := (y (1 : Fin 3)).isLt; change _ < 4096 at this; omega⟩
    ⟨(y (1 : Fin 3)).val % 128, by omega⟩ (y (2 : Fin 3))

theorem gates_read0 (I : Inp) (arg15 : Memref sig .tc .vmem S4x32x128 .f32) (J : BufTy.Contents (Elt Ideal) arg15.view.ty)
    (G : Vec Ideal S4x1x1x32x128 .f32) (hG : ∀ a m s, G (ix5 a 0 0 m s) = I.g a m s) (m : Fin 32) (s : Fin 128) :
    arg15.view.read (Elt Ideal) (arg15.view.writes (Elt Ideal) J
      [⟨Rect.unit (s := S4x32x128) ![3, 0, 0] S1x32x128.size inb_S4x32x128_S1x32x128_3_0_0, k0_pay111 (k0_pay97 G) (k0_pay106 (iota .tc S32x128 32 [1] iota_S32x128_d1_w32) (k0_pay102 (k0_pay97 G)) k0_pay103 (k0_pay104 (k0_pay97 G)) k0_pay105)⟩,
      ⟨Rect.unit (s := S4x32x128) ![2, 0, 0] S1x32x128.size inb_S4x32x128_S1x32x128_2_0_0, k0_pay110 (k0_pay106 (iota .tc S32x128 32 [1] iota_S32x128_d1_w32) (k0_pay102 (k0_pay97 G)) k0_pay103 (k0_pay104 (k0_pay97 G)) k0_pay105)⟩,
      ⟨Rect.unit (s := S4x32x128) ![1, 0, 0] S1x32x128.size inb_S4x32x128_S1x32x128_1_0_0, k0_pay109 (k0_pay108 (k0_pay97 G) (k0_pay101 (iota .tc S32x128 32 [1] iota_S32x128_d1_w32) (k0_pay98 G) k0_pay99 (k0_pay100 G)))⟩,
      ⟨Rect.unit (s := S4x32x128) ![0, 0, 0] S1x32x128.size inb_S4x32x128_S1x32x128_0_0_0, k0_pay107 (k0_pay101 (iota .tc S32x128 32 [1] iota_S32x128_d1_w32) (k0_pay98 G) k0_pay99 (k0_pay100 G))⟩]) (ix3 0 m s) = Math.cum Pf (fun s => Math.logsig (I.g 2 m s)) s := by
    refine (View.read_writes_cons_unit_of_not_mem _ _ _ _ _ _ rfl (0 : Fin 3) (by left; show (0 : ℕ) < 3; omega)).trans ?_
    refine (View.read_writes_cons_unit_of_not_mem _ _ _ _ _ _ rfl (0 : Fin 3) (by left; show (0 : ℕ) < 2; omega)).trans ?_
    refine (View.read_writes_cons_unit_of_not_mem _ _ _ _ _ _ rfl (0 : Fin 3) (by left; show (0 : ℕ) < 1; omega)).trans ?_
    refine (View.read_writes_cons_unit_of_mem _ _ _ _ _ _ (ix3 0 m s) rfl fun a => by fin_cases a <;> simp).trans ?_
    have f := fscan_at G m s
    simp only [hG] at f
    revert f
    generalize (k0_pay101 (iota .tc S32x128 32 [1] iota_S32x128_d1_w32) (k0_pay98 G) k0_pay99 (k0_pay100 G)) = B
    intro f
    pointwise [k0_pay107, f]

theorem gates_read1 (I : Inp) (arg15 : Memref sig .tc .vmem S4x32x128 .f32) (J : BufTy.Contents (Elt Ideal) arg15.view.ty)
    (G : Vec Ideal S4x1x1x32x128 .f32) (hG : ∀ a m s, G (ix5 a 0 0 m s) = I.g a m s) (m : Fin 32) (s : Fin 128) :
    arg15.view.read (Elt Ideal) (arg15.view.writes (Elt Ideal) J
      [⟨Rect.unit (s := S4x32x128) ![3, 0, 0] S1x32x128.size inb_S4x32x128_S1x32x128_3_0_0, k0_pay111 (k0_pay97 G) (k0_pay106 (iota .tc S32x128 32 [1] iota_S32x128_d1_w32) (k0_pay102 (k0_pay97 G)) k0_pay103 (k0_pay104 (k0_pay97 G)) k0_pay105)⟩,
      ⟨Rect.unit (s := S4x32x128) ![2, 0, 0] S1x32x128.size inb_S4x32x128_S1x32x128_2_0_0, k0_pay110 (k0_pay106 (iota .tc S32x128 32 [1] iota_S32x128_d1_w32) (k0_pay102 (k0_pay97 G)) k0_pay103 (k0_pay104 (k0_pay97 G)) k0_pay105)⟩,
      ⟨Rect.unit (s := S4x32x128) ![1, 0, 0] S1x32x128.size inb_S4x32x128_S1x32x128_1_0_0, k0_pay109 (k0_pay108 (k0_pay97 G) (k0_pay101 (iota .tc S32x128 32 [1] iota_S32x128_d1_w32) (k0_pay98 G) k0_pay99 (k0_pay100 G)))⟩,
      ⟨Rect.unit (s := S4x32x128) ![0, 0, 0] S1x32x128.size inb_S4x32x128_S1x32x128_0_0_0, k0_pay107 (k0_pay101 (iota .tc S32x128 32 [1] iota_S32x128_d1_w32) (k0_pay98 G) k0_pay99 (k0_pay100 G))⟩]) (ix3 1 m s) = I.g 0 m s - Math.cum Pf (fun s => Math.logsig (I.g 2 m s)) s := by
    refine (View.read_writes_cons_unit_of_not_mem _ _ _ _ _ _ rfl (0 : Fin 3) (by left; show (1 : ℕ) < 3; omega)).trans ?_
    refine (View.read_writes_cons_unit_of_not_mem _ _ _ _ _ _ rfl (0 : Fin 3) (by left; show (1 : ℕ) < 2; omega)).trans ?_
    refine (View.read_writes_cons_unit_of_mem _ _ _ _ _ _ (ix3 0 m s) rfl fun a => by fin_cases a <;> simp).trans ?_
    have f := fscan_at G m s
    simp only [hG] at f
    revert f
    generalize (k0_pay101 (iota .tc S32x128 32 [1] iota_S32x128_d1_w32) (k0_pay98 G) k0_pay99 (k0_pay100 G)) = B
    intro f
    pointwise [k0_pay109, k0_pay108, k0_pay97, f, hG]

theorem gates_read2 (I : Inp) (arg15 : Memref sig .tc .vmem S4x32x128 .f32) (J : BufTy.Contents (Elt Ideal) arg15.view.ty)
    (G : Vec Ideal S4x1x1x32x128 .f32) (hG : ∀ a m s, G (ix5 a 0 0 m s) = I.g a m s) (m : Fin 32) (s : Fin 128) :
    arg15.view.read (Elt Ideal) (arg15.view.writes (Elt Ideal) J
      [⟨Rect.unit (s := S4x32x128) ![3, 0, 0] S1x32x128.size inb_S4x32x128_S1x32x128_3_0_0, k0_pay111 (k0_pay97 G) (k0_pay106 (iota .tc S32x128 32 [1] iota_S32x128_d1_w32) (k0_pay102 (k0_pay97 G)) k0_pay103 (k0_pay104 (k0_pay97 G)) k0_pay105)⟩,
      ⟨Rect.unit (s := S4x32x128) ![2, 0, 0] S1x32x128.size inb_S4x32x128_S1x32x128_2_0_0, k0_pay110 (k0_pay106 (iota .tc S32x128 32 [1] iota_S32x128_d1_w32) (k0_pay102 (k0_pay97 G)) k0_pay103 (k0_pay104 (k0_pay97 G)) k0_pay105)⟩,
      ⟨Rect.unit (s := S4x32x128) ![1, 0, 0] S1x32x128.size inb_S4x32x128_S1x32x128_1_0_0, k0_pay109 (k0_pay108 (k0_pay97 G) (k0_pay101 (iota .tc S32x128 32 [1] iota_S32x128_d1_w32) (k0_pay98 G) k0_pay99 (k0_pay100 G)))⟩,
      ⟨Rect.unit (s := S4x32x128) ![0, 0, 0] S1x32x128.size inb_S4x32x128_S1x32x128_0_0_0, k0_pay107 (k0_pay101 (iota .tc S32x128 32 [1] iota_S32x128_d1_w32) (k0_pay98 G) k0_pay99 (k0_pay100 G))⟩]) (ix3 2 m s) = Math.cum Pb (fun s => Math.logsig (I.g 3 m s)) s := by
    refine (View.read_writes_cons_unit_of_not_mem _ _ _ _ _ _ rfl (0 : Fin 3) (by left; show (2 : ℕ) < 3; omega)).trans ?_
    refine (View.read_writes_cons_unit_of_mem _ _ _ _ _ _ (ix3 0 m s) rfl fun a => by fin_cases a <;> simp).trans ?_
    have b := bscan_at G m s
    simp only [hG] at b
    revert b
    generalize (k0_pay106 (iota .tc S32x128 32 [1] iota_S32x128_d1_w32) (k0_pay102 (k0_pay97 G)) k0_pay103 (k0_pay104 (k0_pay97 G)) k0_pay105) = B
    intro b
    pointwise [k0_pay110, b]

theorem gates_read3 (I : Inp) (arg15 : Memref sig .tc .vmem S4x32x128 .f32) (J : BufTy.Contents (Elt Ideal) arg15.view.ty)
    (G : Vec Ideal S4x1x1x32x128 .f32) (hG : ∀ a m s, G (ix5 a 0 0 m s) = I.g a m s) (m : Fin 32) (s : Fin 128) :
    arg15.view.read (Elt Ideal) (arg15.view.writes (Elt Ideal) J
      [⟨Rect.unit (s := S4x32x128) ![3, 0, 0] S1x32x128.size inb_S4x32x128_S1x32x128_3_0_0, k0_pay111 (k0_pay97 G) (k0_pay106 (iota .tc S32x128 32 [1] iota_S32x128_d1_w32) (k0_pay102 (k0_pay97 G)) k0_pay103 (k0_pay104 (k0_pay97 G)) k0_pay105)⟩,
      ⟨Rect.unit (s := S4x32x128) ![2, 0, 0] S1x32x128.size inb_S4x32x128_S1x32x128_2_0_0, k0_pay110 (k0_pay106 (iota .tc S32x128 32 [1] iota_S32x128_d1_w32) (k0_pay102 (k0_pay97 G)) k0_pay103 (k0_pay104 (k0_pay97 G)) k0_pay105)⟩,
      ⟨Rect.unit (s := S4x32x128) ![1, 0, 0] S1x32x128.size inb_S4x32x128_S1x32x128_1_0_0, k0_pay109 (k0_pay108 (k0_pay97 G) (k0_pay101 (iota .tc S32x128 32 [1] iota_S32x128_d1_w32) (k0_pay98 G) k0_pay99 (k0_pay100 G)))⟩,
      ⟨Rect.unit (s := S4x32x128) ![0, 0, 0] S1x32x128.size inb_S4x32x128_S1x32x128_0_0_0, k0_pay107 (k0_pay101 (iota .tc S32x128 32 [1] iota_S32x128_d1_w32) (k0_pay98 G) k0_pay99 (k0_pay100 G))⟩]) (ix3 3 m s) = I.g 1 m s - Math.cum Pb (fun s => Math.logsig (I.g 3 m s)) s := by
    refine (View.read_writes_cons_unit_of_mem _ _ _ _ _ _ (ix3 0 m s) rfl fun a => by fin_cases a <;> simp).trans ?_
    have b := bscan_at G m s
    simp only [hG] at b
    revert b
    generalize (k0_pay106 (iota .tc S32x128 32 [1] iota_S32x128_d1_w32) (k0_pay102 (k0_pay97 G)) k0_pay103 (k0_pay104 (k0_pay97 G)) k0_pay105) = B
    intro b
    pointwise [k0_pay111, k0_pay97, b, hG]

theorem zero_read (arg17 : Memref sig .tc .vmem S2x256x384 .f32) (J : BufTy.Contents (Elt Ideal) arg17.view.ty) (z : Fin 2) (d : Fin 256) (e : Fin 384) :
    arg17.view.read (Elt Ideal) (arg17.view.writes (Elt Ideal) J
      [⟨Rect.unit (s := S2x256x384) ![0, 0, 0] S2x256x384.size inb_S2x256x384_S2x256x384_0_0_0, k0_pay112 (F := Ideal)⟩]) (ix3 z d e) = 0 := by
  refine (View.read_writes_cons_unit_of_mem _ _ _ _ _ _ (ix3 z d e) rfl fun a => by fin_cases a <;> simp).trans ?_
  pointwise [k0_pay112]

section Pure
variable (I : Inp) (𝒱 : Variants) (c : Dev nD) (bd : Option 𝒱.V) (i : grid0.Coords)
  (arg2 : Memref sig .tc .vmem S1x4096x256 .bf16) (harg2 : arg2.IsWhole)
  (arg3 : Memref sig .tc .vmem S1x4096x256 .bf16) (harg3 : arg3.IsWhole)
  (arg4 : Memref sig .tc .vmem S1x4096x256 .bf16) (harg4 : arg4.IsWhole)
  (arg5 : Memref sig .tc .vmem S1x4096x256 .bf16) (harg5 : arg5.IsWhole)
  (arg6 : Memref sig .tc .vmem S5x256 .f32) (harg6 : arg6.IsWhole)
  (arg7 : Memref sig .tc .vmem S5x256 .f32) (harg7 : arg7.IsWhole)
  (arg8 : Memref sig .tc .vmem S1x256 .f32) (harg8 : arg8.IsWhole)
  (arg9 : Memref sig .tc .vmem S1x256 .f32) (harg9 : arg9.IsWhole)
  (arg10 : Memref sig .tc .vmem S4x1x1x32x128 .f32) (harg10 : arg10.IsWhole)
  (arg11 : Memref sig .tc .vmem S1x256 .f32) (harg11 : arg11.IsWhole)
  (arg12 : Memref sig .tc .vmem S1x4096x256 .bf16) (harg12 : arg12.IsWhole)
  (arg13 : Memref sig .tc .vmem S4096x256 .bf16) (harg13 : arg13.IsWhole)
  (arg14 : Memref sig .tc .vmem S32x256x128 .bf16) (harg14 : arg14.IsWhole)
  (arg15 : Memref sig .tc .vmem S4x32x128 .f32) (harg15 : arg15.IsWhole)
  (arg16 : Memref sig .tc .vmem S4096x256 .f32) (harg16 : arg16.IsWhole)
  (arg17 : Memref sig .tc .vmem S2x256x384 .f32) (harg17 : arg17.IsWhole)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X11 : BufTy.Contents (Elt Ideal) arg11.view.ty) (X15 : BufTy.Contents (Elt Ideal) arg15.view.ty)
  (G12 : BufTy.Contents (Elt Ideal) arg12.view.ty) (G13 : BufTy.Contents (Elt Ideal) arg13.view.ty) (G14 : BufTy.Contents (Elt Ideal) arg14.view.ty) (G16 : BufTy.Contents (Elt Ideal) arg16.view.ty) (J17 : BufTy.Contents (Elt Ideal) arg17.view.ty)
  (L17 : List (View.Piece (Elt Ideal) S2x256x384 .f32)) (N1 N2 N3 : ℕ) (e1 : N1 = 32) (e2 : N2 = 16) (e3 : N3 = 16)
  (h2 : ∀ r e, arg2.view.read (Elt Ideal) X2 (ix3 0 r e) = I.xq r e) (h3 : ∀ r e, arg3.view.read (Elt Ideal) X3 (ix3 0 r e) = I.xk r e)
  (h4 : ∀ r e, arg4.view.read (Elt Ideal) X4 (ix3 0 r e) = I.xv r e) (h5 : ∀ r e, arg5.view.read (Elt Ideal) X5 (ix3 0 r e) = I.xo r e)
  (h6 : ∀ j e, arg6.view.read (Elt Ideal) X6 (ix2 j e) = I.wq j e) (h7 : ∀ j e, arg7.view.read (Elt Ideal) X7 (ix2 j e) = I.wk j e)
  (h8 : ∀ e, arg8.view.read (Elt Ideal) X8 (ix2 0 e) = I.bq e) (h9 : ∀ e, arg9.view.read (Elt Ideal) X9 (ix2 0 e) = I.bk e) (h11 : ∀ e, arg11.view.read (Elt Ideal) X11 (ix2 0 e) = I.h e)
  (h150 : ∀ m s, arg15.view.read (Elt Ideal) X15 (ix3 0 m s) = Math.cum Pf (fun s => Math.logsig (I.g 2 m s)) s)
  (h151 : ∀ m s, arg15.view.read (Elt Ideal) X15 (ix3 1 m s) = I.g 0 m s - Math.cum Pf (fun s => Math.logsig (I.g 2 m s)) s)
  (h152 : ∀ m s, arg15.view.read (Elt Ideal) X15 (ix3 2 m s) = Math.cum Pb (fun s => Math.logsig (I.g 3 m s)) s)
  (h153 : ∀ m s, arg15.view.read (Elt Ideal) X15 (ix3 3 m s) = I.g 1 m s - Math.cum Pb (fun s => Math.logsig (I.g 3 m s)) s)
  (h17 : ∀ z d e, arg17.view.read (Elt Ideal) (arg17.view.writes (Elt Ideal) J17 L17) (ix3 z d e) = 0)
include e1 e2 e3 h2 h3 h4 h5 h6 h7 h8 h9 h11 h150 h151 h152 h153 h17

theorem body_pure (m : Fin 32) (p : Fin 128) (e : Fin 256) :
    arg12.view.read (Elt Ideal) (arg12.view.writes (Elt Ideal) G12 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 X5 X11 (arg13.view.writes (Elt Ideal) G13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X6 X7 X8 X9 N1).1) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X6 X7 X8 X9 N1).2) X15 (arg16.view.writes (Elt Ideal) G16 (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 (arg13.view.writes (Elt Ideal) G13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X6 X7 X8 X9 N1).1) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X6 X7 X8 X9 N1).2) X15 G16 (arg17.view.writes (Elt Ideal) J17 L17) (k0_pay114, k0_pay114) N2).2.1) G12 (arg17.view.writes (Elt Ideal) J17 ((st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 (arg13.view.writes (Elt Ideal) G13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X6 X7 X8 X9 N1).1) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X6 X7 X8 X9 N1).2) X15 G16 (arg17.view.writes (Elt Ideal) J17 L17) (k0_pay114, k0_pay114) N2).2.2 ++ L17)) ((st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 (arg13.view.writes (Elt Ideal) G13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X6 X7 X8 X9 N1).1) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X6 X7 X8 X9 N1).2) X15 G16 (arg17.view.writes (Elt Ideal) J17 L17) (k0_pay114, k0_pay114) N2).1.1, (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 (arg13.view.writes (Elt Ideal) G13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X6 X7 X8 X9 N1).1) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X6 X7 X8 X9 N1).2) X15 G16 (arg17.view.writes (Elt Ideal) J17 L17) (k0_pay114, k0_pay114) N2).1.2) N3).2.1) (ix3 0 (row m p) e) = block I m p e := by
  subst e1 e2 e3
  obtain ⟨f1, f2⟩ := first_inv I 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X6 X7 X8 X9 G13 G14 h2 h3 h6 h7 h8 h9 32 le_rfl
  have f1 := fun m => f1 m m.isLt
  have f2 := fun m => f2 m m.isLt
  have z : (k0_pay114 (F := Ideal)) (ix2 0 0) = 0 := by pointwise [k0_pay114]
  obtain ⟨s1, s2, s3, s4, s5, s6⟩ := inv2 I 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 _ _ X15 G16 (arg17.view.writes (Elt Ideal) J17 L17) (k0_pay114, k0_pay114)
    h4 f1 f2 h150 h151 h152 h153 (h17 0) (h17 1) z z 16 le_rfl
  obtain ⟨-, -, -, -, t5, t6⟩ := inv3 I 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X11 _ _ X15 _ G12
    (arg17.view.writes (Elt Ideal) J17 ((st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rws cls lns X4 (arg13.view.writes (Elt Ideal) G13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X6 X7 X8 X9 32).1) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X6 X7 X8 X9 32).2) X15 G16 (arg17.view.writes (Elt Ideal) J17 L17) (k0_pay114, k0_pay114) 16).2.2 ++ L17)) (_, _)
    h4 f1 f2 h150 h151 h152 h153 h5 h11 s5 s6 (fun d e => by rw [View.writes_append]; exact s3 d e) (fun d e => by rw [View.writes_append]; exact s4 d e) s1 s2 16 le_rfl
  by_cases hm : 16 ≤ m.val
  · have h := t5 (m.val - 16) (by omega) p e
    have hc : cf (16 + (m.val - 16)) = m := Fin.ext (by rw [cf_val (by omega)]; omega)
    rwa [hc] at h
  · have h := t6 (15 - m.val) (by omega) p e
    have hc : cb (16 + (15 - m.val)) = m := Fin.ext (by rw [cb_val (by omega)]; omega)
    rwa [hc] at h
end Pure

set_option maxHeartbeats 1000000 in
theorem body_run (c : Dev nD) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S5x256 .f32) (harg6 : arg6.IsWhole) (arg7 : Memref sig .tc .vmem S5x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S4x1x1x32x128 .f32) (harg10 : arg10.IsWhole) (arg11 : Memref sig .tc .vmem S1x256 .f32) (harg11 : arg11.IsWhole) (arg12 : Memref sig .tc .vmem S1x4096x256 .bf16) (harg12 : arg12.IsWhole) (arg13 : Memref sig .tc .vmem S4096x256 .bf16) (harg13 : arg13.IsWhole) (arg14 : Memref sig .tc .vmem S32x256x128 .bf16) (harg14 : arg14.IsWhole) (arg15 : Memref sig .tc .vmem S4x32x128 .f32) (harg15 : arg15.IsWhole) (arg16 : Memref sig .tc .vmem S4096x256 .f32) (harg16 : arg16.IsWhole) (arg17 : Memref sig .tc .vmem S2x256x384 .f32) (harg17 : arg17.IsWhole)
    (x0 : Vec Ideal S1x4096x256 .bf16) (x1 : Vec Ideal S1x4096x256 .bf16) (x2 : Vec Ideal S1x4096x256 .bf16) (x3 : Vec Ideal S1x4096x256 .bf16) (x4 : Vec Ideal S5x256 .f32) (x5 : Vec Ideal S5x256 .f32) (x6 : Vec Ideal S1x256 .f32) (x7 : Vec Ideal S1x256 .f32) (x8 : Vec Ideal S4x1x1x32x128 .f32) (x9 : Vec Ideal S1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (bodyOut x0 x1 x2 x3 x4 x5 x6 x7 x8 x9) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := Ideal)) Variants.none c none) E (cc0_mlstm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  intro E K
  · skip
    simp only [cc0_mlstm_eq_skeleton]; unfold cc0_mlstm_skel
    simp only [k0_part16_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro
      funext y
      have hy : y = ix3 0 (row ⟨(y (1 : Fin 3)).val / 128, by have := (y (1 : Fin 3)).isLt; change _ < 4096 at this; omega⟩
          ⟨(y (1 : Fin 3)).val % 128, by omega⟩) (y (2 : Fin 3)) := by
        refine (eq_ix3 (n0 := 1) (n1 := 4096) (n2 := 256) y).trans ?_
        congr 1
        · exact Subsingleton.elim _ _
        · exact Fin.ext (Nat.div_add_mod _ _).symm
      have hG : ∀ a m s, (View.readAt (Elt Ideal) arg10.view (Rect.unit (s := S4x1x1x32x128) ![0, 0, 0, 0, 0] S4x1x1x32x128.size
          inb_S4x1x1x32x128_S4x1x1x32x128_0_0_0_0_0).toLoadRect (harg10.unread x8)) (ix5 a 0 0 m s)
            = (inp x0 x1 x2 x3 x4 x5 x6 x7 x8 x9).g a m s := fun a m s =>
        (rdAt _ _ _ rfl _ (ix5 a 0 0 m s) fun a => by fin_cases a <;> simp).trans (congrFun hf8 _)
      refine (congrArg _ hy).trans ?_
      exact body_pure (inp x0 x1 x2 x3 x4 x5 x6 x7 x8 x9) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
        _ _ _ _ _ _ _ _ _ _ _ _ _ _ _ _ _ _ _ (by decide +kernel) (by decide +kernel) (by decide +kernel)
        (fun r e => congrFun hf0 _) (fun r e => congrFun hf1 _) (fun r e => congrFun hf2 _) (fun r e => congrFun hf3 _)
        (fun r e => congrFun hf4 _) (fun r e => congrFun hf5 _) (fun e => congrFun hf6 _) (fun e => congrFun hf7 _) (fun e => congrFun hf9 _)
        (fun m s => gates_read0 _ arg15 _ _ hG m s) (fun m s => gates_read1 _ arg15 _ _ hG m s)
        (fun m s => gates_read2 _ arg15 _ _ hG m s) (fun m s => gates_read3 _ arg15 _ _ hG m s)
        (fun z d e => zero_read arg17 _ z d e) _ _ _
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Mlstm

end
-- ==== Proof.Mlstm.Frame.lean ====
/- The whole run of the recurrence's kernel: its proof data, its frame, and its output array block by block. -/
module

public import proofs.«01_k».proof.Proof.Mlstm.Run
public import Idealize.ShloMosaic.Lib.Claim
public import Idealize.ShloMosaic.Lib.Pipeline.Value

@[expose] public section

set_option maxRecDepth 16384

noncomputable section

namespace Cert.KernelIdeal.Mlstm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- What the output's staging buffer holds after the body at point `t`. -/
def outsAt0 (c : Dev nD) (t : Fin cfg0.N) : Vec Ideal S1x4096x256 .bf16 :=
  bodyOut (iblk m c 0 t) (iblk m c 1 t) (iblk m c 2 t) (iblk m c 3 t) (iblk m c 4 t) (iblk m c 5 t) (iblk m c 6 t) (iblk m c 7 t) (iblk m c 8 t) (iblk m c 9 t)

/-! ## The pipeline's proof data -/

/-- The proof data of the one pipeline on core `c`: the arrays as the region finds them (`V`); after the body at
    point `t` each input's buffer at its block and the outputs' at `outsAt0`; the invariant the class's
   ; nothing owed; each input's share of its array
    (`Pipeline.shareOf`: the full share of an array several windows stage, dealt among them). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1600000 in
/-- The body at any point, from its triple. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  unfold outsAt0
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_run c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- The whole run, every counter at zero at the end. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The whole run: every array of the pipeline at what the proof data say. -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-! ## Blockwise: what each point writes back, and the final array block by block -/

/-- What a grid point writes back is the head's output. -/
theorem flushed10 (c : Dev nD) (t : Fin cfg0.N) :
    (dats m 0 c).flushed 10 t = (cfg0.win 10).cut (grid0.coords t) (outsAt0 m c t) := by
  show (cfg0.win 10).cut (grid0.coords t) ((dats m 0 c).after 10 t) = _
  rw [after0_10]

/-- The index map sends distinct grid points to distinct block indices (decided over the 24 points). -/
theorem idx_inj10 : ∀ t t' : Fin cfg0.N, win0_10.index t = win0_10.index t' → t = t' :=
  (by decide +kernel : ∀ t t' : Fin grid0.N, win0_10.index t = win0_10.index t' → t = t')

/-- So two flushing points' blocks share no array index. -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt Ideal) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S6x4096x1024.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 10's array is `(dats m 0 c).arrAt 10 N`. -/
theorem post10 (r : PUnit × MemSt nD τ sig (Elt Ideal)) (h : Pipeline.FramePost cfgs (dats m) 0 (V m) r) (c : Dev nD) :
    r.2.mem ((c : Thread nD τ).loc main_v0) = (dats m 0 c).arrAt 10 cfg0.N :=
  (h c).1 10

/-- After the frame run, argument `main_arg0` is as launched: input window 3 stages it and never writes it back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- After the frame run, argument `main_arg1` is as launched: input window 8 stages it and never writes it back. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 8).trans (((dats m 0 c).arrAt_in 8 rfl _).trans ((A_eq m c 8).trans (V_main_arg1 m c)))

/-- After the frame run, argument `main_arg2` is as launched: input window 5 stages it and never writes it back. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 5).trans (((dats m 0 c).arrAt_in 5 rfl _).trans ((A_eq m c 5).trans (V_main_arg2 m c)))

/-- After the frame run, argument `main_arg3` is as launched: input window 7 stages it and never writes it back. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 7).trans (((dats m 0 c).arrAt_in 7 rfl _).trans ((A_eq m c 7).trans (V_main_arg3 m c)))

/-- After the frame run, argument `main_arg4` is as launched: input window 9 stages it and never writes it back. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 9).trans (((dats m 0 c).arrAt_in 9 rfl _).trans ((A_eq m c 9).trans (V_main_arg4 m c)))

/-- The frame run with each output array after the run NAMED — `(dats m 0 c).arrAt w N`, which `blocks_w` / `entry_w` read —,
    the arguments unchanged. -/
theorem run_blocks : θ_run defs (onTc (τ := τ) (main (F := Ideal))) ⟨m, fun _ => 0, ρ⟩ fun r => ∀ c : Dev nD,
      r.2.mem ((c : Thread nD τ).loc main_v0) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post10 m r h c,
      kept_main_arg0 m r h c,
      kept_main_arg1 m r h c,
      kept_main_arg2 m r h c,
      kept_main_arg3 m r h c,
      kept_main_arg4 m r h c⟩)
    (run_main m ρ)

end Cert.KernelIdeal.Mlstm

end
-- ==== Proof.Mlstm.Inputs.lean ====
/- What each head is given, from the arrays; and a chunk read from its last position to its first. -/
module

public import proofs.«01_k».proof.Proof.Mlstm.Spec

@[expose] public section

noncomputable section

namespace Cert.KernelIdeal.Mlstm

open Idealize.ShloMosaic Idealize.ShloMosaic.TcCoe
open Cert.KernelIdeal.Gen Cert.Proof

/-- The inputs of one head of one sequence. -/
def inpOf (A0 : S6x4096x7168.Idx → EReal) (A1 : S4x4x6x32x128.Idx → EReal) (A2 : S5x2048.Idx → EReal) (A3 : S1x2048.Idx → EReal)
    (A4 : S1x1024.Idx → EReal) (b : Fin 6) (h : Fin 4) : Inp where
  xq r d := A0 (ix3 b r ⟨3072 + (256 * h.val + d.val), by omega⟩)
  xk r d := A0 (ix3 b r ⟨4096 + (256 * h.val + d.val), by omega⟩)
  xv r d := A0 (ix3 b r ⟨5120 + (256 * h.val + d.val), by omega⟩)
  xo r d := A0 (ix3 b r ⟨6144 + (256 * h.val + d.val), by omega⟩)
  wq j d := A2 (ix2 j ⟨256 * h.val + d.val, by omega⟩)
  wk j d := A2 (ix2 j ⟨1024 + (256 * h.val + d.val), by omega⟩)
  bq d := A3 (ix2 0 ⟨256 * h.val + d.val, by omega⟩)
  bk d := A3 (ix2 0 ⟨1024 + (256 * h.val + d.val), by omega⟩)
  g γ n t := A1 (ix5 γ h b n t)
  h d := A4 (ix2 0 ⟨256 * h.val + d.val, by omega⟩)

/-- A chunk from its last position. -/
def revC (D : Chunk) : Chunk where
  q t := D.q t.rev
  k t := D.k t.rev
  v t := D.v t.rev
  b t := D.b t.rev
  i t := D.i t.rev

theorem Pf_rev (t s : Fin 128) : Pf t s = Pb (Fin.revPerm t) (Fin.revPerm s) := by
  refine decide_eq_decide.mpr ?_
  show s.val ≤ t.val ↔ 128 - (t.val + 1) ≤ 128 - (s.val + 1)
  omega

theorem next_rev (D : Chunk) (σ : State) : next 127 (revC D) σ = next 0 D σ := by
  refine Prod.ext (funext₂ fun d e => ?_) ?_
  · exact Math.cnext_equiv Fin.revPerm 0 127 (by decide) D.b D.i D.k (ones D.v) σ.1 σ.2 d e
  · exact Math.mnext_equiv Fin.revPerm 0 127 (by decide) D.b D.i σ.2

theorem states_rev (D : ℕ → Chunk) (n : ℕ) : states 127 (fun n => revC (D n)) n = states 0 D n := by
  induction n with
  | zero => rfl
  | succ n ih =>
    show next 127 (revC (D n)) (states 127 (fun n => revC (D n)) n) = next 0 (D n) (states 0 D n)
    rw [ih, next_rev]

theorem outs_rev (D : ℕ → Chunk) (n : ℕ) (t : Fin 128) (e : Fin 256) :
    outs Pf 127 (fun n => revC (D n)) n t e = outs Pb 0 D n t.rev e := by
  unfold outs outC
  rw [states_rev]
  congr 1
  · exact funext fun e => Math.numer_equiv Fin.revPerm Pb Pf Pf_rev (D n).b (D n).i (D n).q (D n).k (ones (D n).v) _ _ t e
  · exact Math.stab_equiv Fin.revPerm Pb Pf Pf_rev (D n).b (D n).i _ t

/-- The chunks the recurrence meets for a sequence and a direction, the second direction's from their last positions. -/
def both (I : Fin 6 → Fin 4 → Inp) (bb : Fin 12) (h : Fin 4) (n : ℕ) : Chunk :=
  if hb : bb.val < 6 then dF (I ⟨bb.val, hb⟩ h) n else revC (dB (I ⟨bb.val - 6, by omega⟩ h) n)

theorem both_lo (I : Fin 6 → Fin 4 → Inp) (b : Fin 6) (h : Fin 4) (n : ℕ) : both I ⟨b.val, by omega⟩ h n = dF (I b h) n :=
  dif_pos b.isLt

theorem both_hi (I : Fin 6 → Fin 4 → Inp) (b : Fin 6) (h : Fin 4) (n : ℕ) : both I ⟨6 + b.val, by omega⟩ h n = revC (dB (I b h) n) := by
  refine (dif_neg (show ¬ 6 + b.val < 6 by omega)).trans ?_
  congr 3
  exact Fin.ext (by show 6 + b.val - 6 = b.val; omega)

end Cert.KernelIdeal.Mlstm

end
-- ==== Proof.Mlstm.Final.lean ====
/- The kernel's result: each head's block at its place. -/
module

public import proofs.«01_k».proof.Proof.Mlstm.Frame
public import proofs.«01_k».proof.Proof.Mlstm.Inputs
public import Idealize.ShloMosaic.Lib.Pipeline.Value
public import Idealize.ShloMosaic.Lib.Pipeline.ValueKit

@[expose] public section

set_option maxRecDepth 16384

noncomputable section

namespace Cert.KernelIdeal.Mlstm

open Cert.KernelIdeal Cert.KernelIdeal.Gen Idealize.ShloMosaic Idealize.ShloMosaic.TcCoe Idealize.SL.Sem Cert.Proof

variable (m : (ℓ : Loc nD τ sig) → Buf (Elt Ideal) ℓ)

/-- The result, of the arguments. -/
def result (A0 : FVec Ideal S6x4096x7168 .bf16) (A1 : FVec Ideal S4x4x6x32x128 .f32) (A2 : FVec Ideal S5x2048 .f32) (A3 : FVec Ideal S1x2048 .f32)
    (A4 : FVec Ideal S1x1024 .f32) : FVec Ideal S6x4096x1024 .bf16 := fun i =>
  have h1 : (i (1 : Fin 3)).val < 4096 := (i (1 : Fin 3)).isLt
  have h2 : (i (2 : Fin 3)).val < 1024 := (i (2 : Fin 3)).isLt
  block (inpOf A0 A1 A2 A3 A4 (i (0 : Fin 3)) ⟨(i (2 : Fin 3)).val / 256, by omega⟩) ⟨(i (1 : Fin 3)).val / 128, by omega⟩
    ⟨(i (1 : Fin 3)).val % 128, by omega⟩ ⟨(i (2 : Fin 3)).val % 256, by omega⟩

def pb (t : Fin cfg0.N) : Fin 6 := grid0.coords t 0
def ph (t : Fin cfg0.N) : Fin 4 := grid0.coords t 1

theorem ix_0 : ∀ t : Fin cfg0.N, win0_0.index t = ![(pb t).val, 0, 12 + (ph t).val] := by decide +kernel
theorem ix_1 : ∀ t : Fin cfg0.N, win0_1.index t = ![(pb t).val, 0, 16 + (ph t).val] := by decide +kernel
theorem ix_2 : ∀ t : Fin cfg0.N, win0_2.index t = ![(pb t).val, 0, 20 + (ph t).val] := by decide +kernel
theorem ix_3 : ∀ t : Fin cfg0.N, win0_3.index t = ![(pb t).val, 0, 24 + (ph t).val] := by decide +kernel
theorem ix_4 : ∀ t : Fin cfg0.N, win0_4.index t = ![0, (ph t).val] := by decide +kernel
theorem ix_5 : ∀ t : Fin cfg0.N, win0_5.index t = ![0, 4 + (ph t).val] := by decide +kernel
theorem ix_6 : ∀ t : Fin cfg0.N, win0_6.index t = ![0, (ph t).val] := by decide +kernel
theorem ix_7 : ∀ t : Fin cfg0.N, win0_7.index t = ![0, 4 + (ph t).val] := by decide +kernel
theorem ix_8 : ∀ t : Fin cfg0.N, win0_8.index t = ![0, (ph t).val, (pb t).val, 0, 0] := by decide +kernel
theorem ix_9 : ∀ t : Fin cfg0.N, win0_9.index t = ![0, (ph t).val] := by decide +kernel
theorem ix_10 : ∀ t : Fin cfg0.N, win0_10.index t = ![(pb t).val, 0, (ph t).val] := by decide +kernel

variable (A0 : FVec Ideal S6x4096x7168 .bf16) (A1 : FVec Ideal S4x4x6x32x128 .f32) (A2 : FVec Ideal S5x2048 .f32) (A3 : FVec Ideal S1x2048 .f32)
  (A4 : FVec Ideal S1x1024 .f32) (c : Dev nD)
  (h0 : m (c.tc.loc main_arg0) = A0) (h1 : m (c.tc.loc main_arg1) = A1) (h2 : m (c.tc.loc main_arg2) = A2)
  (h3 : m (c.tc.loc main_arg3) = A3) (h4 : m (c.tc.loc main_arg4) = A4)

include h0 in
theorem in0 (t : Fin cfg0.N) (r : Fin 4096) (d : Fin 256) :
    (iblk m c 0 t : Vec Ideal S1x4096x256 .bf16) (ix3 0 r d) = (inpOf A0 A1 A2 A3 A4 (pb t) (ph t)).xq r d := by
  subst h0
  show m (c.tc.loc main_arg0) _ = _
  refine congrArg _ (funext fun a => Fin.ext ?_)
  blk_simp [ix_0]
  fin_cases a
  · show (pb t).val * 1 + 0 = (pb t).val
    omega
  · show 0 * 4096 + r.val = r.val
    omega
  · show (12 + (ph t).val) * 256 + d.val = 3072 + (256 * (ph t).val + d.val)
    omega

include h0 in
theorem in1 (t : Fin cfg0.N) (r : Fin 4096) (d : Fin 256) :
    (iblk m c 1 t : Vec Ideal S1x4096x256 .bf16) (ix3 0 r d) = (inpOf A0 A1 A2 A3 A4 (pb t) (ph t)).xk r d := by
  subst h0
  show m (c.tc.loc main_arg0) _ = _
  refine congrArg _ (funext fun a => Fin.ext ?_)
  blk_simp [ix_1]
  fin_cases a
  · show (pb t).val * 1 + 0 = (pb t).val
    omega
  · show 0 * 4096 + r.val = r.val
    omega
  · show (16 + (ph t).val) * 256 + d.val = 4096 + (256 * (ph t).val + d.val)
    omega

include h0 in
theorem in2 (t : Fin cfg0.N) (r : Fin 4096) (d : Fin 256) :
    (iblk m c 2 t : Vec Ideal S1x4096x256 .bf16) (ix3 0 r d) = (inpOf A0 A1 A2 A3 A4 (pb t) (ph t)).xv r d := by
  subst h0
  show m (c.tc.loc main_arg0) _ = _
  refine congrArg _ (funext fun a => Fin.ext ?_)
  blk_simp [ix_2]
  fin_cases a
  · show (pb t).val * 1 + 0 = (pb t).val
    omega
  · show 0 * 4096 + r.val = r.val
    omega
  · show (20 + (ph t).val) * 256 + d.val = 5120 + (256 * (ph t).val + d.val)
    omega

include h0 in
theorem in3 (t : Fin cfg0.N) (r : Fin 4096) (d : Fin 256) :
    (iblk m c 3 t : Vec Ideal S1x4096x256 .bf16) (ix3 0 r d) = (inpOf A0 A1 A2 A3 A4 (pb t) (ph t)).xo r d := by
  subst h0
  show m (c.tc.loc main_arg0) _ = _
  refine congrArg _ (funext fun a => Fin.ext ?_)
  blk_simp [ix_3]
  fin_cases a
  · show (pb t).val * 1 + 0 = (pb t).val
    omega
  · show 0 * 4096 + r.val = r.val
    omega
  · show (24 + (ph t).val) * 256 + d.val = 6144 + (256 * (ph t).val + d.val)
    omega

include h2 in
theorem in4 (t : Fin cfg0.N) (j : Fin 5) (d : Fin 256) :
    (iblk m c 4 t : Vec Ideal S5x256 .f32) (ix2 j d) = (inpOf A0 A1 A2 A3 A4 (pb t) (ph t)).wq j d := by
  subst h2
  show m (c.tc.loc main_arg2) _ = _
  refine congrArg _ (funext fun a => Fin.ext ?_)
  blk_simp [ix_4]
  fin_cases a
  · show 0 * 5 + j.val = j.val
    omega
  · show (ph t).val * 256 + d.val = 256 * (ph t).val + d.val
    omega

include h2 in
theorem in5 (t : Fin cfg0.N) (j : Fin 5) (d : Fin 256) :
    (iblk m c 5 t : Vec Ideal S5x256 .f32) (ix2 j d) = (inpOf A0 A1 A2 A3 A4 (pb t) (ph t)).wk j d := by
  subst h2
  show m (c.tc.loc main_arg2) _ = _
  refine congrArg _ (funext fun a => Fin.ext ?_)
  blk_simp [ix_5]
  fin_cases a
  · show 0 * 5 + j.val = j.val
    omega
  · show (4 + (ph t).val) * 256 + d.val = 1024 + (256 * (ph t).val + d.val)
    omega

include h3 in
theorem in6 (t : Fin cfg0.N) (d : Fin 256) :
    (iblk m c 6 t : Vec Ideal S1x256 .f32) (ix2 0 d) = (inpOf A0 A1 A2 A3 A4 (pb t) (ph t)).bq d := by
  subst h3
  show m (c.tc.loc main_arg3) _ = _
  refine congrArg _ (funext fun a => Fin.ext ?_)
  blk_simp [ix_6]
  fin_cases a
  · show 0 * 1 + 0 = 0
    omega
  · show (ph t).val * 256 + d.val = 256 * (ph t).val + d.val
    omega

include h3 in
theorem in7 (t : Fin cfg0.N) (d : Fin 256) :
    (iblk m c 7 t : Vec Ideal S1x256 .f32) (ix2 0 d) = (inpOf A0 A1 A2 A3 A4 (pb t) (ph t)).bk d := by
  subst h3
  show m (c.tc.loc main_arg3) _ = _
  refine congrArg _ (funext fun a => Fin.ext ?_)
  blk_simp [ix_7]
  fin_cases a
  · show 0 * 1 + 0 = 0
    omega
  · show (4 + (ph t).val) * 256 + d.val = 1024 + (256 * (ph t).val + d.val)
    omega

include h1 in
theorem in8 (t : Fin cfg0.N) (g : Fin 4) (n : Fin 32) (s : Fin 128) :
    (iblk m c 8 t : Vec Ideal S4x1x1x32x128 .f32) (ix5 g 0 0 n s) = (inpOf A0 A1 A2 A3 A4 (pb t) (ph t)).g g n s := by
  subst h1
  show m (c.tc.loc main_arg1) _ = _
  refine congrArg _ (funext fun a => Fin.ext ?_)
  blk_simp [ix_8]
  fin_cases a
  · show 0 * 4 + g.val = g.val
    omega
  · show (ph t).val * 1 + 0 = (ph t).val
    omega
  · show (pb t).val * 1 + 0 = (pb t).val
    omega
  · show 0 * 32 + n.val = n.val
    omega
  · show 0 * 128 + s.val = s.val
    omega

include h4 in
theorem in9 (t : Fin cfg0.N) (d : Fin 256) :
    (iblk m c 9 t : Vec Ideal S1x256 .f32) (ix2 0 d) = (inpOf A0 A1 A2 A3 A4 (pb t) (ph t)).h d := by
  subst h4
  show m (c.tc.loc main_arg4) _ = _
  refine congrArg _ (funext fun a => Fin.ext ?_)
  blk_simp [ix_9]
  fin_cases a
  · show 0 * 1 + 0 = 0
    omega
  · show (ph t).val * 256 + d.val = 256 * (ph t).val + d.val
    omega

include h0 h1 h2 h3 h4 in
theorem inp_eq (t : Fin cfg0.N) : inp (iblk m c 0 t) (iblk m c 1 t) (iblk m c 2 t) (iblk m c 3 t) (iblk m c 4 t) (iblk m c 5 t) (iblk m c 6 t)
    (iblk m c 7 t) (iblk m c 8 t) (iblk m c 9 t) = (inpOf A0 A1 A2 A3 A4 (pb t) (ph t)) := by
  unfold inp
  rw [funext₂ (in0 m A0 A1 A2 A3 A4 c h0 t), funext₂ (in1 m A0 A1 A2 A3 A4 c h0 t), funext₂ (in2 m A0 A1 A2 A3 A4 c h0 t),
    funext₂ (in3 m A0 A1 A2 A3 A4 c h0 t), funext₂ (in4 m A0 A1 A2 A3 A4 c h2 t), funext₂ (in5 m A0 A1 A2 A3 A4 c h2 t),
    funext (in6 m A0 A1 A2 A3 A4 c h3 t), funext (in7 m A0 A1 A2 A3 A4 c h3 t), funext (in9 m A0 A1 A2 A3 A4 c h4 t),
    show (fun a n s => (iblk m c 8 t : Vec Ideal S4x1x1x32x128 .f32) (ix5 a 0 0 n s)) = (inpOf A0 A1 A2 A3 A4 (pb t) (ph t)).g from
      funext fun a => funext₂ (in8 m A0 A1 A2 A3 A4 c h1 t a)]

theorem emb10 (t : Fin cfg0.N) (z : Fin 1) (r : Fin 4096) (e : Fin 256) :
    (win0_10.blk t).view.emb (ix3 z r e) = (ix3 (pb t) r ⟨256 * (ph t).val + e.val, by omega⟩ : S6x4096x1024.Idx) := by
  refine funext fun a => Fin.ext ?_
  blk_simp [ix_10]
  fin_cases a
  · show (pb t).val * 1 + z.val = (pb t).val
    omega
  · show 0 * 4096 + r.val = r.val
    omega
  · show (ph t).val * 256 + e.val = 256 * (ph t).val + e.val
    omega

theorem result_ix (b : Fin 6) (r : Fin 4096) (h : Fin 4) (e : Fin 256) :
    result A0 A1 A2 A3 A4 (ix3 b r ⟨256 * h.val + e.val, by omega⟩)
      = block (inpOf A0 A1 A2 A3 A4 b h) ⟨r.val / 128, by omega⟩ ⟨r.val % 128, by omega⟩ e := by
  have e1 : (⟨(256 * h.val + e.val) / 256, by omega⟩ : Fin 4) = h := Fin.ext (by show (256 * h.val + e.val) / 256 = h.val; omega)
  have e2 : (⟨(256 * h.val + e.val) % 256, by omega⟩ : Fin 256) = e := Fin.ext (by show (256 * h.val + e.val) % 256 = e.val; omega)
  show block (inpOf A0 A1 A2 A3 A4 b ⟨(256 * h.val + e.val) / 256, by omega⟩) ⟨r.val / 128, by omega⟩ ⟨r.val % 128, by omega⟩
    ⟨(256 * h.val + e.val) % 256, by omega⟩ = _
  rw [e1, e2]

include h0 h1 h2 h3 h4 in
/-- The output array after the run. -/
theorem arr10 : (dats m 0 c).arrAt 10 cfg0.N = result A0 A1 A2 A3 A4 := by
  refine (dats m 0 c).arrAt_eq_of_covers 10 _ (by decide +kernel) fun t hf y => ?_
  blk_simp
  rw [after0_10]
  revert y
  intro (y : S1x4096x256.Idx)
  obtain ⟨z, r, e, rfl⟩ : ∃ (z : Fin 1) (r : Fin 4096) (e : Fin 256), y = ix3 z r e := ⟨y 0, y 1, y 2, by
    funext a; fin_cases a <;> rfl⟩
  refine Eq.trans ?_ (congrArg (result A0 A1 A2 A3 A4) (emb10 t z r e)).symm
  rw [result_ix]
  show block (inp (iblk m c 0 t) (iblk m c 1 t) (iblk m c 2 t) (iblk m c 3 t) (iblk m c 4 t) (iblk m c 5 t) (iblk m c 6 t)
    (iblk m c 7 t) (iblk m c 8 t) (iblk m c 9 t)) _ _ _ = _
  rw [inp_eq m A0 A1 A2 A3 A4 c h0 h1 h2 h3 h4 t]
  rfl

end Cert.KernelIdeal.Mlstm

end
-- ==== Proof.Mlstm.RefPre.lean ====
/- What the reference computes before its scan, stretch by stretch, read at an index. -/
module

public import proofs.«01_k».proof.Proof.Gen.ReferenceIdeal.Run
public import proofs.«01_k».proof.Proof.Mlstm.Spec
public import Idealize.ShloMosaic.Lib.Pointwise
public import Idealize.ShloMosaic.Lib.WordCmp

@[expose] public section

set_option maxRecDepth 16384

noncomputable section

namespace Cert.ReferenceIdeal.Mlstm

open Idealize.ShloMosaic Idealize.ShloMosaic.TcCoe Idealize.ShloMosaic.StableHlo
open Cert.ReferenceIdeal Cert.ReferenceIdeal.Gen Cert.ReferenceIdeal.Value Cert.Proof
open Cert.KernelIdeal.Mlstm (Pf row select_bool)

variable (V : Valuation τ sig (Elt Ideal))

/-- A host operand at its type. -/
abbrev rd5 (V : Valuation τ sig (Elt Ideal)) (r : Ref sig .tc) := V (Proc.devRef .tc r)

theorem pre18_q_eq : after hostOps0_18 V (no_index (Proc.devRef .tc main_v90_0))
    = transpose S32x12x4x128x256 [2, 0, 1, 3, 4] (shapeCast S12x4x32x128x256 (V (Proc.devRef .tc main_v65)) shapeCasts_S12x4x4096x256_S12x4x32x128x256) transposes_S12x4x32x128x256_S32x12x4x128x256_2_0_1_3_4 := by
  simp only [hostOps0_18]
  after_results_entrywise []

theorem pre18_q (n : Fin 32) (bb : Fin 12) (h : Fin 4) (t : Fin 128) (d : Fin 256) :
    (after hostOps0_18 V (Proc.devRef .tc main_v90_0) : FVec Ideal S32x12x4x128x256 .f32) (ix5 n bb h t d)
      = (V (Proc.devRef .tc main_v65) : FVec Ideal S12x4x4096x256 .f32) (ix4 bb h (row n t) d) := by
  rw [pre18_q_eq]
  pointwise
  refine congrArg _ ?_
  congr 1
  exact Fin.ext (by show n.val * 128 + t.val = 128 * n.val + t.val; omega)

theorem pre18_k_eq : after hostOps0_18 V (no_index (Proc.devRef .tc main_v90_1))
    = transpose S32x12x4x128x256 [2, 0, 1, 3, 4] (shapeCast S12x4x32x128x256 (V (Proc.devRef .tc main_v67)) shapeCasts_S12x4x4096x256_S12x4x32x128x256) transposes_S12x4x32x128x256_S32x12x4x128x256_2_0_1_3_4 := by
  simp only [hostOps0_18]
  after_results_entrywise []

theorem pre18_k (n : Fin 32) (bb : Fin 12) (h : Fin 4) (t : Fin 128) (d : Fin 256) :
    (after hostOps0_18 V (Proc.devRef .tc main_v90_1) : FVec Ideal S32x12x4x128x256 .f32) (ix5 n bb h t d)
      = (V (Proc.devRef .tc main_v67) : FVec Ideal S12x4x4096x256 .f32) (ix4 bb h (row n t) d) := by
  rw [pre18_k_eq]
  pointwise
  refine congrArg _ ?_
  congr 1
  exact Fin.ext (by show n.val * 128 + t.val = 128 * n.val + t.val; omega)

theorem pre18_v_eq : after hostOps0_18 V (no_index (Proc.devRef .tc main_v90_2))
    = transpose S32x12x4x128x256 [2, 0, 1, 3, 4] (shapeCast S12x4x32x128x256 (V (Proc.devRef .tc main_v69)) shapeCasts_S12x4x4096x256_S12x4x32x128x256) transposes_S12x4x32x128x256_S32x12x4x128x256_2_0_1_3_4 := by
  simp only [hostOps0_18]
  after_results_entrywise []

theorem pre18_v (n : Fin 32) (bb : Fin 12) (h : Fin 4) (t : Fin 128) (d : Fin 256) :
    (after hostOps0_18 V (Proc.devRef .tc main_v90_2) : FVec Ideal S32x12x4x128x256 .f32) (ix5 n bb h t d)
      = (V (Proc.devRef .tc main_v69) : FVec Ideal S12x4x4096x256 .f32) (ix4 bb h (row n t) d) := by
  rw [pre18_v_eq]
  pointwise
  refine congrArg _ ?_
  congr 1
  exact Fin.ext (by show n.val * 128 + t.val = 128 * n.val + t.val; omega)

theorem pre18_i_eq : after hostOps0_18 V (no_index (Proc.devRef .tc main_v90_3))
    = transpose S32x12x4x128 [2, 0, 1, 3] (shapeCast S12x4x32x128 (V (Proc.devRef .tc main_v71)) shapeCasts_S12x4x4096_S12x4x32x128) transposes_S12x4x32x128_S32x12x4x128_2_0_1_3 := by
  simp only [hostOps0_18]
  after_results_entrywise []

theorem pre18_i (n : Fin 32) (bb : Fin 12) (h : Fin 4) (t : Fin 128) :
    (after hostOps0_18 V (Proc.devRef .tc main_v90_3) : FVec Ideal S32x12x4x128 .f32) (ix4 n bb h t)
      = (V (Proc.devRef .tc main_v71) : FVec Ideal S12x4x4096 .f32) (ix3 bb h (row n t)) := by
  rw [pre18_i_eq]
  pointwise
  refine congrArg _ ?_
  congr 1
  exact Fin.ext (by show n.val * 128 + t.val = 128 * n.val + t.val; omega)

theorem pre18_f_eq : after hostOps0_18 V (no_index (Proc.devRef .tc main_v90_4))
    = transpose S32x12x4x128 [2, 0, 1, 3] (shapeCast S12x4x32x128 (V (Proc.devRef .tc main_v73)) shapeCasts_S12x4x4096_S12x4x32x128) transposes_S12x4x32x128_S32x12x4x128_2_0_1_3 := by
  simp only [hostOps0_18]
  after_results_entrywise []

theorem pre18_f (n : Fin 32) (bb : Fin 12) (h : Fin 4) (t : Fin 128) :
    (after hostOps0_18 V (Proc.devRef .tc main_v90_4) : FVec Ideal S32x12x4x128 .f32) (ix4 n bb h t)
      = (V (Proc.devRef .tc main_v73) : FVec Ideal S12x4x4096 .f32) (ix3 bb h (row n t)) := by
  rw [pre18_f_eq]
  pointwise
  refine congrArg _ ?_
  congr 1
  exact Fin.ext (by show n.val * 128 + t.val = 128 * n.val + t.val; omega)

theorem pre18_mask_eq : after hostOps0_18 V (no_index (Proc.devRef .tc main_v90_5))
    = (V (Proc.devRef .tc main_v75)) := by
  simp only [hostOps0_18]
  after_results_entrywise []

theorem pre18_c_eq : after hostOps0_18 V (no_index (Proc.devRef .tc main_v90_7))
    = broadcastInDim S12x4x256x256 ![] bcast_S_S12x4x256x256 (constant (F := Ideal) S_ .f32 0x00000000#32) := by
  simp only [hostOps0_18]
  after_results_entrywise []

theorem pre18_n_eq : after hostOps0_18 V (no_index (Proc.devRef .tc main_v90_8))
    = broadcastInDim S12x4x256 ![] bcast_S_S12x4x256 (constant (F := Ideal) S_ .f32 0x00000000#32) := by
  simp only [hostOps0_18]
  after_results_entrywise []

theorem pre18_m_eq : after hostOps0_18 V (no_index (Proc.devRef .tc main_v90_9))
    = broadcastInDim S12x4 ![] bcast_S_S12x4 (constant (F := Ideal) S_ .f32 0x00000000#32) := by
  simp only [hostOps0_18]
  after_results_entrywise []

theorem pre18_c (bb : Fin 12) (h : Fin 4) (e d : Fin 256) :
    (after hostOps0_18 V (Proc.devRef .tc main_v90_7) : FVec Ideal S12x4x256x256 .f32) (ix4 bb h e d) = (0 : EReal) := by
  rw [pre18_c_eq]
  pointwise

theorem pre18_n (bb : Fin 12) (h : Fin 4) (d : Fin 256) :
    (after hostOps0_18 V (Proc.devRef .tc main_v90_8) : FVec Ideal S12x4x256 .f32) (ix3 bb h d) = (0 : EReal) := by
  rw [pre18_n_eq]
  pointwise

theorem pre18_m (bb : Fin 12) (h : Fin 4) :
    (after hostOps0_18 V (Proc.devRef .tc main_v90_9) : FVec Ideal S12x4 .f32) (ix2 bb h) = (0 : EReal) := by
  rw [pre18_m_eq]
  pointwise

theorem pre17_eq : after hostOps0_17 V (no_index (Proc.devRef .tc main_v75))
    = select (cmpi .sge (addi (iotaInDim S128x128 32 0) (broadcastInDim S128x128 ![] bcast_S_S128x128 (constantI S_ 32 0#32))) (iotaInDim S128x128 32 1)) (V (Proc.devRef .tc main_v74)) (broadcastInDim S128x128 ![] bcast_S_S128x128 (constantI S_ 1 0#1)) := by
  simp only [hostOps0_17]
  after_results_entrywise []

theorem pre16_v74_eq : after hostOps0_16 V (no_index (Proc.devRef .tc main_v74))
    = broadcastInDim S128x128 ![] bcast_S_S128x128 (constantI S_ 1 1#1) := by
  simp only [hostOps0_16]
  after_results_entrywise []

theorem pre_mask (t s : Fin 128) :
    (after hostOps0_17 (after hostOps0_16 V) (Proc.devRef .tc main_v75) : IVec S128x128 1) (ix2 t s) = BitVec.ofBool (Pf t s) := by
  rw [pre17_eq, pre16_v74_eq]
  pointwise
  rw [show IntOp.addi (BitVec.ofNat 32 t.val) 0#32 = BitVec.ofNat 32 t.val from BitVec.add_zero _,
    WordCmp.cmpi_sge_ofNat (by have := t.isLt; norm_num; omega) (by have := s.isLt; norm_num; omega), select_bool]
  unfold Pf
  by_cases hts : s.val ≤ t.val <;> simp [hts]

theorem both_q_eq : after hostOps0_8 (after hostOps0_7 V) (no_index (Proc.devRef .tc main_v65))
    = concatenate S12x4x4096x256 0 [⟨S6x4x4096x256, V (Proc.devRef .tc main_v51)⟩, ⟨S6x4x4096x256, Host.reverse [2] (V (Proc.devRef .tc main_v51))⟩] concatenates_S6x4x4096x256_S6x4x4096x256_S12x4x4096x256_d0 := by
  simp only [hostOps0_8, hostOps0_7]
  after_results_entrywise []

theorem both_q_lo (bb : Fin 6) (h : Fin 4) (r : Fin 4096) (d : Fin 256) :
    (after hostOps0_8 (after hostOps0_7 V) (Proc.devRef .tc main_v65) : FVec Ideal S12x4x4096x256 .f32) (ix4 ⟨bb.val, by omega⟩ h r d)
      = (V (Proc.devRef .tc main_v51) : FVec Ideal S6x4x4096x256 .f32) (ix4 bb h r d) := by
  rw [both_q_eq]
  pointwise

theorem both_q_hi (bb : Fin 6) (h : Fin 4) (r : Fin 4096) (d : Fin 256) :
    (after hostOps0_8 (after hostOps0_7 V) (Proc.devRef .tc main_v65) : FVec Ideal S12x4x4096x256 .f32) (ix4 ⟨6 + bb.val, by omega⟩ h r d)
      = (V (Proc.devRef .tc main_v51) : FVec Ideal S6x4x4096x256 .f32) (ix4 bb h r.rev d) := by
  rw [both_q_eq]
  pointwise
  simp

theorem both_k_eq : after hostOps0_10 (after hostOps0_9 V) (no_index (Proc.devRef .tc main_v67))
    = concatenate S12x4x4096x256 0 [⟨S6x4x4096x256, V (Proc.devRef .tc main_v53)⟩, ⟨S6x4x4096x256, Host.reverse [2] (V (Proc.devRef .tc main_v53))⟩] concatenates_S6x4x4096x256_S6x4x4096x256_S12x4x4096x256_d0 := by
  simp only [hostOps0_10, hostOps0_9]
  after_results_entrywise []

theorem both_k_lo (bb : Fin 6) (h : Fin 4) (r : Fin 4096) (d : Fin 256) :
    (after hostOps0_10 (after hostOps0_9 V) (Proc.devRef .tc main_v67) : FVec Ideal S12x4x4096x256 .f32) (ix4 ⟨bb.val, by omega⟩ h r d)
      = (V (Proc.devRef .tc main_v53) : FVec Ideal S6x4x4096x256 .f32) (ix4 bb h r d) := by
  rw [both_k_eq]
  pointwise

theorem both_k_hi (bb : Fin 6) (h : Fin 4) (r : Fin 4096) (d : Fin 256) :
    (after hostOps0_10 (after hostOps0_9 V) (Proc.devRef .tc main_v67) : FVec Ideal S12x4x4096x256 .f32) (ix4 ⟨6 + bb.val, by omega⟩ h r d)
      = (V (Proc.devRef .tc main_v53) : FVec Ideal S6x4x4096x256 .f32) (ix4 bb h r.rev d) := by
  rw [both_k_eq]
  pointwise
  simp

theorem both_v_eq : after hostOps0_12 (after hostOps0_11 V) (no_index (Proc.devRef .tc main_v69))
    = concatenate S12x4x4096x256 0 [⟨S6x4x4096x256, V (Proc.devRef .tc main_v55)⟩, ⟨S6x4x4096x256, Host.reverse [2] (V (Proc.devRef .tc main_v55))⟩] concatenates_S6x4x4096x256_S6x4x4096x256_S12x4x4096x256_d0 := by
  simp only [hostOps0_12, hostOps0_11]
  after_results_entrywise []

theorem both_v_lo (bb : Fin 6) (h : Fin 4) (r : Fin 4096) (d : Fin 256) :
    (after hostOps0_12 (after hostOps0_11 V) (Proc.devRef .tc main_v69) : FVec Ideal S12x4x4096x256 .f32) (ix4 ⟨bb.val, by omega⟩ h r d)
      = (V (Proc.devRef .tc main_v55) : FVec Ideal S6x4x4096x256 .f32) (ix4 bb h r d) := by
  rw [both_v_eq]
  pointwise

theorem both_v_hi (bb : Fin 6) (h : Fin 4) (r : Fin 4096) (d : Fin 256) :
    (after hostOps0_12 (after hostOps0_11 V) (Proc.devRef .tc main_v69) : FVec Ideal S12x4x4096x256 .f32) (ix4 ⟨6 + bb.val, by omega⟩ h r d)
      = (V (Proc.devRef .tc main_v55) : FVec Ideal S6x4x4096x256 .f32) (ix4 bb h r.rev d) := by
  rw [both_v_eq]
  pointwise
  simp

theorem both_i_eq : after hostOps0_14 (after hostOps0_13 V) (no_index (Proc.devRef .tc main_v71))
    = concatenate S12x4x4096 0 [⟨S6x4x4096, V (Proc.devRef .tc main_v58)⟩, ⟨S6x4x4096, Host.reverse [2] (V (Proc.devRef .tc main_v59))⟩] concatenates_S6x4x4096_S6x4x4096_S12x4x4096_d0 := by
  simp only [hostOps0_14, hostOps0_13]
  after_results_entrywise []

theorem both_i_lo (bb : Fin 6) (h : Fin 4) (r : Fin 4096) :
    (after hostOps0_14 (after hostOps0_13 V) (Proc.devRef .tc main_v71) : FVec Ideal S12x4x4096 .f32) (ix3 ⟨bb.val, by omega⟩ h r)
      = (V (Proc.devRef .tc main_v58) : FVec Ideal S6x4x4096 .f32) (ix3 bb h r) := by
  rw [both_i_eq]
  pointwise

theorem both_i_hi (bb : Fin 6) (h : Fin 4) (r : Fin 4096) :
    (after hostOps0_14 (after hostOps0_13 V) (Proc.devRef .tc main_v71) : FVec Ideal S12x4x4096 .f32) (ix3 ⟨6 + bb.val, by omega⟩ h r)
      = (V (Proc.devRef .tc main_v59) : FVec Ideal S6x4x4096 .f32) (ix3 bb h r.rev) := by
  rw [both_i_eq]
  pointwise
  simp

theorem both_f_eq : after hostOps0_16 (after hostOps0_15 V) (no_index (Proc.devRef .tc main_v73))
    = concatenate S12x4x4096 0 [⟨S6x4x4096, V (Proc.devRef .tc main_v62)⟩, ⟨S6x4x4096, Host.reverse [2] (V (Proc.devRef .tc main_v63))⟩] concatenates_S6x4x4096_S6x4x4096_S12x4x4096_d0 := by
  simp only [hostOps0_16, hostOps0_15]
  after_results_entrywise []

theorem both_f_lo (bb : Fin 6) (h : Fin 4) (r : Fin 4096) :
    (after hostOps0_16 (after hostOps0_15 V) (Proc.devRef .tc main_v73) : FVec Ideal S12x4x4096 .f32) (ix3 ⟨bb.val, by omega⟩ h r)
      = (V (Proc.devRef .tc main_v62) : FVec Ideal S6x4x4096 .f32) (ix3 bb h r) := by
  rw [both_f_eq]
  pointwise

theorem both_f_hi (bb : Fin 6) (h : Fin 4) (r : Fin 4096) :
    (after hostOps0_16 (after hostOps0_15 V) (Proc.devRef .tc main_v73) : FVec Ideal S12x4x4096 .f32) (ix3 ⟨6 + bb.val, by omega⟩ h r)
      = (V (Proc.devRef .tc main_v63) : FVec Ideal S6x4x4096 .f32) (ix3 bb h r.rev) := by
  rw [both_f_eq]
  pointwise
  simp

theorem ls_f_eq : after hostOps0_5 V (no_index (Proc.devRef .tc main_v62))
    = Host.negf (select (cmpf .une (subf (Host.negf (F := Ideal) (s := S6x4x4096) (φ := .f32) (V (Proc.devRef .tc main_v60))) (broadcastInDim S6x4x4096 ![] bcast_S_S6x4x4096 (constant (F := Ideal) S_ .f32 0x00000000#32))) (subf (Host.negf (F := Ideal) (s := S6x4x4096) (φ := .f32) (V (Proc.devRef .tc main_v60))) (broadcastInDim S6x4x4096 ![] bcast_S_S6x4x4096 (constant (F := Ideal) S_ .f32 0x00000000#32)))) (addf (Host.negf (F := Ideal) (s := S6x4x4096) (φ := .f32) (V (Proc.devRef .tc main_v60))) (broadcastInDim S6x4x4096 ![] bcast_S_S6x4x4096 (constant (F := Ideal) S_ .f32 0x00000000#32))) (addf (maximumf (Host.negf (F := Ideal) (s := S6x4x4096) (φ := .f32) (V (Proc.devRef .tc main_v60))) (broadcastInDim S6x4x4096 ![] bcast_S_S6x4x4096 (constant (F := Ideal) S_ .f32 0x00000000#32))) (Host.log1p (Host.exp (Host.negf (Host.absf (subf (Host.negf (F := Ideal) (s := S6x4x4096) (φ := .f32) (V (Proc.devRef .tc main_v60))) (broadcastInDim S6x4x4096 ![] bcast_S_S6x4x4096 (constant (F := Ideal) S_ .f32 0x00000000#32))))))))) := by
  simp only [hostOps0_5]
  after_results_entrywise []

theorem ls_f (b : Fin 6) (h : Fin 4) (r : Fin 4096) :
    (after hostOps0_5 V (Proc.devRef .tc main_v62) : FVec Ideal S6x4x4096 .f32) (ix3 b h r)
      = Math.logsig ((V (Proc.devRef .tc main_v60) : FVec Ideal S6x4x4096 .f32) (ix3 b h r)) := by
  rw [ls_f_eq]
  pointwise
  rw [if_neg (by simp), ← Math.logsig_eq]
  show _ = -(max (-_) 0 + Ideal.log1p (Ideal.exp (-(FloatOps.absf (F := Ideal) (φ := .f32) _))))
  rw [show ∀ y : EReal, FloatOps.absf (F := Ideal) (φ := .f32) (-y) = FloatOps.absf (F := Ideal) (φ := .f32) y from fun y => by
    show max (-y) (- -y) = max y (-y)
    rw [neg_neg, max_comm]]

theorem ls_b_eq : after hostOps0_6 V (no_index (Proc.devRef .tc main_v63))
    = Host.negf (select (cmpf .une (subf (Host.negf (F := Ideal) (s := S6x4x4096) (φ := .f32) (V (Proc.devRef .tc main_v61))) (broadcastInDim S6x4x4096 ![] bcast_S_S6x4x4096 (constant (F := Ideal) S_ .f32 0x00000000#32))) (subf (Host.negf (F := Ideal) (s := S6x4x4096) (φ := .f32) (V (Proc.devRef .tc main_v61))) (broadcastInDim S6x4x4096 ![] bcast_S_S6x4x4096 (constant (F := Ideal) S_ .f32 0x00000000#32)))) (addf (Host.negf (F := Ideal) (s := S6x4x4096) (φ := .f32) (V (Proc.devRef .tc main_v61))) (broadcastInDim S6x4x4096 ![] bcast_S_S6x4x4096 (constant (F := Ideal) S_ .f32 0x00000000#32))) (addf (maximumf (Host.negf (F := Ideal) (s := S6x4x4096) (φ := .f32) (V (Proc.devRef .tc main_v61))) (broadcastInDim S6x4x4096 ![] bcast_S_S6x4x4096 (constant (F := Ideal) S_ .f32 0x00000000#32))) (Host.log1p (Host.exp (Host.negf (Host.absf (subf (Host.negf (F := Ideal) (s := S6x4x4096) (φ := .f32) (V (Proc.devRef .tc main_v61))) (broadcastInDim S6x4x4096 ![] bcast_S_S6x4x4096 (constant (F := Ideal) S_ .f32 0x00000000#32))))))))) := by
  simp only [hostOps0_6]
  after_results_entrywise []

theorem ls_b (b : Fin 6) (h : Fin 4) (r : Fin 4096) :
    (after hostOps0_6 V (Proc.devRef .tc main_v63) : FVec Ideal S6x4x4096 .f32) (ix3 b h r)
      = Math.logsig ((V (Proc.devRef .tc main_v61) : FVec Ideal S6x4x4096 .f32) (ix3 b h r)) := by
  rw [ls_b_eq]
  pointwise
  rw [if_neg (by simp), ← Math.logsig_eq]
  show _ = -(max (-_) 0 + Ideal.log1p (Ideal.exp (-(FloatOps.absf (F := Ideal) (φ := .f32) _))))
  rw [show ∀ y : EReal, FloatOps.absf (F := Ideal) (φ := .f32) (-y) = FloatOps.absf (F := Ideal) (φ := .f32) y from fun y => by
    show max (-y) (- -y) = max y (-y)
    rw [neg_neg, max_comm]]

end Cert.ReferenceIdeal.Mlstm

end
-- ==== Proof.Mlstm.RefConv.lean ====
/- The reference's convolution of queries and keys, and its heads and gates, read at an index. -/
module

public import proofs.«01_k».proof.Proof.Gen.ReferenceIdeal.Run
public import proofs.«01_k».proof.Proof.Mlstm.Spec
public import Idealize.ShloMosaic.Lib.Pointwise

@[expose] public section

set_option maxRecDepth 16384

noncomputable section

namespace Cert.ReferenceIdeal.Mlstm

open Idealize.ShloMosaic Idealize.ShloMosaic.TcCoe Idealize.ShloMosaic.StableHlo
open Cert.ReferenceIdeal Cert.ReferenceIdeal.Gen Cert.ReferenceIdeal.Value Cert.Proof
open Cert.KernelIdeal.Mlstm (pad taps conv)

variable (V : Valuation τ sig (Elt Ideal))

theorem sitofp_zero : FloatOps.sitofp (F := Ideal) .f32 (0#32) = (0 : EReal) := by
  show (((0#32 : BitVec 32).toInt : ℝ) : EReal) = 0
  simp

theorem v4_eq : after hostOps0_1 (after hostOps0 V) (no_index (Proc.devRef .tc main_v4))
    = (extractStridedSlice S6x4096x1024 ![0, 0, 2048] (extf (F := Ideal) .f32 (extractStridedSlice S6x4096x3072 ![0, 0, 3072] (V (Proc.devRef .tc main_arg0)) slices_S6x4096x7168_S6x4096x3072_0_0_3072 : FVec Ideal S6x4096x3072 .bf16) bitsLt_bf16_f32) slices_S6x4096x3072_S6x4096x1024_0_0_2048) := by
  simp only [hostOps0, hostOps0_1]
  after_results_entrywise []

theorem v6_eq : after hostOps0_1 (after hostOps0 V) (no_index (Proc.devRef .tc main_v6))
    = shapeCast S2048 (V (Proc.devRef .tc main_arg3)) shapeCasts_S1x2048_S2048 := by
  simp only [hostOps0, hostOps0_1]
  after_results_entrywise []

theorem v7_eq : after hostOps0_1 (after hostOps0 V) (no_index (Proc.devRef .tc main_v7))
    = Idealize.ShloMosaic.pad S6x4100x2048 ![0, 2, 0] ![0, 2, 0] ![0, 0, 0] (concatenate S6x4096x2048 2 [⟨S6x4096x1024, (extractStridedSlice S6x4096x1024 ![0, 0, 0] (extf (F := Ideal) .f32 (extractStridedSlice S6x4096x3072 ![0, 0, 3072] (V (Proc.devRef .tc main_arg0)) slices_S6x4096x7168_S6x4096x3072_0_0_3072 : FVec Ideal S6x4096x3072 .bf16) bitsLt_bf16_f32) slices_S6x4096x3072_S6x4096x1024_0_0_0)⟩, ⟨S6x4096x1024, (extractStridedSlice S6x4096x1024 ![0, 0, 1024] (extf (F := Ideal) .f32 (extractStridedSlice S6x4096x3072 ![0, 0, 3072] (V (Proc.devRef .tc main_arg0)) slices_S6x4096x7168_S6x4096x3072_0_0_3072 : FVec Ideal S6x4096x3072 .bf16) bitsLt_bf16_f32) slices_S6x4096x3072_S6x4096x1024_0_0_1024)⟩] concatenates_S6x4096x1024_S6x4096x1024_S6x4096x2048_d2) (sitofp (F := Ideal) .f32 (constantI S_ 32 0#32)) pads_S6x4096x2048_S6x4100x2048_000_220_000 h_S_ := by
  simp only [hostOps0, hostOps0_1]
  after_results_entrywise []

theorem v4_at (b : Fin 6) (r : Fin 4096) (d : Fin 1024) :
    (after hostOps0_1 (after hostOps0 V) (Proc.devRef .tc main_v4) : FVec Ideal S6x4096x1024 .f32) (ix3 b r d)
      = (V (Proc.devRef .tc main_arg0) : FVec Ideal S6x4096x7168 .bf16) (ix3 b r ⟨5120 + d.val, by omega⟩) := by
  rw [v4_eq]
  pointwise
  rw [show (⟨3072 + (2048 + d.val), by omega⟩ : Fin 7168) = ⟨5120 + d.val, by omega⟩ from Fin.ext (by show 3072 + (2048 + d.val) = 5120 + d.val; omega)]

theorem v6_at (d : Fin 2048) :
    (after hostOps0_1 (after hostOps0 V) (Proc.devRef .tc main_v6) : FVec Ideal S2048 .f32) (ix1 d)
      = (V (Proc.devRef .tc main_arg3) : FVec Ideal S1x2048 .f32) (ix2 0 d) := by
  rw [v6_eq]
  pointwise

theorem v7_at (b : Fin 6) (y : Fin 4100) (d : Fin 2048) :
    (after hostOps0_1 (after hostOps0 V) (Proc.devRef .tc main_v7) : FVec Ideal S6x4100x2048 .f32) (ix3 b y d)
      = if h : 2 ≤ y.val ∧ y.val < 4098 then
          (V (Proc.devRef .tc main_arg0) : FVec Ideal S6x4096x7168 .bf16) (ix3 b ⟨y.val - 2, by omega⟩ ⟨3072 + d.val, by omega⟩) else (0 : EReal) := by
  rw [v7_eq]
  pointwise
  by_cases hy : 2 ≤ y.val ∧ y.val < 4098
  · refine Eq.trans ?_ (dif_pos hy).symm
    refine (dif_pos (show 2 ≤ y.val ∧ y.val - 2 < 4096 from ⟨hy.1, by have := hy.2; omega⟩)).trans ?_
    by_cases hd : d.val < 1024
    · exact dif_pos hd
    · refine (dif_neg hd).trans ?_
      refine congrArg _ ?_
      congr 1
      exact Fin.ext (by show 3072 + (1024 + (d.val - 1024)) = 3072 + d.val; omega)
  · refine Eq.trans ?_ (dif_neg hy).symm
    exact (dif_neg (show ¬(2 ≤ y.val ∧ y.val - 2 < 4096) from fun hh => hy ⟨hh.1, by have := hh.1; have := hh.2; omega⟩)).trans sitofp_zero

theorem v44_eq : after hostOps0_2 V (no_index (Proc.devRef .tc main_v44))
    = (addf (F := Ideal) (s := S6x4096x2048) (φ := .f32) (addf (F := Ideal) (s := S6x4096x2048) (φ := .f32) (addf (F := Ideal) (s := S6x4096x2048) (φ := .f32) (addf (F := Ideal) (s := S6x4096x2048) (φ := .f32) (addf (F := Ideal) (s := S6x4096x2048) (φ := .f32) (broadcastInDim S6x4096x2048 ![0, 1, 2] bcast_S1x1x2048_S6x4096x2048_0_1_2 (broadcastInDim S1x1x2048 ![2] bcast_S2048_S1x1x2048_2 (V (Proc.devRef .tc main_v6)))) (mulf (F := Ideal) (s := S6x4096x2048) (φ := .f32) (extractStridedSlice S6x4096x2048 ![0, 0, 0] (V (Proc.devRef .tc main_v7)) slices_S6x4100x2048_S6x4096x2048_0_0_0) (broadcastInDim S6x4096x2048 ![0, 1, 2] bcast_S1x1x2048_S6x4096x2048_0_1_2 (broadcastInDim S1x1x2048 ![2] bcast_S2048_S1x1x2048_2 (shapeCast S2048 (extractStridedSlice S1x2048 ![0, 0] (V (Proc.devRef .tc main_arg2)) slices_S5x2048_S1x2048_0_0) shapeCasts_S1x2048_S2048))))) (mulf (F := Ideal) (s := S6x4096x2048) (φ := .f32) (extractStridedSlice S6x4096x2048 ![0, 1, 0] (V (Proc.devRef .tc main_v7)) slices_S6x4100x2048_S6x4096x2048_0_1_0) (broadcastInDim S6x4096x2048 ![0, 1, 2] bcast_S1x1x2048_S6x4096x2048_0_1_2 (broadcastInDim S1x1x2048 ![2] bcast_S2048_S1x1x2048_2 (shapeCast S2048 (extractStridedSlice S1x2048 ![1, 0] (V (Proc.devRef .tc main_arg2)) slices_S5x2048_S1x2048_1_0) shapeCasts_S1x2048_S2048))))) (mulf (F := Ideal) (s := S6x4096x2048) (φ := .f32) (extractStridedSlice S6x4096x2048 ![0, 2, 0] (V (Proc.devRef .tc main_v7)) slices_S6x4100x2048_S6x4096x2048_0_2_0) (broadcastInDim S6x4096x2048 ![0, 1, 2] bcast_S1x1x2048_S6x4096x2048_0_1_2 (broadcastInDim S1x1x2048 ![2] bcast_S2048_S1x1x2048_2 (shapeCast S2048 (extractStridedSlice S1x2048 ![2, 0] (V (Proc.devRef .tc main_arg2)) slices_S5x2048_S1x2048_2_0) shapeCasts_S1x2048_S2048))))) (mulf (F := Ideal) (s := S6x4096x2048) (φ := .f32) (extractStridedSlice S6x4096x2048 ![0, 3, 0] (V (Proc.devRef .tc main_v7)) slices_S6x4100x2048_S6x4096x2048_0_3_0) (broadcastInDim S6x4096x2048 ![0, 1, 2] bcast_S1x1x2048_S6x4096x2048_0_1_2 (broadcastInDim S1x1x2048 ![2] bcast_S2048_S1x1x2048_2 (shapeCast S2048 (extractStridedSlice S1x2048 ![3, 0] (V (Proc.devRef .tc main_arg2)) slices_S5x2048_S1x2048_3_0) shapeCasts_S1x2048_S2048))))) (mulf (F := Ideal) (s := S6x4096x2048) (φ := .f32) (extractStridedSlice S6x4096x2048 ![0, 4, 0] (V (Proc.devRef .tc main_v7)) slices_S6x4100x2048_S6x4096x2048_0_4_0) (broadcastInDim S6x4096x2048 ![0, 1, 2] bcast_S1x1x2048_S6x4096x2048_0_1_2 (broadcastInDim S1x1x2048 ![2] bcast_S2048_S1x1x2048_2 (shapeCast S2048 (extractStridedSlice S1x2048 ![4, 0] (V (Proc.devRef .tc main_arg2)) slices_S5x2048_S1x2048_4_0) shapeCasts_S1x2048_S2048))))) := by
  simp only [hostOps0_2]
  after_results_entrywise []

theorem v45_eq : after hostOps0_3 V (no_index (Proc.devRef .tc main_v45))
    = mulf (F := Ideal) (s := S6x4096x2048) (φ := .f32) (V (Proc.devRef .tc main_v44)) (Host.divf (broadcastInDim S6x4096x2048 ![] bcast_S_S6x4096x2048 (constant (F := Ideal) S_ .f32 0x3F800000#32)) (addf (broadcastInDim S6x4096x2048 ![] bcast_S_S6x4096x2048 (constant (F := Ideal) S_ .f32 0x3F800000#32)) (Host.exp (Host.negf (V (Proc.devRef .tc main_v44)))))) := by
  simp only [hostOps0_3]
  after_results_entrywise []

theorem v51_eq : after hostOps0_4 V (no_index (Proc.devRef .tc main_v51))
    = mulf (F := Ideal) (s := S6x4x4096x256) (φ := .f32) (transpose S6x4x4096x256 [0, 2, 1, 3] (shapeCast S6x4096x4x256 (extractStridedSlice S6x4096x1024 ![0, 0, 0] (V (Proc.devRef .tc main_v45)) slices_S6x4096x2048_S6x4096x1024_0_0_0) shapeCasts_S6x4096x1024_S6x4096x4x256) transposes_S6x4096x4x256_S6x4x4096x256_0_2_1_3) (broadcastInDim S6x4x4096x256 ![] bcast_S_S6x4x4096x256 (constant (F := Ideal) S_ .f32 0x3D800000#32)) := by
  simp only [hostOps0_4]
  after_results_entrywise []

theorem v53_eq : after hostOps0_4 V (no_index (Proc.devRef .tc main_v53))
    = (transpose S6x4x4096x256 [0, 2, 1, 3] (shapeCast S6x4096x4x256 (extractStridedSlice S6x4096x1024 ![0, 0, 1024] (V (Proc.devRef .tc main_v45)) slices_S6x4096x2048_S6x4096x1024_0_0_1024) shapeCasts_S6x4096x1024_S6x4096x4x256) transposes_S6x4096x4x256_S6x4x4096x256_0_2_1_3) := by
  simp only [hostOps0_4]
  after_results_entrywise []

theorem v55_eq : after hostOps0_4 V (no_index (Proc.devRef .tc main_v55))
    = (transpose S6x4x4096x256 [0, 2, 1, 3] (shapeCast S6x4096x4x256 (V (Proc.devRef .tc main_v4)) shapeCasts_S6x4096x1024_S6x4096x4x256) transposes_S6x4096x4x256_S6x4x4096x256_0_2_1_3) := by
  simp only [hostOps0_4]
  after_results_entrywise []

theorem v58_eq : after hostOps0_4 V (no_index (Proc.devRef .tc main_v58))
    = extractStridedSlice S6x4x4096 ![0, 0, 0] (transpose S6x16x4096 [1, 0, 2] (shapeCast S16x6x4096 (V (Proc.devRef .tc main_arg1)) shapeCasts_S4x4x6x32x128_S16x6x4096) transposes_S16x6x4096_S6x16x4096_1_0_2) slices_S6x16x4096_S6x4x4096_0_0_0 := by
  simp only [hostOps0_4]
  after_results_entrywise []

theorem v58_at (b : Fin 6) (h : Fin 4) (r : Fin 4096) :
    (after hostOps0_4 V (Proc.devRef .tc main_v58) : FVec Ideal S6x4x4096 .f32) (ix3 b h r)
      = (V (Proc.devRef .tc main_arg1) : FVec Ideal S4x4x6x32x128 .f32) (ix5 0 h b ⟨r.val / 128, by omega⟩ ⟨r.val % 128, by omega⟩) := by
  rw [v58_eq]
  pointwise
  refine congrArg _ ?_
  congr 1
  all_goals refine Fin.ext ?_
  all_goals simp
  all_goals omega

theorem v59_eq : after hostOps0_4 V (no_index (Proc.devRef .tc main_v59))
    = extractStridedSlice S6x4x4096 ![0, 4, 0] (transpose S6x16x4096 [1, 0, 2] (shapeCast S16x6x4096 (V (Proc.devRef .tc main_arg1)) shapeCasts_S4x4x6x32x128_S16x6x4096) transposes_S16x6x4096_S6x16x4096_1_0_2) slices_S6x16x4096_S6x4x4096_0_4_0 := by
  simp only [hostOps0_4]
  after_results_entrywise []

theorem v59_at (b : Fin 6) (h : Fin 4) (r : Fin 4096) :
    (after hostOps0_4 V (Proc.devRef .tc main_v59) : FVec Ideal S6x4x4096 .f32) (ix3 b h r)
      = (V (Proc.devRef .tc main_arg1) : FVec Ideal S4x4x6x32x128 .f32) (ix5 1 h b ⟨r.val / 128, by omega⟩ ⟨r.val % 128, by omega⟩) := by
  rw [v59_eq]
  pointwise
  refine congrArg _ ?_
  congr 1
  all_goals refine Fin.ext ?_
  all_goals simp
  all_goals omega

theorem v60_eq : after hostOps0_4 V (no_index (Proc.devRef .tc main_v60))
    = extractStridedSlice S6x4x4096 ![0, 8, 0] (transpose S6x16x4096 [1, 0, 2] (shapeCast S16x6x4096 (V (Proc.devRef .tc main_arg1)) shapeCasts_S4x4x6x32x128_S16x6x4096) transposes_S16x6x4096_S6x16x4096_1_0_2) slices_S6x16x4096_S6x4x4096_0_8_0 := by
  simp only [hostOps0_4]
  after_results_entrywise []

theorem v60_at (b : Fin 6) (h : Fin 4) (r : Fin 4096) :
    (after hostOps0_4 V (Proc.devRef .tc main_v60) : FVec Ideal S6x4x4096 .f32) (ix3 b h r)
      = (V (Proc.devRef .tc main_arg1) : FVec Ideal S4x4x6x32x128 .f32) (ix5 2 h b ⟨r.val / 128, by omega⟩ ⟨r.val % 128, by omega⟩) := by
  rw [v60_eq]
  pointwise
  refine congrArg _ ?_
  congr 1
  all_goals refine Fin.ext ?_
  all_goals simp
  all_goals omega

theorem v61_eq : after hostOps0_4 V (no_index (Proc.devRef .tc main_v61))
    = extractStridedSlice S6x4x4096 ![0, 12, 0] (transpose S6x16x4096 [1, 0, 2] (shapeCast S16x6x4096 (V (Proc.devRef .tc main_arg1)) shapeCasts_S4x4x6x32x128_S16x6x4096) transposes_S16x6x4096_S6x16x4096_1_0_2) slices_S6x16x4096_S6x4x4096_0_12_0 := by
  simp only [hostOps0_4]
  after_results_entrywise []

theorem v61_at (b : Fin 6) (h : Fin 4) (r : Fin 4096) :
    (after hostOps0_4 V (Proc.devRef .tc main_v61) : FVec Ideal S6x4x4096 .f32) (ix3 b h r)
      = (V (Proc.devRef .tc main_arg1) : FVec Ideal S4x4x6x32x128 .f32) (ix5 3 h b ⟨r.val / 128, by omega⟩ ⟨r.val % 128, by omega⟩) := by
  rw [v61_eq]
  pointwise
  refine congrArg _ ?_
  congr 1
  all_goals refine Fin.ext ?_
  all_goals simp
  all_goals omega

theorem v51_at (b : Fin 6) (h : Fin 4) (r : Fin 4096) (d : Fin 256) :
    (after hostOps0_4 V (Proc.devRef .tc main_v51) : FVec Ideal S6x4x4096x256 .f32) (ix4 b h r d)
      = @HMul.hMul EReal EReal EReal _ ((V (Proc.devRef .tc main_v45) : FVec Ideal S6x4096x2048 .f32) (ix3 b r ⟨0 + (256 * h.val + d.val), by omega⟩)) (Ideal.ofBits .f32 1031798784#32) := by
  rw [v51_eq]
  pointwise
  simp only [Nat.mul_comm h.val 256]
  try simp only [Nat.zero_add]

theorem v53_at (b : Fin 6) (h : Fin 4) (r : Fin 4096) (d : Fin 256) :
    (after hostOps0_4 V (Proc.devRef .tc main_v53) : FVec Ideal S6x4x4096x256 .f32) (ix4 b h r d)
      = ((V (Proc.devRef .tc main_v45) : FVec Ideal S6x4096x2048 .f32) (ix3 b r ⟨1024 + (256 * h.val + d.val), by omega⟩)) := by
  rw [v53_eq]
  pointwise
  simp only [Nat.mul_comm h.val 256]
  try simp only [Nat.zero_add]

theorem v55_at (b : Fin 6) (h : Fin 4) (r : Fin 4096) (d : Fin 256) :
    (after hostOps0_4 V (Proc.devRef .tc main_v55) : FVec Ideal S6x4x4096x256 .f32) (ix4 b h r d)
      = ((V (Proc.devRef .tc main_v4) : FVec Ideal S6x4096x1024 .f32) (ix3 b r ⟨0 + (256 * h.val + d.val), by omega⟩)) := by
  rw [v55_eq]
  pointwise
  simp only [Nat.mul_comm h.val 256]
  try simp only [Nat.zero_add]

theorem v45_at (b : Fin 6) (r : Fin 4096) (d : Fin 2048) :
    (after hostOps0_3 V (Proc.devRef .tc main_v45) : FVec Ideal S6x4096x2048 .f32) (ix3 b r d)
      = @HMul.hMul EReal EReal EReal _ ((V (Proc.devRef .tc main_v44) : FVec Ideal S6x4096x2048 .f32) (ix3 b r d))
        (Ideal.logistic ((V (Proc.devRef .tc main_v44) : FVec Ideal S6x4096x2048 .f32) (ix3 b r d))) := by
  rw [v45_eq]
  pointwise
  rfl

theorem v44_at (b : Fin 6) (r : Fin 4096) (d : Fin 2048) (X : Fin 4096 → Fin 256 → EReal) (w : Fin 5 → Fin 256 → EReal) (bb : Fin 256 → EReal) (e : Fin 256)
    (hX : ∀ y : Fin 4100, (V (Proc.devRef .tc main_v7) : FVec Ideal S6x4100x2048 .f32) (ix3 b y d) = pad X (y.val + 14) e)
    (hw : ∀ j : Fin 5, (V (Proc.devRef .tc main_arg2) : FVec Ideal S5x2048 .f32) (ix2 j d) = w j e)
    (hb : (V (Proc.devRef .tc main_v6) : FVec Ideal S2048 .f32) (ix1 d) = bb e) :
    (after hostOps0_2 V (Proc.devRef .tc main_v44) : FVec Ideal S6x4096x2048 .f32) (ix3 b r d) = taps X w bb r.val e := by
  rw [v44_eq]
  pointwise
  unfold taps
  rw [hb, hX, hX, hX, hX, hX, hw, hw, hw, hw, hw]
  simp only [Nat.add_comm _ r.val, Nat.add_assoc]

end Cert.ReferenceIdeal.Mlstm

end
-- ==== Proof.Mlstm.RefStep.lean ====
/- One trip of the reference's scan, read at an index: one step of the recurrence. -/
module

public import proofs.«01_k».proof.Proof.Gen.ReferenceIdeal.Run
public import proofs.«01_k».proof.Proof.Mlstm.Spec
public import Idealize.ShloMosaic.Lib.Pointwise
public import Idealize.ShloMosaic.Lib.DynamicIndex

@[expose] public section

set_option maxRecDepth 16384

noncomputable section

namespace Cert.ReferenceIdeal.Mlstm

open Idealize.ShloMosaic Idealize.ShloMosaic.TcCoe
open Cert.ReferenceIdeal Cert.ReferenceIdeal.Value Cert.Proof
open Cert.KernelIdeal.Mlstm (Chunk State next outC states outs ones Pf)

/-! ### Slices at the counter -/

theorem slice5_at {α : Type} (x : S32x12x4x128x256.Idx → α) (start : Fin 5 → Int) (hs0 : S32x12x4x128x256.Slices (fun _ => 0) S1x12x4x128x256)
    (hc : S1x12x4x128x256.ShapeCasts S12x4x128x256) (n : Fin 32) (hs : ∀ a, start a = ((![n.val, 0, 0, 0, 0] : Fin 5 → ℕ) a : Int))
    (bb : Fin 12) (h : Fin 4) (t : Fin 128) (d : Fin 256) :
    shapeCast S12x4x128x256 (Host.dynamicSlice S1x12x4x128x256 x start hs0) hc (ix4 bb h t d) = x (ix5 n bb h t d) := by
  have hsl : S32x12x4x128x256.Slices ![n.val, 0, 0, 0, 0] S1x12x4x128x256 := ⟨rfl, fun a => by fin_cases a <;> simp <;> omega⟩
  rw [Host.dynamicSlice_eq_extractStridedSlice _ x start ![n.val, 0, 0, 0, 0] hs0 hsl hs]
  pointwise

theorem slice4_at {α : Type} (x : S32x12x4x128.Idx → α) (start : Fin 4 → Int) (hs0 : S32x12x4x128.Slices (fun _ => 0) S1x12x4x128)
    (hc : S1x12x4x128.ShapeCasts S12x4x128) (n : Fin 32) (hs : ∀ a, start a = ((![n.val, 0, 0, 0] : Fin 4 → ℕ) a : Int))
    (bb : Fin 12) (h : Fin 4) (t : Fin 128) :
    shapeCast S12x4x128 (Host.dynamicSlice S1x12x4x128 x start hs0) hc (ix3 bb h t) = x (ix4 n bb h t) := by
  have hsl : S32x12x4x128.Slices ![n.val, 0, 0, 0] S1x12x4x128 := ⟨rfl, fun a => by fin_cases a <;> simp <;> omega⟩
  rw [Host.dynamicSlice_eq_extractStridedSlice _ x start ![n.val, 0, 0, 0] hs0 hsl hs]
  pointwise

theorem update5_at {α : Type} (x : S32x12x4x128x256.Idx → α) (u : S1x12x4x128x256.Idx → α) (start : Fin 5 → Int)
    (hs0 : S32x12x4x128x256.Slices (fun _ => 0) S1x12x4x128x256) (n : Fin 32) (hs : ∀ a, start a = ((![n.val, 0, 0, 0, 0] : Fin 5 → ℕ) a : Int))
    (n' : Fin 32) (bb : Fin 12) (h : Fin 4) (t : Fin 128) (d : Fin 256) :
    Host.dynamicUpdateSlice x u start hs0 (ix5 n' bb h t d) = if n' = n then u (ix5 0 bb h t d) else x (ix5 n' bb h t d) := by
  have hcl : ∀ a, Host.clampedStart S32x12x4x128x256 S1x12x4x128x256 hs0.1 start a = (![n.val, 0, 0, 0, 0] : Fin 5 → ℕ) a := fun a => by
    refine Host.clampedStart_of_le hs0.1 start a _ (hs a) ?_
    fin_cases a <;> simp <;> omega
  rw [Host.dynamicUpdateSlice_apply]
  by_cases hn : n' = n
  · subst hn
    rw [if_pos rfl, dif_pos (fun a => by rw [hcl]; fin_cases a <;> simp)]
    congr 1
    rw [Shape.Idx.norm_def]
    refine funext fun a => Fin.ext ?_
    simp only [hcl]
    fin_cases a <;> simp
  · rw [if_neg hn, dif_neg fun hh => hn (Fin.ext (by
      have := hh 0; rw [hcl] at this; simp at this; omega))]

/-! ### The running sum -/

theorem foldl_add {n : ℕ} (f : Fin n → EReal) (l : List (Fin n)) (a : EReal) :
    l.foldl (fun r n => r + f n) a = a + (l.map f).sum := by
  induction l generalizing a with
  | nil => simp
  | cons b l ih => rw [List.foldl_cons, ih, List.map_cons, List.sum_cons, add_assoc]

/-- The window's positions are those of its last axis. -/
def winEquiv : (⟨3, ![1, 1, 128]⟩ : Shape).Idx ≃ Fin 128 where
  toFun w := w 2
  invFun k := ix3 0 0 k
  left_inv w := by
    refine funext fun a => Fin.ext ?_
    fin_cases a
    · have := (w 0).isLt; show 0 = (w 0).val; simp at this; omega
    · have := (w 1).isLt; show 0 = (w 1).val; simp at this; omega
    · rfl
  right_inv k := rfl

theorem window_at (x : S12x4x128.Idx → EReal)
    (hw : S12x4x128.ReduceWindows ![1, 1, 128] ![1, 1, 1] ![0, 0, 127] ![0, 0, 0] S12x4x128) (bb : Fin 12) (h : Fin 4) (t : Fin 128) :
    Ideal.hostReduceWindowAdd ![1, 1, 128] ![1, 1, 1] ![0, 0, 127] ![0, 0, 0] hw x 0 (ix3 bb h t)
      = Math.cum Pf (fun s => x (ix3 bb h s)) t := by
  unfold Ideal.hostReduceWindowAdd Host.reduceWindow
  refine (foldl_add _ _ _).trans ?_
  rw [zero_add, ← Fin.sum_univ_def]
  refine ((Finset.sum_congr rfl fun n _ => ?_).trans (Equiv.sum_comp (Shape.rowMajor ⟨3, ![1, 1, 128]⟩).symm
    (fun w => if h' : 127 ≤ t.val + (winEquiv w).val then x (ix3 bb h ⟨t.val + (winEquiv w).val - 127, by omega⟩) else 0))).trans ?_
  · change _ = if h' : 127 ≤ t.val + ((Shape.rowMajor ⟨3, ![1, 1, 128]⟩).symm n 2).val then _ else _
    have w0 : ((Shape.rowMajor ⟨3, ![1, 1, 128]⟩).symm n 0).val < 1 := ((Shape.rowMajor ⟨3, ![1, 1, 128]⟩).symm n 0).isLt
    have w1 : ((Shape.rowMajor ⟨3, ![1, 1, 128]⟩).symm n 1).val < 1 := ((Shape.rowMajor ⟨3, ![1, 1, 128]⟩).symm n 1).isLt
    have w2 : ((Shape.rowMajor ⟨3, ![1, 1, 128]⟩).symm n 2).val < 128 := ((Shape.rowMajor ⟨3, ![1, 1, 128]⟩).symm n 2).isLt
    by_cases hc : 127 ≤ t.val + ((Shape.rowMajor ⟨3, ![1, 1, 128]⟩).symm n 2).val
    · refine (dif_pos ?_).trans (Eq.trans ?_ (dif_pos hc).symm)
      · intro a
        fin_cases a
        · show 0 ≤ bb.val * 1 + ((Shape.rowMajor ⟨3, ![1, 1, 128]⟩).symm n 0).val ∧ bb.val * 1 + ((Shape.rowMajor ⟨3, ![1, 1, 128]⟩).symm n 0).val - 0 < 12; omega
        · show 0 ≤ h.val * 1 + ((Shape.rowMajor ⟨3, ![1, 1, 128]⟩).symm n 1).val ∧ h.val * 1 + ((Shape.rowMajor ⟨3, ![1, 1, 128]⟩).symm n 1).val - 0 < 4; omega
        · show 127 ≤ t.val * 1 + ((Shape.rowMajor ⟨3, ![1, 1, 128]⟩).symm n 2).val ∧ t.val * 1 + ((Shape.rowMajor ⟨3, ![1, 1, 128]⟩).symm n 2).val - 127 < 128; omega
      · refine congrArg x (funext fun a => Fin.ext ?_)
        fin_cases a
        · show bb.val * 1 + ((Shape.rowMajor ⟨3, ![1, 1, 128]⟩).symm n 0).val - 0 = bb.val; omega
        · show h.val * 1 + ((Shape.rowMajor ⟨3, ![1, 1, 128]⟩).symm n 1).val - 0 = h.val; omega
        · show t.val * 1 + ((Shape.rowMajor ⟨3, ![1, 1, 128]⟩).symm n 2).val - 127 = t.val + ((Shape.rowMajor ⟨3, ![1, 1, 128]⟩).symm n 2).val - 127; omega
    · refine (dif_neg ?_).trans (by show (0 : EReal) = _; rw [dif_neg hc])
      intro hin
      have h2 : 127 ≤ t.val * 1 + ((Shape.rowMajor ⟨3, ![1, 1, 128]⟩).symm n 2).val := (hin 2).1
      omega
  rw [Equiv.sum_comp winEquiv (fun k => if h' : 127 ≤ t.val + k.val then x (ix3 bb h ⟨t.val + k.val - 127, by omega⟩) else 0)]
  unfold Math.cum Cert.KernelIdeal.Mlstm.Pf
  simp only [decide_eq_true_eq]
  rw [← Finset.sum_filter, ← Finset.sum_filter_add_sum_filter_not Finset.univ (fun k : Fin 128 => 127 ≤ t.val + k.val),
    Finset.sum_congr (s₁ := Finset.univ.filter fun k : Fin 128 => ¬ 127 ≤ t.val + k.val) rfl (g := fun _ => 0)
      (fun k hk => dif_neg (Finset.mem_filter.mp hk).2), Finset.sum_const_zero, add_zero]
  refine Finset.sum_bij' (fun k hk => ⟨t.val + k.val - 127, by omega⟩)
    (fun s hs => ⟨s.val + 127 - t.val, by have := Fin.le_def.mp (Finset.mem_filter.mp hs).2; omega⟩) ?_ ?_ ?_ ?_ ?_
  · intro k hk; have := (Finset.mem_filter.mp hk).2
    exact Finset.mem_filter.mpr ⟨Finset.mem_univ _, Fin.le_def.mpr (by show t.val + k.val - 127 ≤ t.val; omega)⟩
  · intro s hs; have := Fin.le_def.mp (Finset.mem_filter.mp hs).2
    exact Finset.mem_filter.mpr ⟨Finset.mem_univ _, by show 127 ≤ t.val + (s.val + 127 - t.val); omega⟩
  · intro k hk; have := (Finset.mem_filter.mp hk).2
    exact Fin.ext (by show t.val + k.val - 127 + 127 - t.val = k.val; omega)
  · intro s hs; have := Fin.le_def.mp (Finset.mem_filter.mp hs).2
    exact Fin.ext (by show t.val + (s.val + 127 - t.val) - 127 = s.val; omega)
  · intro k hk
    exact dif_pos (Finset.mem_filter.mp hk).2

/-! ### The chunk a trip takes -/

theorem counter_int : ∀ n : Fin 32, (BitVec.ofNat 32 n.val).toInt = (n.val : ℤ) := by decide

section Slices
variable {V : Valuation τ sig (Elt Ideal)} {n : Fin 32}
  (hk : (V (Proc.devRef .tc main_v90_6) : IVec S_ 32) = fun _ => BitVec.ofNat 32 n.val)
include hk

theorem r124 (bb : Fin 12) (h : Fin 4) (t : Fin 128) (d : Fin 256) : res_main_while0b_v124 V (ix4 bb h t d)
    = (V (Proc.devRef .tc main_v90_0) : FVec Ideal S32x12x4x128x256 .f32) (ix5 n bb h t d) := by
  unfold res_main_while0b_v124
  rw [hk]
  exact slice5_at _ _ _ _ n (fun a => by fin_cases a <;> first | exact counter_int n | rfl) bb h t d

theorem r125 (bb : Fin 12) (h : Fin 4) (t : Fin 128) (d : Fin 256) : res_main_while0b_v125 V (ix4 bb h t d)
    = (V (Proc.devRef .tc main_v90_1) : FVec Ideal S32x12x4x128x256 .f32) (ix5 n bb h t d) := by
  unfold res_main_while0b_v125
  rw [hk]
  exact slice5_at _ _ _ _ n (fun a => by fin_cases a <;> first | exact counter_int n | rfl) bb h t d

theorem r126 (bb : Fin 12) (h : Fin 4) (t : Fin 128) (d : Fin 256) : res_main_while0b_v126 V (ix4 bb h t d)
    = (V (Proc.devRef .tc main_v90_2) : FVec Ideal S32x12x4x128x256 .f32) (ix5 n bb h t d) := by
  unfold res_main_while0b_v126
  rw [hk]
  exact slice5_at _ _ _ _ n (fun a => by fin_cases a <;> first | exact counter_int n | rfl) bb h t d

theorem r127 (bb : Fin 12) (h : Fin 4) (t : Fin 128) : res_main_while0b_v127 V (ix3 bb h t)
    = (V (Proc.devRef .tc main_v90_3) : FVec Ideal S32x12x4x128 .f32) (ix4 n bb h t) := by
  unfold res_main_while0b_v127
  rw [hk]
  exact slice4_at _ _ _ _ n (fun a => by fin_cases a <;> first | exact counter_int n | rfl) bb h t

theorem r129 (bb : Fin 12) (h : Fin 4) (t : Fin 128) : res_main_while0b_v129 V (ix3 bb h t)
    = Math.cum Pf (fun s => (V (Proc.devRef .tc main_v90_4) : FVec Ideal S32x12x4x128 .f32) (ix4 n bb h s)) t := by
  unfold res_main_while0b_v129
  rw [hk]
  have h0 : broadcastInDim S_ ![] Gen.bcast_S_S_ (constant (F := Ideal) S_ .f32 0x00000000#32) (Shape.Idx.first Gen.h_S_) = (0 : EReal) := by
    pointwise
  unfold Host.reduceWindowAdd
  rw [h0]
  refine (window_at _ _ bb h t).trans ?_
  refine congrArg (fun f => Math.cum Pf f t) (funext fun s => ?_)
  exact slice4_at _ _ _ _ n (fun a => by fin_cases a <;> first | exact counter_int n | rfl) bb h s

end Slices

theorem ones_last (v : Fin 128 → Fin 256 → EReal) (s : Fin 128) : ones v s (256 : Fin 384) = 1 := by
  unfold ones; rw [dif_neg (by decide), if_pos (by decide)]

theorem ones_lt (v : Fin 128 → Fin 256 → EReal) (s : Fin 128) (e : Fin 256) (h : e.val < 384) : ones v s ⟨e.val, h⟩ = v s e := by
  unfold ones; rw [dif_pos e.isLt]

section Step
variable (V : Valuation τ sig (Elt Ideal)) (bb : Fin 12) (h : Fin 4) (D : Chunk) (σ : State)

/-- The carried state and this trip's chunk at one sequence and head. -/
structure At : Prop where
  q : ∀ t d, res_main_while0b_v124 V (ix4 bb h t d) = D.q t d
  k : ∀ t d, res_main_while0b_v125 V (ix4 bb h t d) = D.k t d
  v : ∀ t d, res_main_while0b_v126 V (ix4 bb h t d) = D.v t d
  i : ∀ t, res_main_while0b_v127 V (ix3 bb h t) = D.i t
  b : ∀ t, res_main_while0b_v129 V (ix3 bb h t) = D.b t
  mask : ∀ t s : Fin 128, (V (Proc.devRef .tc main_v90_5) : IVec S128x128 1) (ix2 t s) = BitVec.ofBool (Pf t s)
  c : ∀ e d : Fin 256, (V (Proc.devRef .tc main_v90_7) : FVec Ideal S12x4x256x256 .f32) (ix4 bb h e d) = σ.1 d ⟨e.val, by omega⟩
  n : ∀ d : Fin 256, (V (Proc.devRef .tc main_v90_8) : FVec Ideal S12x4x256 .f32) (ix3 bb h d) = σ.1 d ⟨256, by omega⟩
  m : (V (Proc.devRef .tc main_v90_9) : FVec Ideal S12x4 .f32) (ix2 bb h) = σ.2

variable {V bb h D σ} (A : At V bb h D σ)
include A

theorem r141 (t : Fin 128) : res_main_while0b_v141 V (ix3 bb h t) = D.b t + σ.2 := by
  have := A.m
  pointwise [res_main_while0b_v141, A.b, A.m]

theorem r138 (t s : Fin 128) : res_main_while0b_v138 V (ix4 bb h t s) = Math.ldec Pf D.b D.i t s := by
  pointwise [res_main_while0b_v138, A.b, A.i, A.mask]
  rw [show (id (constant (F := Ideal) S_ .f32 4286578688#32) ix0 : EReal) = ⊥ from Cert.KernelIdeal.Mlstm.neg_inf]
  rfl

theorem r143 (t : Fin 128) : res_main_while0b_v143 V (ix3 bb h t) = Math.stab Pf D.b D.i σ.2 t := by
  pointwise [res_main_while0b_v143, r141 A]
  rw [Math.stab]
  congr 1
  refine (Shape.ReducesTo.fold_fiber_r4_a3 _ _ _ _ _).trans ?_
  pointwise [r138 A]
  rw [Cert.KernelIdeal.Mlstm.neg_inf, Math.fold_max]

theorem r149 (t : Fin 128) : res_main_while0b_v149 V (ix3 bb h t) = Ideal.exp (D.b t + σ.2 - Math.stab Pf D.b D.i σ.2 t) := by
  pointwise [res_main_while0b_v149, r141 A, r143 A]

theorem r151 (t s : Fin 128) : res_main_while0b_v151 V (ix4 bb h t s)
    = (∑ d, D.q t d * D.k s d) * Ideal.exp (Math.ldec Pf D.b D.i t s - Math.stab Pf D.b D.i σ.2 t) := by
  pointwise [res_main_while0b_v151, r138 A, r143 A, A.q, A.k]

theorem r170 : res_main_while0b_v170 V (ix2 bb h) = D.b 127 := by
  pointwise [res_main_while0b_v170, A.b]

theorem r174 (s : Fin 128) : res_main_while0b_v174 V (ix3 bb h s) = Math.glog 127 D.b D.i s := by
  pointwise [res_main_while0b_v174, A.b, A.i, r170 A, Math.glog]

theorem r177 : res_main_while0b_v177 V (ix2 bb h) = Math.mnext 127 D.b D.i σ.2 := by
  pointwise [res_main_while0b_v177, r170 A, A.m]
  rw [Math.mnext]
  congr 1
  refine (Shape.ReducesTo.fold_fiber_r3_a2 _ _ _ _ _).trans ?_
  pointwise [r174 A]
  rw [Cert.KernelIdeal.Mlstm.neg_inf, Math.fold_max]

theorem r180 : res_main_while0b_v180 V (ix2 bb h) = Ideal.exp (D.b 127 + σ.2 - Math.mnext 127 D.b D.i σ.2) := by
  pointwise [res_main_while0b_v180, r170 A, A.m, r177 A]

theorem r184 (s : Fin 128) : res_main_while0b_v184 V (ix3 bb h s) = Ideal.exp (Math.glog 127 D.b D.i s - Math.mnext 127 D.b D.i σ.2) := by
  pointwise [res_main_while0b_v184, r174 A, r177 A]

theorem step_c (e d : Fin 256) : (step_main_v90_7 V : FVec Ideal S12x4x256x256 .f32) (ix4 bb h e d) = (next 127 D σ).1 d ⟨e.val, by omega⟩ := by
  unfold step_main_v90_7
  rw [id_eq]
  pointwise [r180 A, r184 A, A.v, A.k, A.c]
  simp only [next, Math.cnext, ones_lt]

theorem step_n (d : Fin 256) : (step_main_v90_8 V : FVec Ideal S12x4x256 .f32) (ix3 bb h d) = (next 127 D σ).1 d ⟨256, by omega⟩ := by
  unfold step_main_v90_8
  rw [id_eq]
  pointwise [r180 A, r184 A, A.k, A.n]
  simp only [next, Math.cnext, ones_last, mul_one]

theorem step_m : (step_main_v90_9 V : FVec Ideal S12x4 .f32) (ix2 bb h) = (next 127 D σ).2 := by
  unfold step_main_v90_9
  rw [id_eq, r177 A]
  rfl

theorem step_h (n : Fin 32) (hk : (V (Proc.devRef .tc main_v90_6) : IVec S_ 32) = fun _ => BitVec.ofNat 32 n.val) (t : Fin 128) (e : Fin 256)
    (n' : Fin 32) :
    (step_main_v90_10 V : FVec Ideal S32x12x4x128x256 .f32) (ix5 n' bb h t e)
      = if n' = n then outC Pf D σ t e else (V (Proc.devRef .tc main_v90_10) : FVec Ideal S32x12x4x128x256 .f32) (ix5 n' bb h t e) := by
  unfold step_main_v90_10
  rw [id_eq, hk]
  refine (update5_at _ _ _ _ n (fun a => ?_) n' bb h t e).trans ?_
  · fin_cases a <;> first | exact counter_int n | rfl
  congr 1
  pointwise [r149 A, r143 A, r151 A, A.c, A.n, A.q, A.v]
  simp only [outC, Cert.KernelIdeal.Mlstm.outOf, Math.numer, ones_last, ones_lt, mul_one, zero_sub]
  simp only [mul_comm (D.q t _) (σ.1 _ _)]
  rfl

end Step

end Cert.ReferenceIdeal.Mlstm

end
-- ==== Proof.Mlstm.RefScan.lean ====
/- The reference's scan: after every trip the recurrence's state, and the outputs so far. -/
module

public import proofs.«01_k».proof.Proof.Mlstm.RefStep

@[expose] public section

set_option maxRecDepth 16384

noncomputable section

namespace Cert.ReferenceIdeal.Mlstm

open Idealize.ShloMosaic Idealize.ShloMosaic.TcCoe
open Cert.ReferenceIdeal Cert.ReferenceIdeal.Value Cert.Proof
open Cert.KernelIdeal.Mlstm (Chunk State next outC states outs ones Pf)

/-- What the scan starts from: the chunks of every sequence and head, the mask, and zeros. -/
structure Entry (V : Valuation τ sig (Elt Ideal)) (D : Fin 12 → Fin 4 → ℕ → Chunk) : Prop where
  q : ∀ (n : Fin 32) bb h t d, (V (Proc.devRef .tc main_v90_0) : FVec Ideal S32x12x4x128x256 .f32) (ix5 n bb h t d) = (D bb h n.val).q t d
  k : ∀ (n : Fin 32) bb h t d, (V (Proc.devRef .tc main_v90_1) : FVec Ideal S32x12x4x128x256 .f32) (ix5 n bb h t d) = (D bb h n.val).k t d
  v : ∀ (n : Fin 32) bb h t d, (V (Proc.devRef .tc main_v90_2) : FVec Ideal S32x12x4x128x256 .f32) (ix5 n bb h t d) = (D bb h n.val).v t d
  i : ∀ (n : Fin 32) bb h t, (V (Proc.devRef .tc main_v90_3) : FVec Ideal S32x12x4x128 .f32) (ix4 n bb h t) = (D bb h n.val).i t
  b : ∀ (n : Fin 32) bb h t, Math.cum Pf (fun s => (V (Proc.devRef .tc main_v90_4) : FVec Ideal S32x12x4x128 .f32) (ix4 n bb h s)) t = (D bb h n.val).b t
  mask : ∀ t s : Fin 128, (V (Proc.devRef .tc main_v90_5) : IVec S128x128 1) (ix2 t s) = BitVec.ofBool (Pf t s)
  ctr : (V (Proc.devRef .tc main_v90_6) : IVec S_ 32) = fun _ => BitVec.ofNat 32 0
  c0 : ∀ bb h (e d : Fin 256), (V (Proc.devRef .tc main_v90_7) : FVec Ideal S12x4x256x256 .f32) (ix4 bb h e d) = (0 : EReal)
  n0 : ∀ bb h (d : Fin 256), (V (Proc.devRef .tc main_v90_8) : FVec Ideal S12x4x256 .f32) (ix3 bb h d) = (0 : EReal)
  m0 : ∀ bb h, (V (Proc.devRef .tc main_v90_9) : FVec Ideal S12x4 .f32) (ix2 bb h) = (0 : EReal)

/-- After `k` trips. -/
structure Inv (V0 V : Valuation τ sig (Elt Ideal)) (D : Fin 12 → Fin 4 → ℕ → Chunk) (k : ℕ) : Prop where
  s0 : V (Proc.devRef .tc main_v90_0) = V0 (Proc.devRef .tc main_v90_0)
  s1 : V (Proc.devRef .tc main_v90_1) = V0 (Proc.devRef .tc main_v90_1)
  s2 : V (Proc.devRef .tc main_v90_2) = V0 (Proc.devRef .tc main_v90_2)
  s3 : V (Proc.devRef .tc main_v90_3) = V0 (Proc.devRef .tc main_v90_3)
  s4 : V (Proc.devRef .tc main_v90_4) = V0 (Proc.devRef .tc main_v90_4)
  s5 : V (Proc.devRef .tc main_v90_5) = V0 (Proc.devRef .tc main_v90_5)
  ctr : (V (Proc.devRef .tc main_v90_6) : IVec S_ 32) = fun _ => BitVec.ofNat 32 k
  c : ∀ bb h (e d : Fin 256), (V (Proc.devRef .tc main_v90_7) : FVec Ideal S12x4x256x256 .f32) (ix4 bb h e d)
    = (states 127 (D bb h) k).1 d ⟨e.val, by omega⟩
  n : ∀ bb h (d : Fin 256), (V (Proc.devRef .tc main_v90_8) : FVec Ideal S12x4x256 .f32) (ix3 bb h d) = (states 127 (D bb h) k).1 d ⟨256, by omega⟩
  m : ∀ bb h, (V (Proc.devRef .tc main_v90_9) : FVec Ideal S12x4 .f32) (ix2 bb h) = (states 127 (D bb h) k).2
  o : ∀ (n : Fin 32) bb h t e, n.val < k → (V (Proc.devRef .tc main_v90_10) : FVec Ideal S32x12x4x128x256 .f32) (ix5 n bb h t e)
    = outs Pf 127 (D bb h) n.val t e

theorem inv_zero {V : Valuation τ sig (Elt Ideal)} {D : Fin 12 → Fin 4 → ℕ → Chunk} (E : Entry V D) : Inv V V D 0 where
  s0 := rfl
  s1 := rfl
  s2 := rfl
  s3 := rfl
  s4 := rfl
  s5 := rfl
  ctr := E.ctr
  c bb h e d := E.c0 bb h e d
  n bb h d := E.n0 bb h d
  m bb h := E.m0 bb h
  o n _ _ _ _ hn := absurd hn (Nat.not_lt_zero _)

theorem inv_succ {V0 V : Valuation τ sig (Elt Ideal)} {D : Fin 12 → Fin 4 → ℕ → Chunk} {k : ℕ} (E : Entry V0 D) (hk : k < 32)
    (I : Inv V0 V D k) : Inv V0 (STEP V) D (k + 1) := by
  have A : ∀ bb h, At V bb h (D bb h k) (states 127 (D bb h) k) := fun bb h =>
    { q := fun t d => by rw [r124 (n := ⟨k, hk⟩) I.ctr, I.s0]; exact E.q ⟨k, hk⟩ bb h t d
      k := fun t d => by rw [r125 (n := ⟨k, hk⟩) I.ctr, I.s1]; exact E.k ⟨k, hk⟩ bb h t d
      v := fun t d => by rw [r126 (n := ⟨k, hk⟩) I.ctr, I.s2]; exact E.v ⟨k, hk⟩ bb h t d
      i := fun t => by rw [r127 (n := ⟨k, hk⟩) I.ctr, I.s3]; exact E.i ⟨k, hk⟩ bb h t
      b := fun t => by rw [r129 (n := ⟨k, hk⟩) I.ctr, I.s4]; exact E.b ⟨k, hk⟩ bb h t
      mask := fun t s => by rw [I.s5]; exact E.mask t s
      c := I.c bb h
      n := I.n bb h
      m := I.m bb h }
  refine ⟨(STEP_main_v90_0 V).trans I.s0, (STEP_main_v90_1 V).trans I.s1, (STEP_main_v90_2 V).trans I.s2, (STEP_main_v90_3 V).trans I.s3,
    (STEP_main_v90_4 V).trans I.s4, (STEP_main_v90_5 V).trans I.s5, ?_, fun bb h e d => ?_, fun bb h d => ?_, fun bb h => ?_, fun n bb h t e hn => ?_⟩
  · rw [STEP_main_v90_6]; unfold step_main_v90_6
    rw [id_eq, I.ctr]
    funext i
    show BitVec.ofNat 32 k + 1#32 = _
    rw [BitVec.ofNat_add]
  · rw [STEP_main_v90_7]; exact step_c (A bb h) e d
  · rw [STEP_main_v90_8]; exact step_n (A bb h) d
  · rw [STEP_main_v90_9]; exact step_m (A bb h)
  · rw [STEP_main_v90_10, step_h (A bb h) ⟨k, hk⟩ I.ctr]
    by_cases he : n = ⟨k, hk⟩
    · subst he; rw [if_pos rfl]; rfl
    · rw [if_neg he]
      exact I.o n bb h t e (by have : n.val ≠ k := fun h => he (Fin.ext h); omega)

theorem inv_iter {V : Valuation τ sig (Elt Ideal)} {D : Fin 12 → Fin 4 → ℕ → Chunk} (E : Entry V D) :
    ∀ k, k ≤ 32 → Inv V (STEP^[k] V) D k
  | 0, _ => inv_zero E
  | k + 1, hk => by
    rw [Function.iterate_succ_apply']
    exact inv_succ E (by omega) (inv_iter E k (by omega))

/-- What the scan collects. -/
theorem scan_at {V : Valuation τ sig (Elt Ideal)} {D : Fin 12 → Fin 4 → ℕ → Chunk} (E : Entry V D) (n : Fin 32) (bb : Fin 12) (h : Fin 4)
    (t : Fin 128) (e : Fin 256) :
    ((STEP^[32] V) (Proc.devRef .tc main_v90_10) : FVec Ideal S32x12x4x128x256 .f32) (ix5 n bb h t e) = outs Pf 127 (D bb h) n.val t e :=
  (inv_iter E 32 (le_refl _)).o n bb h t e n.isLt

end Cert.ReferenceIdeal.Mlstm

end
-- ==== Proof.Mlstm.RefEntry.lean ====
/- What the scan meets: the chunks of the head's inputs, and zeros. -/
module

public import proofs.«01_k».proof.Proof.Mlstm.RefPre
public import proofs.«01_k».proof.Proof.Mlstm.RefConv
public import proofs.«01_k».proof.Proof.Mlstm.RefScan
public import proofs.«01_k».proof.Proof.Mlstm.Inputs

@[expose] public section

set_option maxRecDepth 16384

noncomputable section

namespace Cert.ReferenceIdeal.Mlstm

open Idealize.ShloMosaic Idealize.ShloMosaic.TcCoe Idealize.ShloMosaic.StableHlo
open Cert.ReferenceIdeal Cert.ReferenceIdeal.Gen Cert.ReferenceIdeal.Value Cert.Proof
open Cert.KernelIdeal.Mlstm (pad taps conv Pf Pb row cf cb chunk dF dB revC both both_lo both_hi inpOf Inp)

variable (V : Valuation τ sig (Elt Ideal))

/-- The contents after the stretches up to one of them. -/
abbrev S0 (V : Valuation τ sig (Elt Ideal)) := after hostOps0 V
abbrev S1 (V : Valuation τ sig (Elt Ideal)) := after hostOps0_1 (S0 V)
abbrev S2 (V : Valuation τ sig (Elt Ideal)) := after hostOps0_2 (S1 V)
abbrev S3 (V : Valuation τ sig (Elt Ideal)) := after hostOps0_3 (S2 V)
abbrev S4 (V : Valuation τ sig (Elt Ideal)) := after hostOps0_4 (S3 V)
abbrev S5 (V : Valuation τ sig (Elt Ideal)) := after hostOps0_5 (S4 V)
abbrev S6 (V : Valuation τ sig (Elt Ideal)) := after hostOps0_6 (S5 V)
abbrev S7 (V : Valuation τ sig (Elt Ideal)) := after hostOps0_7 (S6 V)
abbrev S8 (V : Valuation τ sig (Elt Ideal)) := after hostOps0_8 (S7 V)
abbrev S9 (V : Valuation τ sig (Elt Ideal)) := after hostOps0_9 (S8 V)
abbrev S10 (V : Valuation τ sig (Elt Ideal)) := after hostOps0_10 (S9 V)
abbrev S11 (V : Valuation τ sig (Elt Ideal)) := after hostOps0_11 (S10 V)
abbrev S12 (V : Valuation τ sig (Elt Ideal)) := after hostOps0_12 (S11 V)
abbrev S13 (V : Valuation τ sig (Elt Ideal)) := after hostOps0_13 (S12 V)
abbrev S14 (V : Valuation τ sig (Elt Ideal)) := after hostOps0_14 (S13 V)
abbrev S15 (V : Valuation τ sig (Elt Ideal)) := after hostOps0_15 (S14 V)
abbrev S16 (V : Valuation τ sig (Elt Ideal)) := after hostOps0_16 (S15 V)
abbrev S17 (V : Valuation τ sig (Elt Ideal)) := after hostOps0_17 (S16 V)
abbrev S18 (V : Valuation τ sig (Elt Ideal)) := after hostOps0_18 (S17 V)

theorem keep_arg2_0_1 : after hostOps0_1 (after hostOps0 V) (no_index (Proc.devRef .tc main_arg2)) = V (Proc.devRef .tc main_arg2) := by
  simp only [hostOps0, hostOps0_1]
  after_results_entrywise []

theorem keep_v4_2_3 : after hostOps0_3 (after hostOps0_2 V) (no_index (Proc.devRef .tc main_v4)) = V (Proc.devRef .tc main_v4) := by
  simp only [hostOps0_2, hostOps0_3]
  after_results_entrywise []

theorem keep_arg1_0_3 : after hostOps0_3 (after hostOps0_2 (after hostOps0_1 (after hostOps0 V))) (no_index (Proc.devRef .tc main_arg1)) = V (Proc.devRef .tc main_arg1) := by
  simp only [hostOps0, hostOps0_1, hostOps0_2, hostOps0_3]
  after_results_entrywise []

theorem keep_v61_5_5 : after hostOps0_5 V (no_index (Proc.devRef .tc main_v61)) = V (Proc.devRef .tc main_v61) := by
  simp only [hostOps0_5]
  after_results_entrywise []

theorem keep_v62_6_14 : after hostOps0_14 (after hostOps0_13 (after hostOps0_12 (after hostOps0_11 (after hostOps0_10 (after hostOps0_9 (after hostOps0_8 (after hostOps0_7 (after hostOps0_6 V)))))))) (no_index (Proc.devRef .tc main_v62)) = V (Proc.devRef .tc main_v62) := by
  simp only [hostOps0_6, hostOps0_7, hostOps0_8, hostOps0_9, hostOps0_10, hostOps0_11, hostOps0_12, hostOps0_13, hostOps0_14]
  after_results_entrywise []

theorem keep_v63_7_14 : after hostOps0_14 (after hostOps0_13 (after hostOps0_12 (after hostOps0_11 (after hostOps0_10 (after hostOps0_9 (after hostOps0_8 (after hostOps0_7 V))))))) (no_index (Proc.devRef .tc main_v63)) = V (Proc.devRef .tc main_v63) := by
  simp only [hostOps0_7, hostOps0_8, hostOps0_9, hostOps0_10, hostOps0_11, hostOps0_12, hostOps0_13, hostOps0_14]
  after_results_entrywise []

theorem keep_v51_5_6 : after hostOps0_6 (after hostOps0_5 V) (no_index (Proc.devRef .tc main_v51)) = V (Proc.devRef .tc main_v51) := by
  simp only [hostOps0_5, hostOps0_6]
  after_results_entrywise []

theorem keep_v53_5_8 : after hostOps0_8 (after hostOps0_7 (after hostOps0_6 (after hostOps0_5 V))) (no_index (Proc.devRef .tc main_v53)) = V (Proc.devRef .tc main_v53) := by
  simp only [hostOps0_5, hostOps0_6, hostOps0_7, hostOps0_8]
  after_results_entrywise []

theorem keep_v55_5_10 : after hostOps0_10 (after hostOps0_9 (after hostOps0_8 (after hostOps0_7 (after hostOps0_6 (after hostOps0_5 V))))) (no_index (Proc.devRef .tc main_v55)) = V (Proc.devRef .tc main_v55) := by
  simp only [hostOps0_5, hostOps0_6, hostOps0_7, hostOps0_8, hostOps0_9, hostOps0_10]
  after_results_entrywise []

theorem keep_v58_5_12 : after hostOps0_12 (after hostOps0_11 (after hostOps0_10 (after hostOps0_9 (after hostOps0_8 (after hostOps0_7 (after hostOps0_6 (after hostOps0_5 V))))))) (no_index (Proc.devRef .tc main_v58)) = V (Proc.devRef .tc main_v58) := by
  simp only [hostOps0_5, hostOps0_6, hostOps0_7, hostOps0_8, hostOps0_9, hostOps0_10, hostOps0_11, hostOps0_12]
  after_results_entrywise []

theorem keep_v59_5_12 : after hostOps0_12 (after hostOps0_11 (after hostOps0_10 (after hostOps0_9 (after hostOps0_8 (after hostOps0_7 (after hostOps0_6 (after hostOps0_5 V))))))) (no_index (Proc.devRef .tc main_v59)) = V (Proc.devRef .tc main_v59) := by
  simp only [hostOps0_5, hostOps0_6, hostOps0_7, hostOps0_8, hostOps0_9, hostOps0_10, hostOps0_11, hostOps0_12]
  after_results_entrywise []

theorem keep_v65_9_17 : after hostOps0_17 (after hostOps0_16 (after hostOps0_15 (after hostOps0_14 (after hostOps0_13 (after hostOps0_12 (after hostOps0_11 (after hostOps0_10 (after hostOps0_9 V)))))))) (no_index (Proc.devRef .tc main_v65)) = V (Proc.devRef .tc main_v65) := by
  simp only [hostOps0_9, hostOps0_10, hostOps0_11, hostOps0_12, hostOps0_13, hostOps0_14, hostOps0_15, hostOps0_16, hostOps0_17]
  after_results_entrywise []

theorem keep_v67_11_17 : after hostOps0_17 (after hostOps0_16 (after hostOps0_15 (after hostOps0_14 (after hostOps0_13 (after hostOps0_12 (after hostOps0_11 V)))))) (no_index (Proc.devRef .tc main_v67)) = V (Proc.devRef .tc main_v67) := by
  simp only [hostOps0_11, hostOps0_12, hostOps0_13, hostOps0_14, hostOps0_15, hostOps0_16, hostOps0_17]
  after_results_entrywise []

theorem keep_v69_13_17 : after hostOps0_17 (after hostOps0_16 (after hostOps0_15 (after hostOps0_14 (after hostOps0_13 V)))) (no_index (Proc.devRef .tc main_v69)) = V (Proc.devRef .tc main_v69) := by
  simp only [hostOps0_13, hostOps0_14, hostOps0_15, hostOps0_16, hostOps0_17]
  after_results_entrywise []

theorem keep_v71_15_17 : after hostOps0_17 (after hostOps0_16 (after hostOps0_15 V)) (no_index (Proc.devRef .tc main_v71)) = V (Proc.devRef .tc main_v71) := by
  simp only [hostOps0_15, hostOps0_16, hostOps0_17]
  after_results_entrywise []

theorem keep_v73_17_17 : after hostOps0_17 V (no_index (Proc.devRef .tc main_v73)) = V (Proc.devRef .tc main_v73) := by
  simp only [hostOps0_17]
  after_results_entrywise []

section Read
variable (A0 : FVec Ideal S6x4096x7168 .bf16) (A1 : FVec Ideal S4x4x6x32x128 .f32) (A2 : FVec Ideal S5x2048 .f32) (A3 : FVec Ideal S1x2048 .f32)
  (A4 : FVec Ideal S1x1024 .f32)
  (h0 : V (Proc.devRef .tc main_arg0) = A0) (h1 : V (Proc.devRef .tc main_arg1) = A1) (h2 : V (Proc.devRef .tc main_arg2) = A2)
  (h3 : V (Proc.devRef .tc main_arg3) = A3)

include h0 h2 h3 in
theorem conv_at (b : Fin 6) (r : Fin 4096) (off : ℕ) (hoff : off + 256 ≤ 2048) (d : Fin 256) :
    (S3 V (Proc.devRef .tc main_v45) : FVec Ideal S6x4096x2048 .f32) (ix3 b r ⟨off + d.val, by omega⟩)
      = conv (fun r e => A0 (ix3 b r ⟨3072 + (off + e.val), by omega⟩)) (fun j e => A2 (ix2 j ⟨off + e.val, by omega⟩))
          (fun e => A3 (ix2 0 ⟨off + e.val, by omega⟩)) r.val d := by
  have ht := v44_at (S1 V) b r ⟨off + d.val, by omega⟩ (fun r e => A0 (ix3 b r ⟨3072 + (off + e.val), by omega⟩))
    (fun j e => A2 (ix2 j ⟨off + e.val, by omega⟩)) (fun e => A3 (ix2 0 ⟨off + e.val, by omega⟩)) d
    (fun y => by
      refine (v7_at V b y _).trans ?_
      unfold Cert.KernelIdeal.Mlstm.pad
      by_cases hy : 2 ≤ y.val ∧ y.val < 4098
      · refine (dif_pos hy).trans ?_
        refine Eq.trans ?_ (dif_pos (show 16 ≤ y.val + 14 ∧ y.val + 14 < 4112 from ⟨by have := hy.1; omega, by have := hy.2; omega⟩)).symm
        rw [h0]
        congr 2
      · refine (dif_neg hy).trans ?_
        have hn : ¬(16 ≤ y.val + 14 ∧ y.val + 14 < 4112) := fun hh => hy ⟨by have := hh.1; omega, by have := hh.2; omega⟩
        rw [dif_neg hn])
    (fun j => by rw [show S1 V (Proc.devRef .tc main_arg2) = _ from keep_arg2_0_1 V, h2])
    ((v6_at V _).trans (by rw [h3]))
  refine (v45_at (S2 V) b r _).trans ?_
  rw [show (S2 V (Proc.devRef .tc main_v44) : FVec Ideal S6x4096x2048 .f32) (ix3 b r ⟨off + d.val, by omega⟩) = _ from ht]
  rfl

include h0 h2 h3 in
theorem q_at (b : Fin 6) (h : Fin 4) (r : Fin 4096) (d : Fin 256) :
    (S4 V (Proc.devRef .tc main_v51) : FVec Ideal S6x4x4096x256 .f32) (ix4 b h r d)
      = conv (inpOf A0 A1 A2 A3 A4 b h).xq (inpOf A0 A1 A2 A3 A4 b h).wq (inpOf A0 A1 A2 A3 A4 b h).bq r.val d * Ideal.ofBits .f32 1031798784#32 := by
  refine (v51_at (S3 V) b h r d).trans ?_
  refine congrArg (fun x : EReal => x * Ideal.ofBits .f32 1031798784#32) ?_
  refine Eq.trans ?_ (conv_at V A0 A2 A3 h0 h2 h3 b r (256 * h.val) (by omega) d)
  refine congrArg _ ?_
  congr 1
  exact Fin.ext (Nat.zero_add _)

include h0 h2 h3 in
theorem k_at (b : Fin 6) (h : Fin 4) (r : Fin 4096) (d : Fin 256) :
    (S4 V (Proc.devRef .tc main_v53) : FVec Ideal S6x4x4096x256 .f32) (ix4 b h r d)
      = conv (inpOf A0 A1 A2 A3 A4 b h).xk (inpOf A0 A1 A2 A3 A4 b h).wk (inpOf A0 A1 A2 A3 A4 b h).bk r.val d := by
  refine (v53_at (S3 V) b h r d).trans ?_
  have e := conv_at V A0 A2 A3 h0 h2 h3 b r (1024 + 256 * h.val) (by omega) d
  have e2 : ∀ e : Fin 256, (⟨1024 + 256 * h.val + e.val, by omega⟩ : Fin 2048) = ⟨1024 + (256 * h.val + e.val), by omega⟩ :=
    fun e => Fin.ext (Nat.add_assoc _ _ _)
  have e3 : ∀ e : Fin 256, (⟨3072 + (1024 + 256 * h.val + e.val), by omega⟩ : Fin 7168) = ⟨4096 + (256 * h.val + e.val), by omega⟩ :=
    fun e => Fin.ext (by show 3072 + (1024 + 256 * h.val + e.val) = 4096 + (256 * h.val + e.val); omega)
  simp only [e2, e3] at e
  exact e

include h0 in
theorem vv_at (b : Fin 6) (h : Fin 4) (r : Fin 4096) (d : Fin 256) :
    (S4 V (Proc.devRef .tc main_v55) : FVec Ideal S6x4x4096x256 .f32) (ix4 b h r d) = (inpOf A0 A1 A2 A3 A4 b h).xv r d := by
  refine (v55_at (S3 V) b h r d).trans ?_
  rw [show S3 V (Proc.devRef .tc main_v4) = _ from keep_v4_2_3 (S1 V)]
  refine (v4_at V b r _).trans ?_
  rw [h0]
  show A0 _ = A0 _
  refine congrArg _ ?_
  congr 1
  exact Fin.ext (by show 5120 + (0 + (256 * h.val + d.val)) = 5120 + (256 * h.val + d.val); omega)

include h1 in
theorem g0_at (b : Fin 6) (h : Fin 4) (r : Fin 4096) :
    (S4 V (Proc.devRef .tc main_v58) : FVec Ideal S6x4x4096 .f32) (ix3 b h r) = (inpOf A0 A1 A2 A3 A4 b h).g 0 ⟨r.val / 128, by omega⟩ ⟨r.val % 128, by omega⟩ := by
  refine (v58_at (S3 V) b h r).trans ?_
  rw [show S3 V (Proc.devRef .tc main_arg1) = _ from keep_arg1_0_3 V, h1]
  rfl

include h1 in
theorem g1_at (b : Fin 6) (h : Fin 4) (r : Fin 4096) :
    (S4 V (Proc.devRef .tc main_v59) : FVec Ideal S6x4x4096 .f32) (ix3 b h r) = (inpOf A0 A1 A2 A3 A4 b h).g 1 ⟨r.val / 128, by omega⟩ ⟨r.val % 128, by omega⟩ := by
  refine (v59_at (S3 V) b h r).trans ?_
  rw [show S3 V (Proc.devRef .tc main_arg1) = _ from keep_arg1_0_3 V, h1]
  rfl

include h1 in
theorem g2_at (b : Fin 6) (h : Fin 4) (r : Fin 4096) :
    (S4 V (Proc.devRef .tc main_v60) : FVec Ideal S6x4x4096 .f32) (ix3 b h r) = (inpOf A0 A1 A2 A3 A4 b h).g 2 ⟨r.val / 128, by omega⟩ ⟨r.val % 128, by omega⟩ := by
  refine (v60_at (S3 V) b h r).trans ?_
  rw [show S3 V (Proc.devRef .tc main_arg1) = _ from keep_arg1_0_3 V, h1]
  rfl

include h1 in
theorem g3_at (b : Fin 6) (h : Fin 4) (r : Fin 4096) :
    (S4 V (Proc.devRef .tc main_v61) : FVec Ideal S6x4x4096 .f32) (ix3 b h r) = (inpOf A0 A1 A2 A3 A4 b h).g 3 ⟨r.val / 128, by omega⟩ ⟨r.val % 128, by omega⟩ := by
  refine (v61_at (S3 V) b h r).trans ?_
  rw [show S3 V (Proc.devRef .tc main_arg1) = _ from keep_arg1_0_3 V, h1]
  rfl

include h1 in
theorem f2_at (b : Fin 6) (h : Fin 4) (r : Fin 4096) :
    (S5 V (Proc.devRef .tc main_v62) : FVec Ideal S6x4x4096 .f32) (ix3 b h r) = Math.logsig ((inpOf A0 A1 A2 A3 A4 b h).g 2 ⟨r.val / 128, by omega⟩ ⟨r.val % 128, by omega⟩) :=
  (ls_f (S4 V) b h r).trans (congrArg _ (g2_at V A0 A1 A2 A3 A4 h1 b h r))

include h1 in
theorem f3_at (b : Fin 6) (h : Fin 4) (r : Fin 4096) :
    (S6 V (Proc.devRef .tc main_v63) : FVec Ideal S6x4x4096 .f32) (ix3 b h r) = Math.logsig ((inpOf A0 A1 A2 A3 A4 b h).g 3 ⟨r.val / 128, by omega⟩ ⟨r.val % 128, by omega⟩) := by
  refine (ls_b (S5 V) b h r).trans (congrArg _ ?_)
  rw [show S5 V (Proc.devRef .tc main_v61) = _ from keep_v61_5_5 (S4 V)]
  exact g3_at V A0 A1 A2 A3 A4 h1 b h r

theorem in_q_lo (b : Fin 6) (h : Fin 4) (r : Fin 4096) (d : Fin 256) :
    (S17 V (Proc.devRef .tc main_v65) : FVec Ideal S12x4x4096x256 .f32) (ix4 ⟨b.val, by omega⟩ h r d) = (S4 V (Proc.devRef .tc main_v51) : FVec Ideal S6x4x4096x256 .f32) (ix4 b h r d) := by
  rw [show S17 V (Proc.devRef .tc main_v65) = _ from keep_v65_9_17 (S8 V)]
  refine (both_q_lo (S6 V) b h r d).trans ?_
  rw [show S6 V (Proc.devRef .tc main_v51) = _ from keep_v51_5_6 (S4 V)]

theorem in_q_hi (b : Fin 6) (h : Fin 4) (r : Fin 4096) (d : Fin 256) :
    (S17 V (Proc.devRef .tc main_v65) : FVec Ideal S12x4x4096x256 .f32) (ix4 ⟨6 + b.val, by omega⟩ h r d) = (S4 V (Proc.devRef .tc main_v51) : FVec Ideal S6x4x4096x256 .f32) (ix4 b h r.rev d) := by
  rw [show S17 V (Proc.devRef .tc main_v65) = _ from keep_v65_9_17 (S8 V)]
  refine (both_q_hi (S6 V) b h r d).trans ?_
  rw [show S6 V (Proc.devRef .tc main_v51) = _ from keep_v51_5_6 (S4 V)]

theorem in_k_lo (b : Fin 6) (h : Fin 4) (r : Fin 4096) (d : Fin 256) :
    (S17 V (Proc.devRef .tc main_v67) : FVec Ideal S12x4x4096x256 .f32) (ix4 ⟨b.val, by omega⟩ h r d) = (S4 V (Proc.devRef .tc main_v53) : FVec Ideal S6x4x4096x256 .f32) (ix4 b h r d) := by
  rw [show S17 V (Proc.devRef .tc main_v67) = _ from keep_v67_11_17 (S10 V)]
  refine (both_k_lo (S8 V) b h r d).trans ?_
  rw [show S8 V (Proc.devRef .tc main_v53) = _ from keep_v53_5_8 (S4 V)]

theorem in_k_hi (b : Fin 6) (h : Fin 4) (r : Fin 4096) (d : Fin 256) :
    (S17 V (Proc.devRef .tc main_v67) : FVec Ideal S12x4x4096x256 .f32) (ix4 ⟨6 + b.val, by omega⟩ h r d) = (S4 V (Proc.devRef .tc main_v53) : FVec Ideal S6x4x4096x256 .f32) (ix4 b h r.rev d) := by
  rw [show S17 V (Proc.devRef .tc main_v67) = _ from keep_v67_11_17 (S10 V)]
  refine (both_k_hi (S8 V) b h r d).trans ?_
  rw [show S8 V (Proc.devRef .tc main_v53) = _ from keep_v53_5_8 (S4 V)]

theorem in_v_lo (b : Fin 6) (h : Fin 4) (r : Fin 4096) (d : Fin 256) :
    (S17 V (Proc.devRef .tc main_v69) : FVec Ideal S12x4x4096x256 .f32) (ix4 ⟨b.val, by omega⟩ h r d) = (S4 V (Proc.devRef .tc main_v55) : FVec Ideal S6x4x4096x256 .f32) (ix4 b h r d) := by
  rw [show S17 V (Proc.devRef .tc main_v69) = _ from keep_v69_13_17 (S12 V)]
  refine (both_v_lo (S10 V) b h r d).trans ?_
  rw [show S10 V (Proc.devRef .tc main_v55) = _ from keep_v55_5_10 (S4 V)]

theorem in_v_hi (b : Fin 6) (h : Fin 4) (r : Fin 4096) (d : Fin 256) :
    (S17 V (Proc.devRef .tc main_v69) : FVec Ideal S12x4x4096x256 .f32) (ix4 ⟨6 + b.val, by omega⟩ h r d) = (S4 V (Proc.devRef .tc main_v55) : FVec Ideal S6x4x4096x256 .f32) (ix4 b h r.rev d) := by
  rw [show S17 V (Proc.devRef .tc main_v69) = _ from keep_v69_13_17 (S12 V)]
  refine (both_v_hi (S10 V) b h r d).trans ?_
  rw [show S10 V (Proc.devRef .tc main_v55) = _ from keep_v55_5_10 (S4 V)]

theorem in_i_lo (b : Fin 6) (h : Fin 4) (r : Fin 4096) :
    (S17 V (Proc.devRef .tc main_v71) : FVec Ideal S12x4x4096 .f32) (ix3 ⟨b.val, by omega⟩ h r) = (S4 V (Proc.devRef .tc main_v58) : FVec Ideal S6x4x4096 .f32) (ix3 b h r) := by
  rw [show S17 V (Proc.devRef .tc main_v71) = _ from keep_v71_15_17 (S14 V)]
  refine (both_i_lo (S12 V) b h r).trans ?_
  rw [show S12 V (Proc.devRef .tc main_v58) = _ from keep_v58_5_12 (S4 V)]

theorem in_i_hi (b : Fin 6) (h : Fin 4) (r : Fin 4096) :
    (S17 V (Proc.devRef .tc main_v71) : FVec Ideal S12x4x4096 .f32) (ix3 ⟨6 + b.val, by omega⟩ h r) = (S4 V (Proc.devRef .tc main_v59) : FVec Ideal S6x4x4096 .f32) (ix3 b h r.rev) := by
  rw [show S17 V (Proc.devRef .tc main_v71) = _ from keep_v71_15_17 (S14 V)]
  refine (both_i_hi (S12 V) b h r).trans ?_
  rw [show S12 V (Proc.devRef .tc main_v59) = _ from keep_v59_5_12 (S4 V)]

theorem in_f_lo (b : Fin 6) (h : Fin 4) (r : Fin 4096) :
    (S17 V (Proc.devRef .tc main_v73) : FVec Ideal S12x4x4096 .f32) (ix3 ⟨b.val, by omega⟩ h r) = (S5 V (Proc.devRef .tc main_v62) : FVec Ideal S6x4x4096 .f32) (ix3 b h r) := by
  rw [show S17 V (Proc.devRef .tc main_v73) = _ from keep_v73_17_17 (S16 V)]
  refine (both_f_lo (S14 V) b h r).trans ?_
  rw [show S14 V (Proc.devRef .tc main_v62) = _ from keep_v62_6_14 (S5 V)]

theorem in_f_hi (b : Fin 6) (h : Fin 4) (r : Fin 4096) :
    (S17 V (Proc.devRef .tc main_v73) : FVec Ideal S12x4x4096 .f32) (ix3 ⟨6 + b.val, by omega⟩ h r) = (S6 V (Proc.devRef .tc main_v63) : FVec Ideal S6x4x4096 .f32) (ix3 b h r.rev) := by
  rw [show S17 V (Proc.devRef .tc main_v73) = _ from keep_v73_17_17 (S16 V)]
  refine (both_f_hi (S14 V) b h r).trans ?_
  rw [show S14 V (Proc.devRef .tc main_v63) = _ from keep_v63_7_14 (S6 V)]

theorem row_rev (n : Fin 32) (t : Fin 128) : (row n t).rev = row (cb n.val) t.rev :=
  Fin.ext (by
    show 4096 - (128 * n.val + t.val + 1) = 128 * (31 - n.val % 32) + (128 - (t.val + 1))
    have := n.isLt; have := t.isLt; omega)

theorem cf_val (n : Fin 32) : cf n.val = n := Fin.ext (Nat.mod_eq_of_lt n.isLt)

theorem row_div (n : Fin 32) (t : Fin 128) : (⟨(row n t).val / 128, by omega⟩ : Fin 32) = n :=
  Fin.ext (by show (128 * n.val + t.val) / 128 = n.val; omega)

theorem row_mod (n : Fin 32) (t : Fin 128) : (⟨(row n t).val % 128, by omega⟩ : Fin 128) = t :=
  Fin.ext (by show (128 * n.val + t.val) % 128 = t.val; omega)

theorem two (p : Fin 12 → Prop) (lo : ∀ b : Fin 6, p ⟨b.val, by omega⟩) (hi : ∀ b : Fin 6, p ⟨6 + b.val, by omega⟩) (bb : Fin 12) : p bb := by
  by_cases hb : bb.val < 6
  · exact lo ⟨bb.val, hb⟩
  · have := hi ⟨bb.val - 6, by omega⟩
    rwa [show (⟨6 + (bb.val - 6), by omega⟩ : Fin 12) = bb from Fin.ext (by show 6 + (bb.val - 6) = bb.val; omega)] at this

include h0 h2 h3 in
theorem entry_q (n : Fin 32) (bb : Fin 12) (h : Fin 4) (t : Fin 128) (d : Fin 256) :
    (S18 V (Proc.devRef .tc main_v90_0) : FVec Ideal S32x12x4x128x256 .f32) (ix5 n bb h t d) = (both (inpOf A0 A1 A2 A3 A4) bb h n.val).q t d := by
  refine (pre18_q (S17 V) n bb h t d).trans ?_
  revert bb
  refine two _ (fun b => ?_) (fun b => ?_)
  · rw [both_lo]
    refine (in_q_lo V b h (row n t) d).trans ((q_at V A0 A1 A2 A3 A4 h0 h2 h3 b h (row n t) d).trans ?_)
    conv_rhs => unfold dF
    rw [cf_val]
    rfl
  · rw [both_hi]
    refine (in_q_hi V b h (row n t) d).trans ((q_at V A0 A1 A2 A3 A4 h0 h2 h3 b h (row n t).rev d).trans ?_)
    rw [row_rev]
    rfl

include h0 h2 h3 in
theorem entry_k (n : Fin 32) (bb : Fin 12) (h : Fin 4) (t : Fin 128) (d : Fin 256) :
    (S18 V (Proc.devRef .tc main_v90_1) : FVec Ideal S32x12x4x128x256 .f32) (ix5 n bb h t d) = (both (inpOf A0 A1 A2 A3 A4) bb h n.val).k t d := by
  refine (pre18_k (S17 V) n bb h t d).trans ?_
  revert bb
  refine two _ (fun b => ?_) (fun b => ?_)
  · rw [both_lo]
    refine (in_k_lo V b h (row n t) d).trans ((k_at V A0 A1 A2 A3 A4 h0 h2 h3 b h (row n t) d).trans ?_)
    conv_rhs => unfold dF
    rw [cf_val]
    rfl
  · rw [both_hi]
    refine (in_k_hi V b h (row n t) d).trans ((k_at V A0 A1 A2 A3 A4 h0 h2 h3 b h (row n t).rev d).trans ?_)
    rw [row_rev]
    rfl

include h0 in
theorem entry_v (n : Fin 32) (bb : Fin 12) (h : Fin 4) (t : Fin 128) (d : Fin 256) :
    (S18 V (Proc.devRef .tc main_v90_2) : FVec Ideal S32x12x4x128x256 .f32) (ix5 n bb h t d) = (both (inpOf A0 A1 A2 A3 A4) bb h n.val).v t d := by
  refine (pre18_v (S17 V) n bb h t d).trans ?_
  revert bb
  refine two _ (fun b => ?_) (fun b => ?_)
  · rw [both_lo]
    refine (in_v_lo V b h (row n t) d).trans ((vv_at V A0 A1 A2 A3 A4 h0 b h (row n t) d).trans ?_)
    conv_rhs => unfold dF
    rw [cf_val]
    rfl
  · rw [both_hi]
    refine (in_v_hi V b h (row n t) d).trans ((vv_at V A0 A1 A2 A3 A4 h0 b h (row n t).rev d).trans ?_)
    rw [row_rev]
    rfl

include h1 in
theorem entry_i (n : Fin 32) (bb : Fin 12) (h : Fin 4) (t : Fin 128) :
    (S18 V (Proc.devRef .tc main_v90_3) : FVec Ideal S32x12x4x128 .f32) (ix4 n bb h t) = (both (inpOf A0 A1 A2 A3 A4) bb h n.val).i t := by
  refine (pre18_i (S17 V) n bb h t).trans ?_
  revert bb
  refine two _ (fun b => ?_) (fun b => ?_)
  · rw [both_lo]
    refine (in_i_lo V b h (row n t)).trans ((g0_at V A0 A1 A2 A3 A4 h1 b h (row n t)).trans ?_)
    conv_rhs => unfold dF
    rw [cf_val, row_div, row_mod]
    rfl
  · rw [both_hi]
    refine (in_i_hi V b h (row n t)).trans ((g1_at V A0 A1 A2 A3 A4 h1 b h (row n t).rev).trans ?_)
    rw [row_rev, row_div, row_mod]
    rfl

include h1 in
theorem entry_b (n : Fin 32) (bb : Fin 12) (h : Fin 4) (t : Fin 128) :
    Math.cum Pf (fun s => (S18 V (Proc.devRef .tc main_v90_4) : FVec Ideal S32x12x4x128 .f32) (ix4 n bb h s)) t = (both (inpOf A0 A1 A2 A3 A4) bb h n.val).b t := by
  revert bb
  refine two _ (fun b => ?_) (fun b => ?_)
  · rw [both_lo]
    refine (congrArg (fun f => Math.cum Pf f t) (funext fun s => (pre18_f (S17 V) n _ h s).trans
      ((in_f_lo V b h (row n s)).trans (f2_at V A0 A1 A2 A3 A4 h1 b h (row n s))))).trans ?_
    simp only [row_div, row_mod]
    conv_rhs => unfold dF
    rw [cf_val]
    rfl
  · rw [both_hi]
    refine (congrArg (fun f => Math.cum Pf f t) (funext fun s => (pre18_f (S17 V) n _ h s).trans
      ((in_f_hi V b h (row n s)).trans (f3_at V A0 A1 A2 A3 A4 h1 b h (row n s).rev)))).trans ?_
    simp only [row_rev, row_div, row_mod]
    exact Math.cum_equiv Fin.revPerm Pb Pf Cert.KernelIdeal.Mlstm.Pf_rev (fun s => Math.logsig ((inpOf A0 A1 A2 A3 A4 b h).g 3 (cb n.val) s)) t

include h0 h1 h2 h3 in
/-- The scan's start. -/
theorem entry (hc : S18 V (Proc.devRef .tc main_v90_6) = fun _ => BitVec.ofNat 32 0) : Entry (S18 V) (both (inpOf A0 A1 A2 A3 A4)) where
  q := entry_q V A0 A1 A2 A3 A4 h0 h2 h3
  k := entry_k V A0 A1 A2 A3 A4 h0 h2 h3
  v := entry_v V A0 A1 A2 A3 A4 h0
  i := entry_i V A0 A1 A2 A3 A4 h1
  b := entry_b V A0 A1 A2 A3 A4 h1
  mask t s := by
    rw [show S18 V (Proc.devRef .tc main_v90_5) = _ from pre18_mask_eq (S17 V)]
    exact pre_mask (S15 V) t s
  ctr := hc
  c0 := pre18_c (S17 V)
  n0 := pre18_n (S17 V)
  m0 := pre18_m (S17 V)

end Read

end Cert.ReferenceIdeal.Mlstm

end
-- ==== Proof.Mlstm.RefOut.lean ====
/- The reference's result, read at an index: each head's block. -/
module

public import proofs.«01_k».proof.Proof.Mlstm.RefEntry

@[expose] public section

set_option maxRecDepth 16384

noncomputable section

namespace Cert.ReferenceIdeal.Mlstm

open Idealize.ShloMosaic Idealize.ShloMosaic.TcCoe Idealize.ShloMosaic.StableHlo
open Cert.ReferenceIdeal Cert.ReferenceIdeal.Gen Cert.ReferenceIdeal.Value Cert.Proof
open Cert.KernelIdeal.Mlstm (Pf Pb row cf cb outs oF oB block gated dF dB revC both both_lo both_hi inpOf Inp outs_rev)

/-- The result at an index, of the scan's outputs. -/
theorem out_at (V : Valuation τ sig (Elt Ideal)) (b : Fin 6) (r : Fin 4096) (h : Fin 4) (e : Fin 256) (hs : Fin 32 → Fin 12 → Fin 4 → Fin 128 → Fin 256 → EReal)
    (hh : ∀ n bb h t e, (V (Proc.devRef .tc main_v90_10) : FVec Ideal S32x12x4x128x256 .f32) (ix5 n bb h t e) = hs n bb h t e)
    (A0 : FVec Ideal S6x4096x7168 .bf16) (A4 : FVec Ideal S1x1024 .f32)
    (h0 : V (Proc.devRef .tc main_arg0) = A0) (h4 : V (Proc.devRef .tc main_arg4) = A4) :
    (out_main_v123 V : FVec Ideal S6x4096x1024 .bf16) (ix3 b r ⟨256 * h.val + e.val, by omega⟩)
      = gated (fun e => hs ⟨r.val / 128, by omega⟩ ⟨b.val, by omega⟩ h ⟨r.val % 128, by omega⟩ e
          + hs ⟨r.rev.val / 128, by omega⟩ ⟨6 + b.val, by omega⟩ h ⟨r.rev.val % 128, by omega⟩ e)
        (fun e => A4 (ix2 0 ⟨256 * h.val + e.val, by omega⟩)) (fun e => A0 (ix3 b r ⟨6144 + (256 * h.val + e.val), by omega⟩)) e := by
  unfold out_main_v123 gated
  rw [h0, h4]
  pointwise
  simp only [List.mem_cons, List.not_mem_nil, or_false, Fin.reduceEq, Fin.isValue, OfNat.zero_ne_ofNat, OfNat.one_ne_ofNat, Nat.reduceEqDiff, reduceIte,
    hh, Nat.mul_comm h.val 256]
  rfl

/-- The contents the scan starts from, stretch after stretch. -/
theorem contents_eq (m : (ℓ : Loc nD τ sig) → Buf (Elt Ideal) ℓ) (c : Dev nD) : entryContents preI m c = S18 (launchContents m c) := by
  simp only [entryContents, preI, afterL_cons, afterL_nil]

/-- The reference's result: every head's block at its place. -/
theorem result_at (m : (ℓ : Loc nD τ sig) → Buf (Elt Ideal) ℓ) (c : Dev nD) (A0 : FVec Ideal S6x4096x7168 .bf16) (A1 : FVec Ideal S4x4x6x32x128 .f32)
    (A2 : FVec Ideal S5x2048 .f32) (A3 : FVec Ideal S1x2048 .f32) (A4 : FVec Ideal S1x1024 .f32)
    (h0 : m (c.tc.loc main_arg0) = A0) (h1 : m (c.tc.loc main_arg1) = A1) (h2 : m (c.tc.loc main_arg2) = A2)
    (h3 : m (c.tc.loc main_arg3) = A3) (h4 : m (c.tc.loc main_arg4) = A4)
    (b : Fin 6) (r : Fin 4096) (h : Fin 4) (e : Fin 256) :
    (out_main_v123 (STEP^[32] (entryContents preI m c)) : FVec Ideal S6x4096x1024 .bf16) (ix3 b r ⟨256 * h.val + e.val, by omega⟩)
      = block (inpOf A0 A1 A2 A3 A4 b h) ⟨r.val / 128, by omega⟩ ⟨r.val % 128, by omega⟩ e := by
  have E : Entry (entryContents preI m c) (both (inpOf A0 A1 A2 A3 A4)) := by
    rw [contents_eq]
    refine entry (launchContents m c) A0 A1 A2 A3 A4 h0 h1 h2 h3 ?_
    rw [← contents_eq]
    exact ctr_entry m c
  refine (out_at _ b r h e (fun n bb h t e => outs Pf 127 (both (inpOf A0 A1 A2 A3 A4) bb h) n.val t e) (fun n bb h t e => scan_at E n bb h t e)
    A0 A4 ((iter_main_arg0 m c 32).trans h0) ((iter_main_arg4 m c 32).trans h4)).trans ?_
  have hr : row ⟨r.val / 128, by omega⟩ ⟨r.val % 128, by omega⟩ = r := Fin.ext (by
    show 128 * (r.val / 128) + r.val % 128 = r.val; omega)
  have hn : r.rev.val / 128 = 31 - r.val / 128 := by
    show (4096 - (r.val + 1)) / 128 = 31 - r.val / 128; omega
  have ht : (⟨r.rev.val % 128, by omega⟩ : Fin 128).rev = ⟨r.val % 128, by omega⟩ := Fin.ext (by
    show 128 - ((4096 - (r.val + 1)) % 128 + 1) = r.val % 128; omega)
  unfold block
  rw [hr]
  congr 1
  refine funext fun e => ?_
  have e1 : both (inpOf A0 A1 A2 A3 A4) ⟨b.val, by omega⟩ h = dF (inpOf A0 A1 A2 A3 A4 b h) := funext fun n => both_lo _ b h n
  have e2 : both (inpOf A0 A1 A2 A3 A4) ⟨6 + b.val, by omega⟩ h = fun n => revC (dB (inpOf A0 A1 A2 A3 A4 b h) n) := funext fun n => both_hi _ b h n
  simp only [e1, e2, outs_rev, ht, hn]
  rfl

end Cert.ReferenceIdeal.Mlstm

end
-- ==== Proof.Mlstm.Tie.lean ====
/- The recurrence: the kernel against the plain reference. -/
module

public import proofs.«01_k».proof.Defs
public import proofs.«01_k».proof.Proof.Mlstm.Final
public import proofs.«01_k».proof.Proof.Mlstm.RefOut
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The two results are one function of the arguments. -/
theorem mlstm_eq (m' : (ℓ : Loc Cert.ReferenceIdeal.nD Cert.ReferenceIdeal.τ Cert.ReferenceIdeal.sig) → Buf (Elt Ideal) ℓ) (c : Dev Cert.ReferenceIdeal.nD)
    (A0 : FVec Ideal Cert.KernelIdeal.S6x4096x7168 .bf16) (A1 : FVec Ideal Cert.KernelIdeal.S4x4x6x32x128 .f32)
    (A2 : FVec Ideal Cert.KernelIdeal.S5x2048 .f32) (A3 : FVec Ideal Cert.KernelIdeal.S1x2048 .f32) (A4 : FVec Ideal Cert.KernelIdeal.S1x1024 .f32)
    (h0 : m' (c.tc.loc Cert.ReferenceIdeal.main_arg0) = A0) (h1 : m' (c.tc.loc Cert.ReferenceIdeal.main_arg1) = A1)
    (h2 : m' (c.tc.loc Cert.ReferenceIdeal.main_arg2) = A2) (h3 : m' (c.tc.loc Cert.ReferenceIdeal.main_arg3) = A3)
    (h4 : m' (c.tc.loc Cert.ReferenceIdeal.main_arg4) = A4) :
    Cert.ReferenceIdeal.Value.out_main_v123 (Cert.ReferenceIdeal.Value.STEP^[32] (StableHlo.entryContents Cert.ReferenceIdeal.Value.preI m' c))
      = Cert.KernelIdeal.Mlstm.result A0 A1 A2 A3 A4 := by
  funext (y : Cert.KernelIdeal.S6x4096x1024.Idx)
  have hy : (y (2 : Fin 3)).val < 1024 := (y (2 : Fin 3)).isLt
  obtain ⟨b, r, h, e, hz⟩ : ∃ (b : Fin 6) (r : Fin 4096) (h : Fin 4) (e : Fin 256),
      y = ix3 b r (⟨256 * h.val + e.val, by omega⟩ : Fin 1024) :=
    ⟨y (0 : Fin 3), y (1 : Fin 3), ⟨(y (2 : Fin 3)).val / 256, by omega⟩, ⟨(y (2 : Fin 3)).val % 256, by omega⟩, funext fun a => by
      fin_cases a
      · rfl
      · rfl
      · exact Fin.ext (by show (y (2 : Fin 3)).val = 256 * ((y (2 : Fin 3)).val / 256) + (y (2 : Fin 3)).val % 256; omega)⟩
  rw [hz]
  exact (Cert.ReferenceIdeal.Mlstm.result_at m' c A0 A1 A2 A3 A4 h0 h1 h2 h3 h4 b r h e).trans
    (Cert.KernelIdeal.Mlstm.result_ix A0 A1 A2 A3 A4 b r h e).symm

theorem mlstm_reference :
    Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) _⟩) (Cert.ReferenceIdeal.Value.run m g)

theorem mlstm_algebraic : Cert.algebraic_KernelIdeal_ReferenceIdeal (hKernelIdeal := Cert.KernelIdeal.Gen.facts)
    (hReferenceIdeal := Cert.ReferenceIdeal.Gen.facts) := fun m g m' g' _ hm =>
  ⟨fun c => Cert.KernelIdeal.Mlstm.result (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)),
    (θ_run Cert.KernelIdeal.defs _ _).mono (fun r h c =>
      ⟨(h c).1.trans (Cert.KernelIdeal.Mlstm.arr10 m _ _ _ _ _ c rfl rfl rfl rfl rfl), (h c).2⟩) (Cert.KernelIdeal.Mlstm.run_blocks m g),
    (θ_run Cert.ReferenceIdeal.defs _ _).mono (fun r h c =>
      ⟨(h c).1.trans (mlstm_eq m' c _ _ _ _ _ (hm c).1 (hm c).2.1 (hm c).2.2.1 (hm c).2.2.2.1 (hm c).2.2.2.2), (h c).2⟩)
      (Cert.ReferenceIdeal.Value.run m' g')⟩

end Cert.Proof

end
-- ==== Proof.Ffn3.Open.lean ====
/- The two scratches and the output window of the feed-forward kernel, case by case, as its own payloads. -/
module

public import proofs.«01_k».proof.Proof.Gen.Kernel3Ideal.Frame
public import Idealize.ShloMosaic.Lib.Pipeline.Value

@[expose] public section

noncomputable section

namespace Cert.Kernel3Ideal.Ffn

open Idealize.ShloMosaic Idealize.ShloMosaic.TcCoe Idealize.SL.Sem
open Cert.Kernel3Ideal Cert.Kernel3Ideal.Gen

variable {F : FTy → Type} [FloatOps F]

theorem hz : (![0, 0] : Fin 2 → Nat) = fun _ => 0 := funext fun a => by fin_cases a <;> rfl

theorem sout_A_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole) (hc0 : cond0_0 i) (hc1 : ¬cond0_1 i) (hc2 : ¬cond0_2 i) (hc3 : ¬cond0_3 i)
    (x0 : Vec F S512x2048 .f32) (x1 : Vec F S512x2048 .f32) (x2 : Vec F S1x2048 .f32) (x3 : Vec F S1x2048 .f32) (x4 : Vec F S2048x512 .bf16) (x5 : Vec F S2048x512 .bf16) (x6 : Vec F S512x2048 .bf16) :
    sout0_A_0 c i arg2 harg2 arg3 harg3 arg4 harg4 arg5 harg5 arg6 harg6 arg7 harg7 arg8 harg8 arg9 harg9 arg10 harg10 arg11 harg11 hc0 hc1 hc2 hc3 x0 x1 x2 x3 x4 x5 x6 = k0_pay3 x0 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 hc2 hc3 x0 x1 x2 x3 x4 x5 x6)]
  unfold kernelRun0_A
  dsimp only
  (try sl_unfold_words)
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x2048) hz, View.ld_unit_zero (S := S1x2048) hz, View.ld_unit_zero (S := S2048x512) hz, shapeCast_self]

theorem sout_A_1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole) (hc0 : cond0_0 i) (hc1 : ¬cond0_1 i) (hc2 : ¬cond0_2 i) (hc3 : ¬cond0_3 i)
    (x0 : Vec F S512x2048 .f32) (x1 : Vec F S512x2048 .f32) (x2 : Vec F S1x2048 .f32) (x3 : Vec F S1x2048 .f32) (x4 : Vec F S2048x512 .bf16) (x5 : Vec F S2048x512 .bf16) (x6 : Vec F S512x2048 .bf16) :
    sout0_A_1 c i arg2 harg2 arg3 harg3 arg4 harg4 arg5 harg5 arg6 harg6 arg7 harg7 arg8 harg8 arg9 harg9 arg10 harg10 arg11 harg11 hc0 hc1 hc2 hc3 x0 x1 x2 x3 x4 x5 x6 = k0_pay7 (k0_pay3 x0 x2) x4 x5 (k0_pay4 (F := F)) x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 hc2 hc3 x0 x1 x2 x3 x4 x5 x6)]
  unfold kernelRun0_A
  dsimp only
  sl_unfold_words
  rw [View.canon_cons_unit_zero (S := S512x2048) hz]
  simp only [View.readCov_unit_zero (S := S512x2048) _ hz, View.readAt_eq_ld, harg2.read_unread, harg3.read_unread, harg4.read_unread, harg5.read_unread, harg6.read_unread, harg7.read_unread, harg8.read_unread, harg9.read_unread, harg10.read_unread, harg11.read_unread, View.ld_unit_zero (S := S512x2048) hz, View.ld_unit_zero (S := S1x2048) hz, View.ld_unit_zero (S := S2048x512) hz, shapeCast_self]

theorem sout_D_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : cond0_1 i) (hc2 : ¬cond0_2 i) (hc3 : ¬cond0_3 i)
    (x0 : Vec F S512x2048 .f32) (x1 : Vec F S512x2048 .f32) (x2 : Vec F S1x2048 .f32) (x3 : Vec F S1x2048 .f32) (x4 : Vec F S2048x512 .bf16) (x5 : Vec F S2048x512 .bf16) (x6 : Vec F S512x2048 .bf16) :
    sout0_D_0 c i arg2 harg2 arg3 harg3 arg4 harg4 arg5 harg5 arg6 harg6 arg7 harg7 arg8 harg8 arg9 harg9 arg10 harg10 arg11 harg11 hc0 hc1 hc2 hc3 x0 x1 x2 x3 x4 x5 x6 = k0_pay5 x1 x2 := by
  unfold sout0_D_0
  rw [View.read_writes_eq_canon _ _ _ (scover0_D_0 c i arg2 harg2 arg3 harg3 arg4 harg4 arg5 harg5 arg6 harg6 arg7 harg7 arg8 harg8 arg9 harg9 arg10 harg10 arg11 harg11 hc0 hc1 hc2 hc3 x0 x1 x2 x3 x4 x5 x6)]
  unfold kernelRun0_D
  dsimp only
  (try sl_unfold_words)
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x2048) hz, View.ld_unit_zero (S := S1x2048) hz, View.ld_unit_zero (S := S2048x512) hz, shapeCast_self]

theorem sout_D_1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : cond0_1 i) (hc2 : ¬cond0_2 i) (hc3 : ¬cond0_3 i)
    (x0 : Vec F S512x2048 .f32) (x1 : Vec F S512x2048 .f32) (x2 : Vec F S1x2048 .f32) (x3 : Vec F S1x2048 .f32) (x4 : Vec F S2048x512 .bf16) (x5 : Vec F S2048x512 .bf16) (x6 : Vec F S512x2048 .bf16) :
    sout0_D_1 c i arg2 harg2 arg3 harg3 arg4 harg4 arg5 harg5 arg6 harg6 arg7 harg7 arg8 harg8 arg9 harg9 arg10 harg10 arg11 harg11 hc0 hc1 hc2 hc3 x0 x1 x2 x3 x4 x5 x6 = k0_pay7 (k0_pay5 x1 x2) x4 x5 (k0_pay6 (F := F)) x6 := by
  unfold sout0_D_1
  rw [View.read_writes_eq_canon _ _ _ (scover0_D_1 c i arg2 harg2 arg3 harg3 arg4 harg4 arg5 harg5 arg6 harg6 arg7 harg7 arg8 harg8 arg9 harg9 arg10 harg10 arg11 harg11 hc0 hc1 hc2 hc3 x0 x1 x2 x3 x4 x5 x6)]
  unfold kernelRun0_D
  dsimp only
  sl_unfold_words
  rw [View.canon_cons_unit_zero (S := S512x2048) hz]
  simp only [View.readCov_unit_zero (S := S512x2048) _ hz, View.readAt_eq_ld, harg2.read_unread, harg3.read_unread, harg4.read_unread, harg5.read_unread, harg6.read_unread, harg7.read_unread, harg8.read_unread, harg9.read_unread, harg10.read_unread, harg11.read_unread, View.ld_unit_zero (S := S512x2048) hz, View.ld_unit_zero (S := S1x2048) hz, View.ld_unit_zero (S := S2048x512) hz, shapeCast_self]

theorem sout_B_1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : ¬cond0_1 i) (hc2 : ¬cond0_2 i) (hc3 : ¬cond0_3 i)
    (x0 : Vec F S512x2048 .f32) (x1 : Vec F S512x2048 .f32) (x2 : Vec F S1x2048 .f32) (x3 : Vec F S1x2048 .f32) (x4 : Vec F S2048x512 .bf16) (x5 : Vec F S2048x512 .bf16) (x6 : Vec F S512x2048 .bf16) (xs0 : Vec F S512x2048 .bf16) (xs1 : Vec F S512x2048 .f32) :
    sout0_B_1 c i arg2 harg2 arg3 harg3 arg4 harg4 arg5 harg5 arg6 harg6 arg7 harg7 arg8 harg8 arg9 harg9 arg10 harg10 arg11 harg11 hc0 hc1 hc2 hc3 x0 x1 x2 x3 x4 x5 x6 xs0 xs1 = k0_pay7 xs0 x4 x5 xs1 x6 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 hc2 hc3 x0 x1 x2 x3 x4 x5 x6 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x2048) hz, View.ld_unit_zero (S := S1x2048) hz, View.ld_unit_zero (S := S2048x512) hz, shapeCast_self]

theorem sout_C_1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : ¬cond0_1 i) (hc2 : cond0_2 i) (hc3 : ¬cond0_3 i)
    (x0 : Vec F S512x2048 .f32) (x1 : Vec F S512x2048 .f32) (x2 : Vec F S1x2048 .f32) (x3 : Vec F S1x2048 .f32) (x4 : Vec F S2048x512 .bf16) (x5 : Vec F S2048x512 .bf16) (x6 : Vec F S512x2048 .bf16) (xs0 : Vec F S512x2048 .bf16) (xs1 : Vec F S512x2048 .f32) :
    sout0_C_1 c i arg2 harg2 arg3 harg3 arg4 harg4 arg5 harg5 arg6 harg6 arg7 harg7 arg8 harg8 arg9 harg9 arg10 harg10 arg11 harg11 hc0 hc1 hc2 hc3 x0 x1 x2 x3 x4 x5 x6 xs0 xs1 = k0_pay7 xs0 x4 x5 xs1 x6 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 hc2 hc3 x0 x1 x2 x3 x4 x5 x6 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x2048) hz, View.ld_unit_zero (S := S1x2048) hz, View.ld_unit_zero (S := S2048x512) hz, shapeCast_self]

theorem out_C (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : ¬cond0_1 i) (hc2 : cond0_2 i) (hc3 : ¬cond0_3 i)
    (x0 : Vec F S512x2048 .f32) (x1 : Vec F S512x2048 .f32) (x2 : Vec F S1x2048 .f32) (x3 : Vec F S1x2048 .f32) (x4 : Vec F S2048x512 .bf16) (x5 : Vec F S2048x512 .bf16) (x6 : Vec F S512x2048 .bf16) (xs0 : Vec F S512x2048 .bf16) (xs1 : Vec F S512x2048 .f32) :
    out0_C_7 c i arg2 harg2 arg3 harg3 arg4 harg4 arg5 harg5 arg6 harg6 arg7 harg7 arg8 harg8 arg9 harg9 arg10 harg10 arg11 harg11 hc0 hc1 hc2 hc3 x0 x1 x2 x3 x4 x5 x6 xs0 xs1 = k0_pay1 x0 (k0_pay7 xs0 x4 x5 xs1 x6) x3 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 hc2 hc3 x0 x1 x2 x3 x4 x5 x6 xs0 xs1)]
  unfold kernelRun0_C
  dsimp only
  sl_unfold_words
  rw [View.canon_unit_zero hz]
  simp only [View.readCov_unit_zero (S := S512x2048) _ hz, View.readAt_eq_ld, harg2.read_unread, harg3.read_unread, harg4.read_unread, harg5.read_unread, harg6.read_unread, harg7.read_unread, harg8.read_unread, harg9.read_unread, harg10.read_unread, harg11.read_unread, View.ld_unit_zero (S := S512x2048) hz, View.ld_unit_zero (S := S1x2048) hz, View.ld_unit_zero (S := S2048x512) hz, shapeCast_self]

theorem sout_E_1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : ¬cond0_1 i) (hc2 : ¬cond0_2 i) (hc3 : cond0_3 i)
    (x0 : Vec F S512x2048 .f32) (x1 : Vec F S512x2048 .f32) (x2 : Vec F S1x2048 .f32) (x3 : Vec F S1x2048 .f32) (x4 : Vec F S2048x512 .bf16) (x5 : Vec F S2048x512 .bf16) (x6 : Vec F S512x2048 .bf16) (xs0 : Vec F S512x2048 .bf16) (xs1 : Vec F S512x2048 .f32) :
    sout0_E_1 c i arg2 harg2 arg3 harg3 arg4 harg4 arg5 harg5 arg6 harg6 arg7 harg7 arg8 harg8 arg9 harg9 arg10 harg10 arg11 harg11 hc0 hc1 hc2 hc3 x0 x1 x2 x3 x4 x5 x6 xs0 xs1 = k0_pay7 xs0 x4 x5 xs1 x6 := by
  unfold sout0_E_1
  rw [View.read_writes_eq_canon _ _ _ (scover0_E_1 c i arg2 harg2 arg3 harg3 arg4 harg4 arg5 harg5 arg6 harg6 arg7 harg7 arg8 harg8 arg9 harg9 arg10 harg10 arg11 harg11 hc0 hc1 hc2 hc3 x0 x1 x2 x3 x4 x5 x6 xs0 xs1)]
  unfold kernelRun0_E
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x2048) hz, View.ld_unit_zero (S := S1x2048) hz, View.ld_unit_zero (S := S2048x512) hz, shapeCast_self]

theorem out_E (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : ¬cond0_1 i) (hc2 : ¬cond0_2 i) (hc3 : cond0_3 i)
    (x0 : Vec F S512x2048 .f32) (x1 : Vec F S512x2048 .f32) (x2 : Vec F S1x2048 .f32) (x3 : Vec F S1x2048 .f32) (x4 : Vec F S2048x512 .bf16) (x5 : Vec F S2048x512 .bf16) (x6 : Vec F S512x2048 .bf16) (xs0 : Vec F S512x2048 .bf16) (xs1 : Vec F S512x2048 .f32) :
    out0_E_7 c i arg2 harg2 arg3 harg3 arg4 harg4 arg5 harg5 arg6 harg6 arg7 harg7 arg8 harg8 arg9 harg9 arg10 harg10 arg11 harg11 hc0 hc1 hc2 hc3 x0 x1 x2 x3 x4 x5 x6 xs0 xs1 = k0_pay2 x1 (k0_pay7 xs0 x4 x5 xs1 x6) x3 := by
  unfold out0_E_7
  rw [View.read_writes_eq_canon _ _ _ (cover0_E_7 c i arg2 harg2 arg3 harg3 arg4 harg4 arg5 harg5 arg6 harg6 arg7 harg7 arg8 harg8 arg9 harg9 arg10 harg10 arg11 harg11 hc0 hc1 hc2 hc3 x0 x1 x2 x3 x4 x5 x6 xs0 xs1)]
  unfold kernelRun0_E
  dsimp only
  sl_unfold_words
  rw [View.canon_unit_zero hz]
  simp only [View.readCov_unit_zero (S := S512x2048) _ hz, View.readAt_eq_ld, harg2.read_unread, harg3.read_unread, harg4.read_unread, harg5.read_unread, harg6.read_unread, harg7.read_unread, harg8.read_unread, harg9.read_unread, harg10.read_unread, harg11.read_unread, View.ld_unit_zero (S := S512x2048) hz, View.ld_unit_zero (S := S1x2048) hz, View.ld_unit_zero (S := S2048x512) hz, shapeCast_self]

end Cert.Kernel3Ideal.Ffn

end
-- ==== Proof.Ffn.Math.lean ====
/- One row of the feed-forward half step over the extended reals, and its hidden layer summed chunk by chunk. -/
module

public import Idealize.ShloMosaic.Lib.Pointwise

@[expose] public section

noncomputable section

namespace Cert.Proof.Ffn

open Idealize.ShloMosaic

/-- A row of the model's width. -/
abbrev Row := Fin 2048 → EReal

/-- The reciprocal of the root mean square, from the sum of squares. -/
def scale (s : EReal) : EReal :=
  Ideal.rsqrt (Ideal.div s (Ideal.ofBits FTy.f32 1157627904#32) + Ideal.ofBits FTy.f32 897988541#32)

/-- A row normalised. -/
def nrm (x g : Row) (q : Fin 2048) : EReal := x q * scale (∑ k, x k * x k) * g q

/-- The gated hidden layer. -/
def act (h : Row) (wg wu : Fin 2048 → Fin 5632 → EReal) (j : Fin 5632) : EReal :=
  (∑ k, h k * wg k j) * Ideal.logistic (∑ k, h k * wg k j) * ∑ k, h k * wu k j

/-- The term of one hidden unit in one output column. -/
def term (h : Row) (wg wu : Fin 2048 → Fin 5632 → EReal) (wd : Fin 5632 → Row) (q : Fin 2048) (j : Fin 5632) : EReal :=
  act h wg wu j * wd j q

/-- The layer's output row, before its normalisation. -/
def lin (h : Row) (wg wu : Fin 2048 → Fin 5632 → EReal) (wd : Fin 5632 → Row) (q : Fin 2048) : EReal :=
  ∑ j, term h wg wu wd q j

/-- Half of a normalised row added to a row. -/
def join (x y g : Row) (q : Fin 2048) : EReal := x q + Ideal.ofBits FTy.f32 1056964608#32 * nrm y g q

/-- The half step. -/
def half (x g g' : Row) (wg wu : Fin 2048 → Fin 5632 → EReal) (wd : Fin 5632 → Row) : Row :=
  join x (lin (nrm x g) wg wu wd) g'

/-- The half taken on the normalisation's weight. -/
theorem join_eq (x y g : Row) (q : Fin 2048) :
    x q + y q * scale (∑ k, y k * y k) * (Ideal.ofBits FTy.f32 1056964608#32 * g q) = join x y g q := by
  unfold join nrm
  rw [mul_left_comm]

/-- Terms numbered by the naturals, none after the last. -/
def ext (F : Fin 5632 → EReal) (n : ℕ) : EReal := if h : n < 5632 then F ⟨n, h⟩ else 0

/-- The terms of the chunks before a chunk. -/
def part (F : Fin 5632 → EReal) (f : ℕ) : EReal := ∑ j ∈ Finset.range (512 * f), ext F j

theorem part_zero (F : Fin 5632 → EReal) : part F 0 = 0 := rfl

theorem part_succ (F : Fin 5632 → EReal) (f : ℕ) (hf : f < 11) :
    part F (f + 1) = part F f + ∑ k : Fin 512, F ⟨512 * f + k.val, by omega⟩ := by
  unfold part
  rw [show 512 * (f + 1) = 512 * f + 512 by ring, Finset.sum_range_add]
  congr 1
  rw [Finset.sum_range]
  refine Finset.sum_congr rfl fun k _ => ?_
  exact dif_pos (by omega : 512 * f + k.val < 5632)

theorem part_all (F : Fin 5632 → EReal) : part F 11 = ∑ j, F j := by
  unfold part
  rw [show 512 * 11 = 5632 by norm_num, Finset.sum_range]
  refine Finset.sum_congr rfl fun k _ => ?_
  exact dif_pos k.isLt

end Cert.Proof.Ffn

end
-- ==== Proof.Ffn3.Val.lean ====
/- The feed-forward kernel's scratches and results, tile by tile and chunk by chunk. -/
module

public import proofs.«01_k».proof.Proof.Ffn3.Open
public import proofs.«01_k».proof.Proof.Ffn.Math
public import Idealize.ShloMosaic.Lib.Pipeline.Value
public import Idealize.ShloMosaic.Lib.Pipeline.ValueKit

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen Cert.Proof.Ffn

/-! ## The payloads at a row and a column -/

theorem pre_at (x : Vec Ideal S512x2048 .f32) (g : Vec Ideal S1x2048 .f32) (r : Fin 512) (q : Fin 2048) :
    k0_pay3 x g (ix2 r q) = nrm (fun q => x (ix2 r q)) (fun q => g (ix2 0 q)) q := by
  pointwise [k0_pay3]
  rfl

theorem zero_at (r : Fin 512) (q : Fin 2048) : k0_pay4 (F := Ideal) (ix2 r q) = 0 := by
  pointwise [k0_pay4]

theorem chunk_at (h : Vec Ideal S512x2048 .bf16) (wg wu : Vec Ideal S2048x512 .bf16) (a : Vec Ideal S512x2048 .f32)
    (wd : Vec Ideal S512x2048 .bf16) (r : Fin 512) (q : Fin 2048) :
    k0_pay7 h wg wu a wd (ix2 r q) = a (ix2 r q) + ∑ j : Fin 512,
      ((∑ k, h (ix2 r k) * wg (ix2 k j)) * Ideal.logistic (∑ k, h (ix2 r k) * wg (ix2 k j)) * ∑ k, h (ix2 r k) * wu (ix2 k j))
        * wd (ix2 j q) := by
  pointwise [k0_pay7]

theorem join_at (x a : Vec Ideal S512x2048 .f32) (g : Vec Ideal S1x2048 .f32) (r : Fin 512) (q : Fin 2048) :
    k0_pay1 x a g (ix2 r q) = join (fun q => x (ix2 r q)) (fun q => a (ix2 r q)) (fun q => g (ix2 0 q)) q := by
  pointwise [k0_pay1]
  exact join_eq (fun q => x (ix2 r q)) (fun q => a (ix2 r q)) (fun q => g (ix2 0 q)) q

variable (m : (ℓ : Loc nD τ sig) → Buf (Elt Ideal) ℓ) (c : Dev nD)

/-! ## What each grid point leaves -/

theorem pay5_eq : k0_pay5 (F := Ideal) = k0_pay3 := rfl
theorem pay6_eq : k0_pay6 (F := Ideal) = k0_pay4 := rfl
theorem pay2_eq : k0_pay2 (F := Ideal) = k0_pay1 := rfl

/-- The tile's rows. -/
def xb (t : Fin cfg0.N) : Vec Ideal S512x2048 .f32 := if t.val / 11 < 16 then iblk m c 0 t else iblk m c 1 t

theorem lt_N (t : Fin cfg0.N) : t.val < 528 := lt_of_lt_of_eq t.isLt N_0

theorem first (t : Fin cfg0.N) (hf : t.val % 11 = 0) :
    (outsAt0 m c t.val t.isLt).2.1 = k0_pay3 (xb m c t) (iblk m c 2 t)
      ∧ (outsAt0 m c t.val t.isLt).2.2 = k0_pay7 (k0_pay3 (xb m c t) (iblk m c 2 t)) (iblk m c 4 t) (iblk m c 5 t) (k0_pay4 (F := Ideal)) (iblk m c 6 t) := by
  have hN := lt_N t
  unfold xb
  by_cases hi : t.val / 11 < 16
  · rw [outsAt0_A m c t (by omega) (by omega) (by omega) (by omega), if_pos hi]
    dsimp only
    exact ⟨by rw [sout_A_0], by rw [sout_A_1]⟩
  · rw [outsAt0_D m c t (by omega) (by omega) (by omega) (by omega), if_neg hi]
    dsimp only
    exact ⟨by rw [sout_D_0, pay5_eq], by rw [sout_D_1, pay5_eq, pay6_eq]⟩

theorem next (t : Fin cfg0.N) (hf : t.val % 11 ≠ 0) :
    (outsAt0 m c t.val t.isLt).2.1 = (outsAt0 m c (t.val - 1) (Nat.lt_of_le_of_lt (Nat.sub_le _ _) t.isLt)).2.1
      ∧ (outsAt0 m c t.val t.isLt).2.2 = k0_pay7 (outsAt0 m c (t.val - 1) (Nat.lt_of_le_of_lt (Nat.sub_le _ _) t.isLt)).2.1
        (iblk m c 4 t) (iblk m c 5 t) (outsAt0 m c (t.val - 1) (Nat.lt_of_le_of_lt (Nat.sub_le _ _) t.isLt)).2.2 (iblk m c 6 t) := by
  have hN := lt_N t
  by_cases hl : t.val % 11 = 10
  · by_cases hi : t.val / 11 < 16
    · rw [outsAt0_C m c t (by omega) (by omega) (by omega) (by omega)]
      exact ⟨rfl, by dsimp only; rw [sout_C_1]⟩
    · rw [outsAt0_E m c t (by omega) (by omega) (by omega) (by omega)]
      exact ⟨rfl, by dsimp only; rw [sout_E_1]⟩
  · rw [outsAt0_B m c t (by omega) (by omega) (by omega) (by omega)]
    exact ⟨rfl, by dsimp only; rw [sout_B_1]⟩

theorem last (t : Fin cfg0.N) (hf : t.val % 11 = 10) :
    (outsAt0 m c t.val t.isLt).1 = k0_pay1 (xb m c t) (outsAt0 m c t.val t.isLt).2.2 (iblk m c 3 t) := by
  have hN := lt_N t
  rw [(next m c t (by omega)).2]
  unfold xb
  by_cases hi : t.val / 11 < 16
  · rw [outsAt0_C m c t (by omega) (by omega) (by omega) (by omega), if_pos hi]
    dsimp only
    rw [out_C]
  · rw [outsAt0_E m c t (by omega) (by omega) (by omega) (by omega), if_neg hi]
    dsimp only
    rw [out_E, pay2_eq]

/-! ## The blocks, from the arrays -/

theorem ix_0 : ∀ t : Fin cfg0.N, win0_0.index t = ![min (t.val / 11) 15, 0] := by decide +kernel
theorem ix_1 : ∀ t : Fin cfg0.N, win0_1.index t = ![t.val / 11 - 16, 0] := by decide +kernel
theorem ix_2 : ∀ t : Fin cfg0.N, win0_2.index t = ![0, 0] := by decide +kernel
theorem ix_3 : ∀ t : Fin cfg0.N, win0_3.index t = ![0, 0] := by decide +kernel
theorem ix_4 : ∀ t : Fin cfg0.N, win0_4.index t = ![0, t.val % 11] := by decide +kernel
theorem ix_5 : ∀ t : Fin cfg0.N, win0_5.index t = ![0, t.val % 11] := by decide +kernel
theorem ix_6 : ∀ t : Fin cfg0.N, win0_6.index t = ![t.val % 11, 0] := by decide +kernel
theorem ix_7 : ∀ t : Fin cfg0.N, win0_7.index t = ![t.val / 11, 0] := by decide +kernel

variable (P : Vec Ideal S8192x2048 .f32) (S : Vec Ideal S16384x2048 .f32) (g g' : Vec Ideal S1x2048 .f32)
  (wg wu : Vec Ideal S2048x5632 .bf16) (wd : Vec Ideal S5632x2048 .bf16)
  (h0 : m (c.tc.loc main_arg0) = P) (h1 : m (c.tc.loc main_arg1) = S) (h2 : m (c.tc.loc main_arg2) = g)
  (h3 : m (c.tc.loc main_arg3) = g') (h4 : m (c.tc.loc main_arg4) = wg) (h5 : m (c.tc.loc main_arg5) = wu)
  (h6 : m (c.tc.loc main_arg6) = wd)

/-- A row of the two arguments, one after the other. -/
def row (R : ℕ) (hR : R < 24576) (q : Fin 2048) : EReal :=
  if h : R < 8192 then P (ix2 ⟨R, h⟩ q) else S (ix2 ⟨R - 8192, by omega⟩ q)

include h0 h1 in
theorem xb_at (t : Fin cfg0.N) (r : Fin 512) (q : Fin 2048) :
    xb m c t (ix2 r q) = row P S (512 * (t.val / 11) + r.val) (by have := lt_N t; omega) q := by
  subst h0 h1
  have hN := lt_N t
  unfold xb row
  by_cases hi : t.val / 11 < 16
  · rw [if_pos hi, dif_pos (by omega)]
    show m (c.tc.loc main_arg0) _ = _
    refine congrArg _ (funext fun a => Fin.ext ?_)
    blk_simp [ix_0]
    fin_cases a
    · show min (t.val / 11) 15 * 512 + r.val = 512 * (t.val / 11) + r.val
      omega
    · show 0 * 2048 + q.val = q.val
      omega
  · rw [if_neg hi, dif_neg (by omega)]
    show m (c.tc.loc main_arg1) _ = _
    refine congrArg _ (funext fun a => Fin.ext ?_)
    blk_simp [ix_1]
    fin_cases a
    · show (t.val / 11 - 16) * 512 + r.val = 512 * (t.val / 11) + r.val - 8192
      omega
    · show 0 * 2048 + q.val = q.val
      omega

include h2 in
theorem pre_g (t : Fin cfg0.N) (q : Fin 2048) : (iblk m c 2 t : Vec Ideal S1x2048 .f32) (ix2 0 q) = g (ix2 0 q) := by
  subst h2
  show m (c.tc.loc main_arg2) _ = _
  refine congrArg _ (funext fun a => Fin.ext ?_)
  blk_simp [ix_2]
  fin_cases a
  · rfl
  · show 0 * 2048 + q.val = q.val
    omega

include h3 in
theorem post_g (t : Fin cfg0.N) (q : Fin 2048) : (iblk m c 3 t : Vec Ideal S1x2048 .f32) (ix2 0 q) = g' (ix2 0 q) := by
  subst h3
  show m (c.tc.loc main_arg3) _ = _
  refine congrArg _ (funext fun a => Fin.ext ?_)
  blk_simp [ix_3]
  fin_cases a
  · rfl
  · show 0 * 2048 + q.val = q.val
    omega

include h4 in
theorem gate (t : Fin cfg0.N) (k : Fin 2048) (j : Fin 512) :
    (iblk m c 4 t : Vec Ideal S2048x512 .bf16) (ix2 k j) = wg (ix2 k ⟨512 * (t.val % 11) + j.val, by omega⟩) := by
  subst h4
  show m (c.tc.loc main_arg4) _ = _
  refine congrArg _ (funext fun a => Fin.ext ?_)
  blk_simp [ix_4]
  fin_cases a
  · show 0 * 2048 + k.val = k.val
    omega
  · show t.val % 11 * 512 + j.val = 512 * (t.val % 11) + j.val
    omega

include h5 in
theorem up (t : Fin cfg0.N) (k : Fin 2048) (j : Fin 512) :
    (iblk m c 5 t : Vec Ideal S2048x512 .bf16) (ix2 k j) = wu (ix2 k ⟨512 * (t.val % 11) + j.val, by omega⟩) := by
  subst h5
  show m (c.tc.loc main_arg5) _ = _
  refine congrArg _ (funext fun a => Fin.ext ?_)
  blk_simp [ix_5]
  fin_cases a
  · show 0 * 2048 + k.val = k.val
    omega
  · show t.val % 11 * 512 + j.val = 512 * (t.val % 11) + j.val
    omega

include h6 in
theorem down (t : Fin cfg0.N) (j : Fin 512) (q : Fin 2048) :
    (iblk m c 6 t : Vec Ideal S512x2048 .bf16) (ix2 j q) = wd (ix2 ⟨512 * (t.val % 11) + j.val, by omega⟩ q) := by
  subst h6
  show m (c.tc.loc main_arg6) _ = _
  refine congrArg _ (funext fun a => Fin.ext ?_)
  blk_simp [ix_6]
  fin_cases a
  · show t.val % 11 * 512 + j.val = 512 * (t.val % 11) + j.val
    omega
  · show 0 * 2048 + q.val = q.val
    omega

/-! ## The scratches -/

/-- The normalised row, -/
abbrev hRow (R : ℕ) (hR : R < 24576) : Row := nrm (row P S R hR) (fun q => g (ix2 0 q))

/-- and its terms in a column. -/
abbrev terms (R : ℕ) (hR : R < 24576) (q : Fin 2048) : Fin 5632 → EReal :=
  term (hRow P S g R hR) (fun k j => wg (ix2 k j)) (fun k j => wu (ix2 k j)) (fun j q => wd (ix2 j q)) q

include h4 h5 h6 in
/-- One chunk's terms. -/
theorem chunk_terms (t : Fin cfg0.N) (R : ℕ) (hR : R < 24576) (h : Vec Ideal S512x2048 .bf16) (a : Vec Ideal S512x2048 .f32)
    (r : Fin 512) (q : Fin 2048) (hh : ∀ k, h (ix2 r k) = hRow P S g R hR k)
    (ha : a (ix2 r q) = part (terms P S g wg wu wd R hR q) (t.val % 11)) :
    k0_pay7 h (iblk m c 4 t) (iblk m c 5 t) a (iblk m c 6 t) (ix2 r q)
      = part (terms P S g wg wu wd R hR q) (t.val % 11 + 1) := by
  rw [chunk_at, part_succ _ _ (Nat.mod_lt _ (by decide)), ha]
  congr 1
  refine Finset.sum_congr rfl fun j _ => ?_
  simp only [hh, gate m c wg h4 t, up m c wu h5 t, down m c wd h6 t]
  rfl

include h0 h1 h2 h4 h5 h6 in
/-- After a chunk the first scratch holds the tile's normalised rows, the second the terms up to that chunk. -/
theorem scr (i : ℕ) (hi : i < 48) (f : ℕ) (hf : f < 11) (hn : 11 * i + f < cfg0.N) (r : Fin 512) :
    (∀ q, (outsAt0 m c (11 * i + f) hn).2.1 (ix2 r q) = hRow P S g (512 * i + r.val) (by omega) q)
    ∧ ∀ q, (outsAt0 m c (11 * i + f) hn).2.2 (ix2 r q) = part (terms P S g wg wu wd (512 * i + r.val) (by omega) q) (f + 1) := by
  induction f with
  | zero =>
    have h := first m c ⟨11 * i, hn⟩ (by show 11 * i % 11 = 0; omega)
    have hx : ∀ q, k0_pay3 (xb m c ⟨11 * i, hn⟩) (iblk m c 2 ⟨11 * i, hn⟩) (ix2 r q) = hRow P S g (512 * i + r.val) (by omega) q := by
      intro q
      rw [pre_at]
      simp only [pre_g m c g h2, xb_at m c P S h0 h1]
      have e : 11 * i / 11 = i := by omega
      simp only [e]
    refine ⟨fun q => ?_, fun q => ?_⟩
    · refine (congrFun h.1 _).trans (hx q)
    · refine (congrFun h.2 _).trans ?_
      have e : (⟨11 * i, hn⟩ : Fin cfg0.N).val % 11 = 0 := by show 11 * i % 11 = 0; omega
      have := chunk_terms m c P S g wg wu wd h4 h5 h6 ⟨11 * i, hn⟩ (512 * i + r.val) (by omega) _ (k0_pay4 (F := Ideal)) r q hx (by rw [e, part_zero, zero_at])
      rwa [e] at this
  | succ f ih =>
    obtain ⟨ih1, ih2⟩ := ih (by omega) (by omega)
    have h := next m c ⟨11 * i + (f + 1), hn⟩ (by show (11 * i + (f + 1)) % 11 ≠ 0; omega)
    refine ⟨fun q => ?_, fun q => ?_⟩
    · exact (congrFun h.1 _).trans (ih1 q)
    · refine (congrFun h.2 _).trans ?_
      have e : (⟨11 * i + (f + 1), hn⟩ : Fin cfg0.N).val % 11 = f + 1 := by show (11 * i + (f + 1)) % 11 = f + 1; omega
      have := chunk_terms m c P S g wg wu wd h4 h5 h6 ⟨11 * i + (f + 1), hn⟩ (512 * i + r.val) (by omega) _ _ r q ih1 (by rw [e]; exact ih2 q)
      rwa [e] at this

/-- A row of the result. -/
abbrev outRow (R : ℕ) (hR : R < 24576) : Row :=
  half (row P S R hR) (fun q => g (ix2 0 q)) (fun q => g' (ix2 0 q)) (fun k j => wg (ix2 k j)) (fun k j => wu (ix2 k j)) (fun j q => wd (ix2 j q))

include h0 h1 h2 h3 h4 h5 h6 in
/-- What the last chunk's point stores. -/
theorem stored (i : ℕ) (hi : i < 48) (hn : 11 * i + 10 < cfg0.N) (r : Fin 512) (q : Fin 2048) :
    k0_pay1 (xb m c ⟨11 * i + 10, hn⟩) (outsAt0 m c (11 * i + 10) hn).2.2 (iblk m c 3 ⟨11 * i + 10, hn⟩) (ix2 r q)
      = outRow P S g g' wg wu wd (512 * i + r.val) (by omega) q := by
  rw [join_at]
  simp only [post_g m c g' h3, xb_at m c P S h0 h1, (scr m c P S g wg wu wd h0 h1 h2 h4 h5 h6 i hi 10 (by omega) hn r).2]
  have e : (11 * i + 10) / 11 = i := by omega
  simp only [e, part_all]
  rfl

/-! ## The result -/

/-- The result, of the arguments. -/
def result : Vec Ideal S24576x2048 .f32 := fun i => outRow P S g g' wg wu wd (i (0 : Fin 2)).val (i (0 : Fin 2)).isLt (i (1 : Fin 2))

theorem emb7 (t : Fin cfg0.N) (r : Fin 512) (q : Fin 2048) :
    (win0_7.blk t).view.emb (ix2 r q) = (ix2 ⟨512 * (t.val / 11) + r.val, by have := lt_N t; omega⟩ q : S24576x2048.Idx) := by
  refine funext fun a => Fin.ext ?_
  blk_simp [ix_7]
  fin_cases a
  · show t.val / 11 * 512 + r.val = 512 * (t.val / 11) + r.val
    omega
  · show 0 * 2048 + q.val = q.val
    omega

include h0 h1 h2 h3 h4 h5 h6 in
/-- The output array after the run. -/
theorem arr7 : (dats m 0 c).arrAt 7 cfg0.N = result P S g g' wg wu wd := by
  refine (dats m 0 c).arrAt_eq_of_covers 7 _ (by decide +kernel) fun t hf y => ?_
  have hm : t.val % 11 = 10 := (flush0_7 t).mp hf
  have hN := lt_N t
  blk_simp
  rw [after0_7]
  revert y
  intro (y : S512x2048.Idx)
  obtain ⟨r, q, rfl⟩ : ∃ (r : Fin 512) (q : Fin 2048), y = ix2 r q := ⟨y 0, y 1, by
    funext a; fin_cases a <;> rfl⟩
  refine Eq.trans ?_ (congrArg (result P S g g' wg wu wd) (emb7 t r q)).symm
  obtain ⟨n, hn⟩ := t
  obtain ⟨i, rfl⟩ : ∃ i, n = 11 * i + 10 := ⟨n / 11, by dsimp only at hm; omega⟩
  refine (congrFun (last m c ⟨11 * i + 10, hn⟩ hm) _).trans ?_
  refine (stored m c P S g g' wg wu wd h0 h1 h2 h3 h4 h5 h6 i (by dsimp only at hN; omega) hn r q).trans ?_
  show outRow P S g g' wg wu wd (512 * i + r.val) _ q = outRow P S g g' wg wu wd (512 * ((11 * i + 10) / 11) + r.val) _ q
  have e : (11 * i + 10) / 11 = i := by omega
  simp only [e]

end Cert.Kernel3Ideal.Ffn

end
-- ==== Proof.Ffn3.Ref.lean ====
/- The plain feed-forward half step, read at a row and a column. -/
module

public import proofs.«01_k».proof.Proof.Gen.Reference3Ideal.Run
public import proofs.«01_k».proof.Proof.Ffn.Math

@[expose] public section

noncomputable section

namespace Cert.Reference3Ideal.Ffn

open Idealize.ShloMosaic Idealize.ShloMosaic.TcCoe Idealize.SL.Sem
open Cert.Reference3Ideal Cert.Reference3Ideal.Gen Cert.Proof.Ffn

/-- The normalisation of every row. -/
def rmsR (x : Vec Ideal S24576x2048 .f32) (g : Vec Ideal S1x2048 .f32) : Vec Ideal S24576x2048 .f32 :=
  mulf (mulf x (broadcastInDim S24576x2048 ![0, 1] bcast_S24576x1_S24576x2048_0_1 (Host.rsqrt (addf (Host.divf (broadcastInDim S24576x1 ![0] bcast_S24576_S24576x1_0 (Host.reduceAdd (mulf x x) (constant (F := Ideal) S_ .f32 0x00000000#32) reducesTo_S24576x2048_S24576_d1 h_S_)) (broadcastInDim S24576x1 ![] bcast_S_S24576x1 (constant (F := Ideal) S_ .f32 0x45000000#32))) (broadcastInDim S24576x1 ![] bcast_S_S24576x1 (constant (F := Ideal) S_ .f32 0x358637BD#32)))))) (broadcastInDim S24576x2048 ![0, 1] bcast_S1x2048_S24576x2048_0_1 (broadcastInDim S1x2048 ![1] bcast_S2048_S1x2048_1 (shapeCast _ g shapeCasts_S1x2048_S2048)))

theorem rmsR_at (x : Vec Ideal S24576x2048 .f32) (g : Vec Ideal S1x2048 .f32) (r : Fin 24576) (q : Fin 2048) :
    rmsR x g (ix2 r q) = nrm (fun q => x (ix2 r q)) (fun q => g (ix2 0 q)) q := by
  pointwise [rmsR]
  rfl

/-- The gated hidden layer of every row. -/
def actR (h : Vec Ideal S24576x2048 .f32) (wg wu : Vec Ideal S2048x5632 .f32) : Vec Ideal S24576x5632 .f32 :=
  mulf (mulf (Host.dotGeneral (φ₁ := .f32) (φ₂ := .f32) dot_S24576x2048_S2048x5632_S24576x5632_1_0_0_1_n_n none h wg)
   (Host.divf (broadcastInDim S24576x5632 ![] bcast_S_S24576x5632 (constant (F := Ideal) S_ .f32 0x3F800000#32)) (addf (broadcastInDim S24576x5632 ![] bcast_S_S24576x5632 (constant (F := Ideal) S_ .f32 0x3F800000#32)) (Host.exp (Host.negf (F := Ideal) (Host.dotGeneral (F := Ideal) (φ₁ := .f32) (φ₂ := .f32) dot_S24576x2048_S2048x5632_S24576x5632_1_0_0_1_n_n none h wg))))))
   (Host.dotGeneral (φ₁ := .f32) (φ₂ := .f32) dot_S24576x2048_S2048x5632_S24576x5632_1_0_0_1_n_n none h wu)

theorem actR_at (h : Vec Ideal S24576x2048 .f32) (wg wu : Vec Ideal S2048x5632 .f32) (r : Fin 24576) (j : Fin 5632) :
    actR h wg wu (ix2 r j) = act (fun q => h (ix2 r q)) (fun k j => wg (ix2 k j)) (fun k j => wu (ix2 k j)) j := by
  pointwise [actR]
  rfl

/-- The half step of every row. -/
def resR (x : Vec Ideal S24576x2048 .f32) (g g' : Vec Ideal S1x2048 .f32) (wg wu : Vec Ideal S2048x5632 .bf16) (wd : Vec Ideal S5632x2048 .bf16) : Vec Ideal S24576x2048 .f32 :=
  addf x (mulf (broadcastInDim S24576x2048 ![] bcast_S_S24576x2048 (constant (F := Ideal) S_ .f32 0x3F000000#32))
    (rmsR (Host.dotGeneral (F := Ideal) (φ₁ := .f32) (φ₂ := .f32) dot_S24576x5632_S5632x2048_S24576x2048_1_0_0_1_n_n none (actR (rmsR x g) (extf (F := Ideal) .f32 wg bitsLt_bf16_f32) (extf (F := Ideal) .f32 wu bitsLt_bf16_f32)) (extf (F := Ideal) .f32 wd bitsLt_bf16_f32)) g'))

theorem resR_at (x : Vec Ideal S24576x2048 .f32) (g g' : Vec Ideal S1x2048 .f32) (wg wu : Vec Ideal S2048x5632 .bf16)
    (wd : Vec Ideal S5632x2048 .bf16) (r : Fin 24576) (q : Fin 2048) :
    resR x g g' wg wu wd (ix2 r q) = half (fun q => x (ix2 r q)) (fun q => g (ix2 0 q)) (fun q => g' (ix2 0 q))
      (fun k j => wg (ix2 k j)) (fun k j => wu (ix2 k j)) (fun j q => wd (ix2 j q)) q := by
  pointwise [resR, rmsR_at, actR_at]
  rfl

/-- The rows of both arguments, one after the other. -/
abbrev rows (P : Vec Ideal S8192x2048 .f32) (S : Vec Ideal S16384x2048 .f32) : Vec Ideal S24576x2048 .f32 :=
  concatenate S24576x2048 0 [⟨S8192x2048, P⟩, ⟨S16384x2048, S⟩] concatenates_S8192x2048_S16384x2048_S24576x2048_d0

theorem rows_lo (P : Vec Ideal S8192x2048 .f32) (S : Vec Ideal S16384x2048 .f32) (r : Fin 24576) (q : Fin 2048) (h : r.val < 8192) :
    rows P S (ix2 r q) = P (ix2 ⟨r.val, h⟩ q) := by
  pointwise [rows]
  exact dif_pos h

theorem rows_hi (P : Vec Ideal S8192x2048 .f32) (S : Vec Ideal S16384x2048 .f32) (r : Fin 24576) (q : Fin 2048) (h : 8192 ≤ r.val) :
    rows P S (ix2 r q) = S (ix2 ⟨r.val - 8192, by omega⟩ q) := by
  pointwise [rows]
  exact dif_neg (by omega)

theorem res_eq (m : (ℓ : Loc nD τ sig) → Buf (Elt Ideal) ℓ) (c : Dev nD) :
    Cert.Reference3Ideal.Value.res_out0 m c = resR (rows (m ((c.tc : Thread nD τ).loc main_arg0)) (m ((c.tc : Thread nD τ).loc main_arg1)))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  unfold Cert.Reference3Ideal.Value.res_out0 Cert.Reference3Ideal.Value.res_main_v39
  rfl

end Cert.Reference3Ideal.Ffn

end
-- ==== Proof.Ffn3.Tie.lean ====
/- The first feed-forward half step: the kernel against the plain reference. -/
module

public import proofs.«01_k».proof.Defs
public import proofs.«01_k».proof.Proof.Ffn3.Val
public import proofs.«01_k».proof.Proof.Ffn3.Ref
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The two results are one function of the arguments. -/
theorem ffn3_eq (P : Vec Ideal Cert.Kernel3Ideal.S8192x2048 .f32) (S : Vec Ideal Cert.Kernel3Ideal.S16384x2048 .f32)
    (g g' : Vec Ideal Cert.Kernel3Ideal.S1x2048 .f32) (wg wu : Vec Ideal Cert.Kernel3Ideal.S2048x5632 .bf16)
    (wd : Vec Ideal Cert.Kernel3Ideal.S5632x2048 .bf16) :
    Cert.Reference3Ideal.Ffn.resR (Cert.Reference3Ideal.Ffn.rows P S) g g' wg wu wd = Cert.Kernel3Ideal.Ffn.result P S g g' wg wu wd := by
  funext (y : Cert.Kernel3Ideal.S24576x2048.Idx)
  obtain ⟨r, q, rfl⟩ : ∃ (r : Fin 24576) (q : Fin 2048), y = ix2 r q := ⟨y 0, y 1, by
    funext a; fin_cases a <;> rfl⟩
  refine (Cert.Reference3Ideal.Ffn.resR_at _ g g' wg wu wd r q).trans ?_
  show Ffn.half (fun q => Cert.Reference3Ideal.Ffn.rows P S (ix2 r q)) _ _ _ _ _ q = Ffn.half (Cert.Kernel3Ideal.Ffn.row P S r.val r.isLt) _ _ _ _ _ q
  have e : (fun q => Cert.Reference3Ideal.Ffn.rows P S (ix2 r q)) = Cert.Kernel3Ideal.Ffn.row P S r.val r.isLt := by
    funext q
    unfold Cert.Kernel3Ideal.Ffn.row
    by_cases h : r.val < 8192
    · rw [dif_pos h]; exact Cert.Reference3Ideal.Ffn.rows_lo P S r q h
    · rw [dif_neg h]; exact Cert.Reference3Ideal.Ffn.rows_hi P S r q (by omega)
  rw [e]

theorem ffn3_reference :
    Cert.quiescent_Reference3Ideal (hReference3Ideal := Cert.Reference3Ideal.Gen.facts) := fun m g _ =>
  (θ_run Cert.Reference3Ideal.defs _ _).mono (fun r h => ⟨fun c => (h c).2, sem_eq_zero_of_no_sems (by decide) _⟩) (Cert.Reference3Ideal.Value.run m g)

theorem ffn3_algebraic : Cert.algebraic_Kernel3Ideal_Reference3Ideal (hKernel3Ideal := Cert.Kernel3Ideal.Gen.facts)
    (hReference3Ideal := Cert.Reference3Ideal.Gen.facts) := fun m g m' g' _ hm =>
  ⟨fun c => Cert.Kernel3Ideal.Ffn.result (m (c.tc.loc Cert.Kernel3Ideal.main_arg0)) (m (c.tc.loc Cert.Kernel3Ideal.main_arg1))
      (m (c.tc.loc Cert.Kernel3Ideal.main_arg2)) (m (c.tc.loc Cert.Kernel3Ideal.main_arg3)) (m (c.tc.loc Cert.Kernel3Ideal.main_arg4))
      (m (c.tc.loc Cert.Kernel3Ideal.main_arg5)) (m (c.tc.loc Cert.Kernel3Ideal.main_arg6)),
    (θ_run Cert.Kernel3Ideal.defs _ _).mono (fun r h c =>
      ⟨((h.1 c).1 7).trans (Cert.Kernel3Ideal.Ffn.arr7 m c _ _ _ _ _ _ _ rfl rfl rfl rfl rfl rfl rfl), h.2 c⟩)
      (θ_run_and (Cert.Kernel3Ideal.Gen.run_main m g) (Cert.Kernel3Ideal.Gen.unchanged m g)),
    (θ_run Cert.Reference3Ideal.defs _ _).mono (fun r h c => ⟨(h c).1.trans (by
        obtain ⟨a0, a1, a2, a3, a4, a5, a6⟩ := hm c
        refine (Cert.Reference3Ideal.Ffn.res_eq m' c).trans ?_
        rw [a0, a1, a2, a3, a4, a5, a6]
        exact ffn3_eq _ _ _ _ _ _ _), (h c).2⟩)
      (Cert.Reference3Ideal.Value.run m' g')⟩

end Cert.Proof

end
-- ==== Proof.Ffn2.Ideal.Frame.lean ====
/- The frame of the second feed-forward kernel: a tile's first chunk normalises the rows into scratch, every chunk adds its terms
   to a second scratch, and the last stores the result, in one output for the prompt's tiles and in another for the samples'. -/
module

public import proofs.«01_k».proof.Proof.Gen.Kernel2Ideal.Frame
public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pipeline.Value

@[expose] public section

set_option maxRecDepth 16384

noncomputable section

namespace Cert.Kernel2Ideal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The body's three branches: the first chunk, the last one of a prompt's tile, the last one of a sample's. -/
abbrev cond0_0 (i : grid0.Coords) : Prop := (Scalar.cmpi .ne (Scalar.extui (Scalar.andi (Scalar.cmpi .eq (BitVec.ofNat 32 (i 1).val) 0#32) 1#1)) 0#32) = 1#1
abbrev cond0_1 (i : grid0.Coords) : Prop := k0_cond2 i = 1#1
abbrev cond0_2 (i : grid0.Coords) : Prop := k0_cond3 i = 1#1
theorem hcond0_0 : ∀ t : Fin cfg0.N, cond0_0 (grid0.coords t) ↔ t.val % 11 = 0 := by decide +kernel
theorem hcond0_1 : ∀ t : Fin cfg0.N, cond0_1 (grid0.coords t) ↔ t.val % 11 = 10 ∧ t.val < 176 := by decide +kernel
theorem hcond0_2 : ∀ t : Fin cfg0.N, cond0_2 (grid0.coords t) ↔ t.val % 11 = 10 ∧ 176 ≤ t.val := by decide +kernel

/-- Where the outputs are stored, idle, and written back. -/
theorem live6 : ∀ t : Fin cfg0.N, (t.val % 11 = 10 ∧ t.val < 176) → cfg0.idle 6 (grid0.coords t) = false := by decide +kernel
theorem idle6 : ∀ t : Fin cfg0.N, ¬(t.val % 11 = 10 ∧ t.val < 176) → cfg0.idle 6 (grid0.coords t) = true := by decide +kernel
theorem keep6 : ∀ t : Fin cfg0.N, ¬(t.val % 11 = 10 ∧ t.val < 165) → t.val ≠ 527 → (cfg0.win 6).flush t = false := by decide +kernel
theorem unread6 : ∀ t : Fin cfg0.N, (cfg0.win 6).fetch t = false := by decide +kernel
theorem live7 : ∀ t : Fin cfg0.N, (t.val % 11 = 10 ∧ 176 ≤ t.val) → cfg0.idle 7 (grid0.coords t) = false := by decide +kernel
theorem idle7 : ∀ t : Fin cfg0.N, ¬(t.val % 11 = 10 ∧ 176 ≤ t.val) → cfg0.idle 7 (grid0.coords t) = true := by decide +kernel
theorem keep7 : ∀ t : Fin cfg0.N, ¬(t.val % 11 = 10 ∧ 176 ≤ t.val) → (cfg0.win 7).flush t = false := by decide +kernel

abbrev ms0_0 (t : Fin cfg0.N) : Memref sig .tc .vmem S512x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S1x2048 .f32 := win0_2.stage (cfg0.slots t 2)
abbrev ms0_3 (t : Fin cfg0.N) : Memref sig .tc .vmem S2048x512 .bf16 := win0_3.stage (cfg0.slots t 3)
abbrev ms0_4 (t : Fin cfg0.N) : Memref sig .tc .vmem S2048x512 .bf16 := win0_4.stage (cfg0.slots t 4)
abbrev ms0_5 (t : Fin cfg0.N) : Memref sig .tc .vmem S512x2048 .bf16 := win0_5.stage (cfg0.slots t 5)
abbrev ms0_6 (t : Fin cfg0.N) : Memref sig .tc .vmem S512x2048 .f32 := win0_6.stage (cfg0.slots t 6)
abbrev ms0_7 (t : Fin cfg0.N) : Memref sig .tc .vmem S512x2048 .f32 := win0_7.stage (cfg0.slots t 7)
abbrev scM0_0 : Memref sig .tc .vmem S512x2048 .bf16 := Memref.whole cc0_scratch0
abbrev scM0_1 : Memref sig .tc .vmem S512x2048 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The body -/

theorem hz : (![0, 0] : Fin 2 → Nat) = fun _ => 0 := funext fun a => by fin_cases a <;> rfl

section body
variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole)
  (x0 : Vec F S512x2048 .f32) (x1 : Vec F S1x2048 .f32) (x2 : Vec F S1x2048 .f32) (x3 : Vec F S2048x512 .bf16) (x4 : Vec F S2048x512 .bf16) (x5 : Vec F S512x2048 .bf16)

/-- The inputs' buffers. -/
abbrev ins : sProp 𝕄 := iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5)

set_option maxHeartbeats 4000000 in
/-- In a tile's first chunk the body leaves the normalised rows and the chunk's terms. -/
theorem body_first (hc0 : cond0_0 i) (hc1 : ¬cond0_1 i) (hc2 : ¬cond0_2 i) (E : Set ℕ) (K : PUnit → sProp 𝕄) :
    iprop(ins c arg2 arg3 arg4 arg5 arg6 arg7 x0 x1 x2 x3 x4 x5 ∗ (∃ d, owns (c : Thread nD τ) arg10 fullShare d) ∗ (∃ d, owns (c : Thread nD τ) arg11 fullShare d)
        ∗ (iprop(ins c arg2 arg3 arg4 arg5 arg6 arg7 x0 x1 x2 x3 x4 x5 ∗ owns (c : Thread nD τ) arg10 fullShare (k0_pay2 x0 x1) ∗ owns (c : Thread nD τ) arg11 fullShare (k0_pay4 (k0_pay2 x0 x1) x3 x4 (k0_pay3 (F := F)) x5)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11) K := by
  simp only [cc0_ffn_eq_skeleton]; unfold cc0_ffn_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1 | sl_exact hc2)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [HS0]
  · iexists _; isplitr
    swap; · iexact HS0
    ipureintro
    rw [View.read_writes_eq_canon _ _ _ (fun y => View.cover_of_tiledL _ S512x2048.size (by sl_kernel_rfl) y)]
    (try sl_unfold_words)
    rw [View.canon_unit_zero hz]
    simp only [View.readCov_unit_zero (S := S512x2048) _ hz, View.readAt_eq_ld, harg2.read_unread, harg3.read_unread, harg4.read_unread, harg5.read_unread, harg6.read_unread, harg7.read_unread, harg10.read_unread, harg11.read_unread, View.ld_unit_zero (S := S512x2048) hz, View.ld_unit_zero (S := S1x2048) hz, View.ld_unit_zero (S := S2048x512) hz, shapeCast_self]
  iexists _; isplitr
  swap; · iexact HS1
  ipureintro
  rw [View.read_writes_eq_canon _ _ _ (fun y => View.cover_of_tiledL _ S512x2048.size (by sl_kernel_rfl) y)]
  (try sl_unfold_words)
  rw [View.canon_cons_unit_zero (S := S512x2048) hz]
  simp only [View.readCov_unit_zero (S := S512x2048) _ hz, View.readAt_eq_ld, harg2.read_unread, harg3.read_unread, harg4.read_unread, harg5.read_unread, harg6.read_unread, harg7.read_unread, harg10.read_unread, harg11.read_unread, View.ld_unit_zero (S := S512x2048) hz, View.ld_unit_zero (S := S1x2048) hz, View.ld_unit_zero (S := S2048x512) hz, shapeCast_self]

set_option maxHeartbeats 4000000 in
/-- In a middle chunk it adds the chunk's terms; -/
theorem body_mid (hc0 : ¬cond0_0 i) (hc1 : ¬cond0_1 i) (hc2 : ¬cond0_2 i) (h : Vec F S512x2048 .bf16) (a : Vec F S512x2048 .f32) (E : Set ℕ) (K : PUnit → sProp 𝕄) :
    iprop(ins c arg2 arg3 arg4 arg5 arg6 arg7 x0 x1 x2 x3 x4 x5 ∗ owns (c : Thread nD τ) arg10 fullShare h ∗ owns (c : Thread nD τ) arg11 fullShare a
        ∗ (iprop(ins c arg2 arg3 arg4 arg5 arg6 arg7 x0 x1 x2 x3 x4 x5 ∗ owns (c : Thread nD τ) arg10 fullShare h ∗ owns (c : Thread nD τ) arg11 fullShare (k0_pay4 h x3 x4 a x5)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11) K := by
  simp only [cc0_ffn_eq_skeleton]; unfold cc0_ffn_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
  sl_exec (disch := first | sl_exact hc0 | sl_exact hc1 | sl_exact hc2)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [HS0]
  · iexists _; isplitr; · ipureintro; exact harg10.read_unread _
    iexact HS0
  iexists _; isplitr
  swap; · iexact HS1
  ipureintro
  rw [View.read_writes_eq_canon _ _ _ (fun y => View.cover_of_tiledL _ S512x2048.size (by sl_kernel_rfl) y)]
  (try sl_unfold_words)
  rw [View.canon_unit_zero hz]
  simp only [View.readCov_unit_zero (S := S512x2048) _ hz, View.readAt_eq_ld, harg2.read_unread, harg3.read_unread, harg4.read_unread, harg5.read_unread, harg6.read_unread, harg7.read_unread, harg10.read_unread, harg11.read_unread, View.ld_unit_zero (S := S512x2048) hz, View.ld_unit_zero (S := S1x2048) hz, View.ld_unit_zero (S := S2048x512) hz, shapeCast_self]

set_option maxHeartbeats 4000000 in
/-- in the prompt's last chunks it stores the result in the first output, -/
theorem body_lo (hc0 : ¬cond0_0 i) (hc1 : cond0_1 i) (hc2 : ¬cond0_2 i) (h : Vec F S512x2048 .bf16) (a : Vec F S512x2048 .f32) (E : Set ℕ) (K : PUnit → sProp 𝕄) :
    iprop(ins c arg2 arg3 arg4 arg5 arg6 arg7 x0 x1 x2 x3 x4 x5 ∗ (∃ d, owns (c : Thread nD τ) arg8 fullShare d) ∗ owns (c : Thread nD τ) arg10 fullShare h ∗ owns (c : Thread nD τ) arg11 fullShare a
        ∗ (iprop(ins c arg2 arg3 arg4 arg5 arg6 arg7 x0 x1 x2 x3 x4 x5 ∗ owns (c : Thread nD τ) arg8 fullShare (k0_pay1 x0 (k0_pay4 h x3 x4 a x5) x2) ∗ owns (c : Thread nD τ) arg10 fullShare h ∗ owns (c : Thread nD τ) arg11 fullShare (k0_pay4 h x3 x4 a x5)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11) K := by
  rw [← show k0_pay5 (F := F) = k0_pay1 from rfl]
  simp only [cc0_ffn_eq_skeleton]; unfold cc0_ffn_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
  sl_exec (disch := first | sl_exact hc0 | sl_exact hc1 | sl_exact hc2)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H6]
  · iexists _; isplitr
    swap; · iexact H6
    ipureintro
    rw [View.read_writes_eq_canon _ _ _ (fun y => View.cover_of_tiledL _ S512x2048.size (by sl_kernel_rfl) y)]
    (try sl_unfold_words)
    rw [View.canon_unit_zero hz]
    simp only [View.readCov_unit_zero (S := S512x2048) _ hz, View.readAt_eq_ld, harg2.read_unread, harg3.read_unread, harg4.read_unread, harg5.read_unread, harg6.read_unread, harg7.read_unread, harg10.read_unread, harg11.read_unread, View.ld_unit_zero (S := S512x2048) hz, View.ld_unit_zero (S := S1x2048) hz, View.ld_unit_zero (S := S2048x512) hz, shapeCast_self]
  isplitl [HS0]
  · iexists _; isplitr; · ipureintro; exact harg10.read_unread _
    iexact HS0
  iexists _; isplitr
  swap; · iexact HS1
  ipureintro
  rw [View.read_writes_eq_canon _ _ _ (fun y => View.cover_of_tiledL _ S512x2048.size (by sl_kernel_rfl) y)]
  (try sl_unfold_words)
  rw [View.canon_unit_zero hz]
  simp only [View.readCov_unit_zero (S := S512x2048) _ hz, View.readAt_eq_ld, harg2.read_unread, harg3.read_unread, harg4.read_unread, harg5.read_unread, harg6.read_unread, harg7.read_unread, harg10.read_unread, harg11.read_unread, View.ld_unit_zero (S := S512x2048) hz, View.ld_unit_zero (S := S1x2048) hz, View.ld_unit_zero (S := S2048x512) hz, shapeCast_self]

set_option maxHeartbeats 4000000 in
/-- in the samples' in the second. -/
theorem body_hi (hc0 : ¬cond0_0 i) (hc1 : ¬cond0_1 i) (hc2 : cond0_2 i) (h : Vec F S512x2048 .bf16) (a : Vec F S512x2048 .f32) (E : Set ℕ) (K : PUnit → sProp 𝕄) :
    iprop(ins c arg2 arg3 arg4 arg5 arg6 arg7 x0 x1 x2 x3 x4 x5 ∗ (∃ d, owns (c : Thread nD τ) arg9 fullShare d) ∗ owns (c : Thread nD τ) arg10 fullShare h ∗ owns (c : Thread nD τ) arg11 fullShare a
        ∗ (iprop(ins c arg2 arg3 arg4 arg5 arg6 arg7 x0 x1 x2 x3 x4 x5 ∗ owns (c : Thread nD τ) arg9 fullShare (k0_pay1 x0 (k0_pay4 h x3 x4 a x5) x2) ∗ owns (c : Thread nD τ) arg10 fullShare h ∗ owns (c : Thread nD τ) arg11 fullShare (k0_pay4 h x3 x4 a x5)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11) K := by
  simp only [cc0_ffn_eq_skeleton]; unfold cc0_ffn_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
  sl_exec (disch := first | sl_exact hc0 | sl_exact hc1 | sl_exact hc2)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H6]
  · iexists _; isplitr
    swap; · iexact H6
    ipureintro
    rw [View.read_writes_eq_canon _ _ _ (fun y => View.cover_of_tiledL _ S512x2048.size (by sl_kernel_rfl) y)]
    (try sl_unfold_words)
    rw [View.canon_unit_zero hz]
    simp only [View.readCov_unit_zero (S := S512x2048) _ hz, View.readAt_eq_ld, harg2.read_unread, harg3.read_unread, harg4.read_unread, harg5.read_unread, harg6.read_unread, harg7.read_unread, harg10.read_unread, harg11.read_unread, View.ld_unit_zero (S := S512x2048) hz, View.ld_unit_zero (S := S1x2048) hz, View.ld_unit_zero (S := S2048x512) hz, shapeCast_self]
  isplitl [HS0]
  · iexists _; isplitr; · ipureintro; exact harg10.read_unread _
    iexact HS0
  iexists _; isplitr
  swap; · iexact HS1
  ipureintro
  rw [View.read_writes_eq_canon _ _ _ (fun y => View.cover_of_tiledL _ S512x2048.size (by sl_kernel_rfl) y)]
  (try sl_unfold_words)
  rw [View.canon_unit_zero hz]
  simp only [View.readCov_unit_zero (S := S512x2048) _ hz, View.readAt_eq_ld, harg2.read_unread, harg3.read_unread, harg4.read_unread, harg5.read_unread, harg6.read_unread, harg7.read_unread, harg10.read_unread, harg11.read_unread, View.ld_unit_zero (S := S512x2048) hz, View.ld_unit_zero (S := S1x2048) hz, View.ld_unit_zero (S := S2048x512) hz, shapeCast_self]

end body

/-! ## What the buffers hold -/

/-- The first chunk's point of a point's tile. -/
def base (t : Fin cfg0.N) : Fin cfg0.N := ⟨t.val / 11 * 11, by have := t.isLt; omega⟩
theorem base_first (t : Fin cfg0.N) (h : t.val % 11 = 0) : base t = t := Fin.ext (by unfold base; dsimp only; omega)
theorem base_succ (n : ℕ) (hn : n + 1 < cfg0.N) (h : ¬(n + 1) % 11 = 0) : base ⟨n, Nat.lt_of_succ_lt hn⟩ = base ⟨n + 1, hn⟩ :=
  Fin.ext (by unfold base; dsimp only; omega)

/-- The tile's normalised rows, -/
def rows (c : Dev nD) (t : Fin cfg0.N) : Vec F S512x2048 .bf16 := k0_pay2 (iblk m c 0 (base t)) (iblk m c 1 (base t))
/-- the terms up to a chunk, -/
def acc (c : Dev nD) : (n : ℕ) → n < cfg0.N → Vec F S512x2048 .f32
  | 0, hn => k0_pay4 (rows m c ⟨0, hn⟩) (iblk m c 3 ⟨0, hn⟩) (iblk m c 4 ⟨0, hn⟩) (k0_pay3 (F := F)) (iblk m c 5 ⟨0, hn⟩)
  | n + 1, hn => k0_pay4 (rows m c ⟨n + 1, hn⟩) (iblk m c 3 ⟨n + 1, hn⟩) (iblk m c 4 ⟨n + 1, hn⟩)
      (if (n + 1) % 11 = 0 then k0_pay3 (F := F) else acc c n (Nat.lt_of_succ_lt hn)) (iblk m c 5 ⟨n + 1, hn⟩)
/-- and the result once they are all there. -/
def out (c : Dev nD) (t : Fin cfg0.N) : Vec F S512x2048 .f32 := k0_pay1 (iblk m c 0 t) (acc m c t.val t.isLt) (iblk m c 2 t)

theorem acc_first (c : Dev nD) (t : Fin cfg0.N) (h : t.val % 11 = 0) :
    acc m c t.val t.isLt = k0_pay4 (rows m c t) (iblk m c 3 t) (iblk m c 4 t) (k0_pay3 (F := F)) (iblk m c 5 t) := by
  obtain ⟨n, hn⟩ := t
  cases n with
  | zero => rfl
  | succ n => exact (congrArg (fun a => k0_pay4 _ _ _ a _) (if_pos h))
theorem acc_next (c : Dev nD) (n : ℕ) (hn : n + 1 < cfg0.N) (h : ¬(n + 1) % 11 = 0) :
    acc m c (n + 1) hn = k0_pay4 (rows m c ⟨n + 1, hn⟩) (iblk m c 3 ⟨n + 1, hn⟩) (iblk m c 4 ⟨n + 1, hn⟩) (acc m c n (Nat.lt_of_succ_lt hn)) (iblk m c 5 ⟨n + 1, hn⟩) :=
  congrArg (fun a => k0_pay4 _ _ _ a _) (if_neg h)

/-- The scratches, holding these. -/
abbrev held (c : Dev nD) (h : Vec F S512x2048 .bf16) (a : Vec F S512x2048 .f32) : sProp 𝕄 :=
  iprop(iprop(owns (c : Thread nD τ) scM0_0 fullShare h ∗ owns (c : Thread nD τ) scM0_1 fullShare a) ∗ (∃ r, prngReg c r))

/-- Between points: the scratches hold what the point before left. -/
def PhiS (c : Dev nD) : (n : ℕ) → n ≤ cfg0.N → sProp 𝕄
  | 0, _ => Pipeline.ΦA spec0 c
  | n + 1, hn => held c (rows m c ⟨n, hn⟩) (acc m c n hn)

theorem PhiS_any (c : Dev nD) (n : ℕ) (h : n ≤ cfg0.N) :
    PhiS m c n h ⊢ iprop(iprop((∃ d, owns (c : Thread nD τ) scM0_0 fullShare d) ∗ (∃ d, owns (c : Thread nD τ) scM0_1 fullShare d)) ∗ (∃ r, prngReg c r)) := by
  cases n with
  | zero => exact Entails.of_eq (PhiA0_eq c)
  | succ n =>
    show held c (rows m c ⟨n, h⟩) (acc m c n h) ⊢ _
    unfold held
    iintro ⟨⟨HS0, HS1⟩, Hg⟩
    isplitl [HS0 HS1]
    · isplitl [HS0]; · iexists _; iexact HS0
      iexists _; iexact HS1
    iexact Hg

theorem PhiS_next (c : Dev nD) (t : Fin cfg0.N) (h : ¬t.val % 11 = 0) : ∃ a,
    PhiS m c t.val (Nat.le_of_lt t.isLt) = held c (rows m c t) a
      ∧ acc m c t.val t.isLt = k0_pay4 (rows m c t) (iblk m c 3 t) (iblk m c 4 t) a (iblk m c 5 t) := by
  obtain ⟨n, hn⟩ := t
  cases n with
  | zero => exact absurd rfl h
  | succ n =>
    refine ⟨acc m c n (Nat.lt_of_succ_lt hn), ?_, acc_next m c n hn h⟩
    show held c (rows m c ⟨n, _⟩) _ = _
    unfold rows; rw [base_succ n hn h]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out m c ⟨min t.val 175, Nat.lt_of_le_of_lt (Nat.min_le_left _ _) t.isLt⟩
    | ⟨7, _⟩ => out m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after6_at (c : Dev nD) (t : Fin cfg0.N) (n : ℕ) (e : min t.val 175 = n) (hn : n < cfg0.N) :
    (dats m 0 c).after 6 t = out m c ⟨n, hn⟩ := by
  subst e; dsimp only [dats]
theorem after6_lo (c : Dev nD) (t : Fin cfg0.N) (h : t.val < 176) : (dats m 0 c).after 6 t = out m c t :=
  after6_at m c t t.val (by omega) t.isLt
theorem after0_7 (c : Dev nD) (t : Fin cfg0.N) : (dats m 0 c).after 7 t = out m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Past its last storing point the first output's buffer still holds what was stored there. -/
theorem before0_6 (c : Dev nD) : ∀ (n : ℕ) (hn : n < cfg0.N) (h : 175 < n) (d), (dats m 0 c).before 6 ⟨n, hn⟩ d
    = out m c ⟨175, Nat.lt_trans h hn⟩
  | 0, _, h, _ => absurd h (by omega)
  | n + 1, hn, h, d => by
    have hN : cfg0.N = 528 := N_0
    rw [Dat.before_of_pos (dats m 0 c) 6 ⟨n + 1, hn⟩ (Nat.succ_ne_zero n) (unread6 _) d]
    show (if (cfg0.win 6).flush ⟨n, Nat.lt_of_succ_lt hn⟩ then d else (dats m 0 c).left 6 ⟨n, Nat.lt_of_succ_lt hn⟩ d) = _
    rw [keep6 ⟨n, Nat.lt_of_succ_lt hn⟩ (by dsimp only; omega) (by dsimp only; omega), if_neg Bool.false_ne_true]
    unfold Dat.left
    by_cases h' : n = 175
    · rw [live6 ⟨n, Nat.lt_of_succ_lt hn⟩ (by dsimp only; omega)]
      exact after6_at m c _ 175 (by dsimp only; omega) _
    · rw [idle6 ⟨n, Nat.lt_of_succ_lt hn⟩ (by dsimp only; omega)]
      exact before0_6 c n (Nat.lt_of_succ_lt hn) (by omega) d
/-- So where it is idle what is found is what is owed, written back or not; -/
theorem leaves6 (c : Dev nD) (t : Fin cfg0.N) (h : ¬(t.val % 11 = 10 ∧ t.val < 176)) (d) :
    (owns (c : Thread nD τ) (ms0_6 t) fullShare ((dats m 0 c).before 6 t d) : sProp 𝕄) ⊢ (dats m 0 c).leavesExact 6 t := by
  unfold Dat.leavesExact
  rw [idle6 t h]
  by_cases hf : t.val = 527
  · have e : (dats m 0 c).before 6 t d = (dats m 0 c).after 6 t :=
      (before0_6 m c t.val t.isLt (by omega) d).trans (after6_at m c t 175 (by omega) _).symm
    cases (cfg0.win 6).flush t
    · iintro H; iexists _; iexact H
    · rw [e]
  · rw [keep6 t (by omega) hf]
    iintro H; iexists _; iexact H
/-- and where the second is idle it is not written back. -/
theorem leaves7 (c : Dev nD) (t : Fin cfg0.N) (h : ¬(t.val % 11 = 10 ∧ 176 ≤ t.val)) (d) :
    (owns (c : Thread nD τ) (ms0_7 t) fullShare ((dats m 0 c).before 7 t d) : sProp 𝕄) ⊢ (dats m 0 c).leavesExact 7 t := by
  unfold Dat.leavesExact
  rw [idle7 t h, keep7 t h]
  iintro H; iexists _; iexact H

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)

/-- A window that is never idle is left at what is owed of it. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = held c (rows m c t) (acc m c t.val t.isLt) from rfl]
  rw [leaves_live m c 0 t rfl, after0_0, leaves_live m c 1 t rfl, after0_1, leaves_live m c 2 t rfl, after0_2,
    leaves_live m c 3 t rfl, after0_3, leaves_live m c 4 t rfl, after0_4, leaves_live m c 5 t rfl, after0_5, PhiS_castSucc m c t]
  unfold held
  by_cases h0 : t.val % 11 = 0
  · rw [acc_first m c t h0]
    unfold rows
    rw [base_first t h0]
    refine (sep_mono (PhiS_any m c _ _) (.refl _)).trans ?_
    show iprop(iprop(iprop((∃ d, owns (c : Thread nD τ) scM0_0 fullShare d) ∗ (∃ d, owns (c : Thread nD τ) scM0_1 fullShare d)) ∗ (∃ r, prngReg c r)) ∗ _) ⊢ _
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) _ _ _ _ _ _ _ _ _ _ _ _ _ _ _ _ _ _ _ _ (iblk m c 0 t) (iblk m c 1 t) (iblk m c 2 t) (iblk m c 3 t) (iblk m c 4 t) (iblk m c 5 t) ((hcond0_0 t).mpr h0) (fun h => absurd ((hcond0_1 t).mp h) (by omega)) (fun h => absurd ((hcond0_2 t).mp h) (by omega)) Set.univ _)
    isplitl [H0 H1 H2 H3 H4 H5]
    · unfold ins
      isplitl [H0]; · iexact H0
      isplitl [H1]; · iexact H1
      isplitl [H2]; · iexact H2
      isplitl [H3]; · iexact H3
      isplitl [H4]; · iexact H4
      iexact H5
    isplitl [HS0]; · iexact HS0
    isplitl [HS1]; · iexact HS1
    unfold ins
    iintro ⟨⟨H0, H1, H2, H3, H4, H5⟩, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves6 m c t (by omega) d6); iexact H6
    iapply (leaves7 m c t (by omega) d7); iexact H7
  obtain ⟨a, hp, ha⟩ := PhiS_next m c t h0
  rw [hp, ha]
  by_cases h1 : t.val % 11 = 10 ∧ t.val < 176
  · rw [leaves_live m c 6 t (live6 t h1), after6_lo m c t h1.2]
    unfold out
    rw [ha]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_lo c (grid0.coords t) _ _ _ _ _ _ _ _ _ _ _ _ _ _ _ _ _ _ _ _ (iblk m c 0 t) (iblk m c 1 t) (iblk m c 2 t) (iblk m c 3 t) (iblk m c 4 t) (iblk m c 5 t) (fun h => h0 ((hcond0_0 t).mp h)) ((hcond0_1 t).mpr h1) (fun h => absurd ((hcond0_2 t).mp h) (by omega)) (rows m c t) a Set.univ _)
    isplitl [H0 H1 H2 H3 H4 H5]
    · unfold ins
      isplitl [H0]; · iexact H0
      isplitl [H1]; · iexact H1
      isplitl [H2]; · iexact H2
      isplitl [H3]; · iexact H3
      isplitl [H4]; · iexact H4
      iexact H5
    isplitl [H6]; · iexists _; iexact H6
    isplitl [HS0]; · iexact HS0
    isplitl [HS1]; · iexact HS1
    unfold ins
    iintro ⟨⟨H0, H1, H2, H3, H4, H5⟩, H6, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves7 m c t (by omega) d7); iexact H7
  by_cases h2 : t.val % 11 = 10 ∧ 176 ≤ t.val
  · rw [leaves_live m c 7 t (live7 t h2), after0_7]
    unfold out
    rw [ha]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_hi c (grid0.coords t) _ _ _ _ _ _ _ _ _ _ _ _ _ _ _ _ _ _ _ _ (iblk m c 0 t) (iblk m c 1 t) (iblk m c 2 t) (iblk m c 3 t) (iblk m c 4 t) (iblk m c 5 t) (fun h => h0 ((hcond0_0 t).mp h)) (fun h => absurd ((hcond0_1 t).mp h) (by omega)) ((hcond0_2 t).mpr h2) (rows m c t) a Set.univ _)
    isplitl [H0 H1 H2 H3 H4 H5]
    · unfold ins
      isplitl [H0]; · iexact H0
      isplitl [H1]; · iexact H1
      isplitl [H2]; · iexact H2
      isplitl [H3]; · iexact H3
      isplitl [H4]; · iexact H4
      iexact H5
    isplitl [H7]; · iexists _; iexact H7
    isplitl [HS0]; · iexact HS0
    isplitl [HS1]; · iexact HS1
    unfold ins
    iintro ⟨⟨H0, H1, H2, H3, H4, H5⟩, H7, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves6 m c t (by omega) d6); iexact H6
    iexact H7
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_mid c (grid0.coords t) _ _ _ _ _ _ _ _ _ _ _ _ _ _ _ _ _ _ _ _ (iblk m c 0 t) (iblk m c 1 t) (iblk m c 2 t) (iblk m c 3 t) (iblk m c 4 t) (iblk m c 5 t) (fun h => h0 ((hcond0_0 t).mp h)) (fun h => absurd ((hcond0_1 t).mp h) (by omega)) (fun h => absurd ((hcond0_2 t).mp h) (by omega)) (rows m c t) a Set.univ _)
    isplitl [H0 H1 H2 H3 H4 H5]
    · unfold ins
      isplitl [H0]; · iexact H0
      isplitl [H1]; · iexact H1
      isplitl [H2]; · iexact H2
      isplitl [H3]; · iexact H3
      isplitl [H4]; · iexact H4
      iexact H5
    isplitl [HS0]; · iexact HS0
    isplitl [HS1]; · iexact HS1
    unfold ins
    iintro ⟨⟨H0, H1, H2, H3, H4, H5⟩, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves6 m c t (by omega) d6); iexact H6
    iapply (leaves7 m c t (by omega) d7); iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _
theorem hout (c : Dev nD) : (dats m 0 c).Φ (Fin.last cfg0.N) ⊢ Pipeline.ΦA spec0 c := by
  rw [PhiA0_eq, show (dats m 0 c).Φ (Fin.last cfg0.N) = PhiS m c cfg0.N (Nat.le_refl _) from rfl]; exact PhiS_any m c _ _

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel2Ideal.Whole

end
-- ==== Proof.Ffn2.Val.lean ====
/- The second feed-forward kernel's scratches and results, tile by tile and chunk by chunk. -/
module

public import proofs.«01_k».proof.Proof.Ffn2.Ideal.Frame
public import proofs.«01_k».proof.Proof.Ffn.Math
public import Idealize.ShloMosaic.Lib.Pipeline.Value
public import Idealize.ShloMosaic.Lib.Pipeline.ValueKit

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Cert.Kernel2Ideal.Whole Cert.Proof.Ffn

/-! ## The payloads at a row and a column -/

theorem pre_at (x : Vec Ideal S512x2048 .f32) (g : Vec Ideal S1x2048 .f32) (r : Fin 512) (q : Fin 2048) :
    k0_pay2 x g (ix2 r q) = nrm (fun q => x (ix2 r q)) (fun q => g (ix2 0 q)) q := by
  pointwise [k0_pay2]
  rfl

theorem zero_at (r : Fin 512) (q : Fin 2048) : k0_pay3 (F := Ideal) (ix2 r q) = 0 := by
  pointwise [k0_pay3]

theorem chunk_at (h : Vec Ideal S512x2048 .bf16) (wg wu : Vec Ideal S2048x512 .bf16) (a : Vec Ideal S512x2048 .f32)
    (wd : Vec Ideal S512x2048 .bf16) (r : Fin 512) (q : Fin 2048) :
    k0_pay4 h wg wu a wd (ix2 r q) = a (ix2 r q) + ∑ j : Fin 512,
      ((∑ k, h (ix2 r k) * wg (ix2 k j)) * Ideal.logistic (∑ k, h (ix2 r k) * wg (ix2 k j)) * ∑ k, h (ix2 r k) * wu (ix2 k j))
        * wd (ix2 j q) := by
  pointwise [k0_pay4]

theorem join_at (x a : Vec Ideal S512x2048 .f32) (g : Vec Ideal S1x2048 .f32) (r : Fin 512) (q : Fin 2048) :
    k0_pay1 x a g (ix2 r q) = join (fun q => x (ix2 r q)) (fun q => a (ix2 r q)) (fun q => g (ix2 0 q)) q := by
  pointwise [k0_pay1]
  exact join_eq (fun q => x (ix2 r q)) (fun q => a (ix2 r q)) (fun q => g (ix2 0 q)) q

variable (m : (ℓ : Loc nD τ sig) → Buf (Elt Ideal) ℓ) (c : Dev nD)

theorem lt_N (t : Fin cfg0.N) : t.val < 528 := lt_of_lt_of_eq t.isLt N_0
theorem base_div (t : Fin cfg0.N) : (base t).val / 11 = t.val / 11 := by unfold base; dsimp only; omega

/-! ## The blocks, from the arrays -/

theorem ix_0 : ∀ t : Fin cfg0.N, win0_0.index t = ![t.val / 11, 0] := by decide +kernel
theorem ix_1 : ∀ t : Fin cfg0.N, win0_1.index t = ![0, 0] := by decide +kernel
theorem ix_2 : ∀ t : Fin cfg0.N, win0_2.index t = ![0, 0] := by decide +kernel
theorem ix_3 : ∀ t : Fin cfg0.N, win0_3.index t = ![0, t.val % 11] := by decide +kernel
theorem ix_4 : ∀ t : Fin cfg0.N, win0_4.index t = ![0, t.val % 11] := by decide +kernel
theorem ix_5 : ∀ t : Fin cfg0.N, win0_5.index t = ![t.val % 11, 0] := by decide +kernel
theorem ix_6 : ∀ t : Fin cfg0.N, win0_6.index t = ![min (t.val / 11) 15, 0] := by decide +kernel
theorem ix_7 : ∀ t : Fin cfg0.N, win0_7.index t = ![t.val / 11 - 16, 0] := by decide +kernel

variable (X : Vec Ideal S24576x2048 .f32) (g g' : Vec Ideal S1x2048 .f32)
  (wg wu : Vec Ideal S2048x5632 .bf16) (wd : Vec Ideal S5632x2048 .bf16)
  (h0 : m (c.tc.loc main_arg0) = X) (h1 : m (c.tc.loc main_arg1) = g)
  (h2 : m (c.tc.loc main_arg2) = g') (h3 : m (c.tc.loc main_arg3) = wg) (h4 : m (c.tc.loc main_arg4) = wu)
  (h5 : m (c.tc.loc main_arg5) = wd)

/-- A row of the argument. -/
def row (R : ℕ) (hR : R < 24576) (q : Fin 2048) : EReal := X (ix2 ⟨R, hR⟩ q)

include h0 in
theorem xb_at (t : Fin cfg0.N) (r : Fin 512) (q : Fin 2048) :
    (iblk m c 0 t : Vec Ideal S512x2048 .f32) (ix2 r q) = row X (512 * (t.val / 11) + r.val) (by have := lt_N t; omega) q := by
  subst h0
  show m (c.tc.loc main_arg0) _ = _
  refine congrArg _ (funext fun a => Fin.ext ?_)
  blk_simp [ix_0]
  fin_cases a
  · show t.val / 11 * 512 + r.val = 512 * (t.val / 11) + r.val
    omega
  · show 0 * 2048 + q.val = q.val
    omega

include h1 in
theorem pre_g (t : Fin cfg0.N) (q : Fin 2048) : (iblk m c 1 t : Vec Ideal S1x2048 .f32) (ix2 0 q) = g (ix2 0 q) := by
  subst h1
  show m (c.tc.loc main_arg1) _ = _
  refine congrArg _ (funext fun a => Fin.ext ?_)
  blk_simp [ix_1]
  fin_cases a
  · rfl
  · show 0 * 2048 + q.val = q.val
    omega

include h2 in
theorem post_g (t : Fin cfg0.N) (q : Fin 2048) : (iblk m c 2 t : Vec Ideal S1x2048 .f32) (ix2 0 q) = g' (ix2 0 q) := by
  subst h2
  show m (c.tc.loc main_arg2) _ = _
  refine congrArg _ (funext fun a => Fin.ext ?_)
  blk_simp [ix_2]
  fin_cases a
  · rfl
  · show 0 * 2048 + q.val = q.val
    omega

include h3 in
theorem gate (t : Fin cfg0.N) (k : Fin 2048) (j : Fin 512) :
    (iblk m c 3 t : Vec Ideal S2048x512 .bf16) (ix2 k j) = wg (ix2 k ⟨512 * (t.val % 11) + j.val, by omega⟩) := by
  subst h3
  show m (c.tc.loc main_arg3) _ = _
  refine congrArg _ (funext fun a => Fin.ext ?_)
  blk_simp [ix_3]
  fin_cases a
  · show 0 * 2048 + k.val = k.val
    omega
  · show t.val % 11 * 512 + j.val = 512 * (t.val % 11) + j.val
    omega

include h4 in
theorem up (t : Fin cfg0.N) (k : Fin 2048) (j : Fin 512) :
    (iblk m c 4 t : Vec Ideal S2048x512 .bf16) (ix2 k j) = wu (ix2 k ⟨512 * (t.val % 11) + j.val, by omega⟩) := by
  subst h4
  show m (c.tc.loc main_arg4) _ = _
  refine congrArg _ (funext fun a => Fin.ext ?_)
  blk_simp [ix_4]
  fin_cases a
  · show 0 * 2048 + k.val = k.val
    omega
  · show t.val % 11 * 512 + j.val = 512 * (t.val % 11) + j.val
    omega

include h5 in
theorem down (t : Fin cfg0.N) (j : Fin 512) (q : Fin 2048) :
    (iblk m c 5 t : Vec Ideal S512x2048 .bf16) (ix2 j q) = wd (ix2 ⟨512 * (t.val % 11) + j.val, by omega⟩ q) := by
  subst h5
  show m (c.tc.loc main_arg5) _ = _
  refine congrArg _ (funext fun a => Fin.ext ?_)
  blk_simp [ix_5]
  fin_cases a
  · show t.val % 11 * 512 + j.val = 512 * (t.val % 11) + j.val
    omega
  · show 0 * 2048 + q.val = q.val
    omega

/-! ## The scratches -/

/-- The normalised row, -/
abbrev hRow (R : ℕ) (hR : R < 24576) : Row := nrm (row X R hR) (fun q => g (ix2 0 q))

/-- and its terms in a column. -/
abbrev terms (R : ℕ) (hR : R < 24576) (q : Fin 2048) : Fin 5632 → EReal :=
  term (hRow X g R hR) (fun k j => wg (ix2 k j)) (fun k j => wu (ix2 k j)) (fun j q => wd (ix2 j q)) q

include h3 h4 h5 in
/-- One chunk's terms. -/
theorem chunk_terms (t : Fin cfg0.N) (R : ℕ) (hR : R < 24576) (h : Vec Ideal S512x2048 .bf16) (a : Vec Ideal S512x2048 .f32)
    (r : Fin 512) (q : Fin 2048) (hh : ∀ k, h (ix2 r k) = hRow X g R hR k)
    (ha : a (ix2 r q) = part (terms X g wg wu wd R hR q) (t.val % 11)) :
    k0_pay4 h (iblk m c 3 t) (iblk m c 4 t) a (iblk m c 5 t) (ix2 r q)
      = part (terms X g wg wu wd R hR q) (t.val % 11 + 1) := by
  rw [chunk_at, part_succ _ _ (Nat.mod_lt _ (by decide)), ha]
  congr 1
  refine Finset.sum_congr rfl fun j _ => ?_
  simp only [hh, gate m c wg h3 t, up m c wu h4 t, down m c wd h5 t]
  rfl

include h0 h1 in
/-- The first scratch holds the tile's normalised rows, -/
theorem rows_at (i : ℕ) (hi : i < 48) (t : Fin cfg0.N) (e : t.val / 11 = i) (r : Fin 512) (q : Fin 2048) :
    rows m c t (ix2 r q) = hRow X g (512 * i + r.val) (by omega) q := by
  subst e
  unfold rows
  rw [pre_at]
  simp only [pre_g m c g h1, xb_at m c X h0, base_div]

include h0 h1 h3 h4 h5 in
/-- the second the terms up to the chunk. -/
theorem acc_at (i : ℕ) (hi : i < 48) (f : ℕ) (hf : f < 11) (hn : 11 * i + f < cfg0.N) (r : Fin 512) (q : Fin 2048) :
    acc m c (11 * i + f) hn (ix2 r q) = part (terms X g wg wu wd (512 * i + r.val) (by omega) q) (f + 1) := by
  induction f with
  | zero =>
    have e : (⟨11 * i, hn⟩ : Fin cfg0.N).val % 11 = 0 := by show 11 * i % 11 = 0; omega
    refine (congrFun (acc_first m c ⟨11 * i, hn⟩ e) _).trans ?_
    have := chunk_terms m c X g wg wu wd h3 h4 h5 ⟨11 * i, hn⟩ (512 * i + r.val) (by omega) _ (k0_pay3 (F := Ideal)) r q
      (rows_at m c X g h0 h1 i hi ⟨11 * i, hn⟩ (by show 11 * i / 11 = i; omega) r) (by rw [e, part_zero, zero_at])
    rwa [e] at this
  | succ f ih =>
    have e : (⟨11 * i + f + 1, hn⟩ : Fin cfg0.N).val % 11 = f + 1 := by show (11 * i + f + 1) % 11 = f + 1; omega
    refine (congrFun (acc_next m c (11 * i + f) hn (by omega)) _).trans ?_
    have := chunk_terms m c X g wg wu wd h3 h4 h5 ⟨11 * i + f + 1, hn⟩ (512 * i + r.val) (by omega) _ _ r q
      (rows_at m c X g h0 h1 i hi ⟨11 * i + f + 1, hn⟩ (by show (11 * i + f + 1) / 11 = i; omega) r) (by rw [e]; exact ih (by omega) (Nat.lt_of_succ_lt hn))
    rwa [e] at this

/-- A row of the result. -/
abbrev outRow (R : ℕ) (hR : R < 24576) : Row :=
  half (row X R hR) (fun q => g (ix2 0 q)) (fun q => g' (ix2 0 q)) (fun k j => wg (ix2 k j)) (fun k j => wu (ix2 k j)) (fun j q => wd (ix2 j q))

include h0 h1 h2 h3 h4 h5 in
/-- What the last chunk's point stores. -/
theorem stored (i : ℕ) (hi : i < 48) (hn : 11 * i + 10 < cfg0.N) (r : Fin 512) (q : Fin 2048) :
    out m c ⟨11 * i + 10, hn⟩ (ix2 r q) = outRow X g g' wg wu wd (512 * i + r.val) (by omega) q := by
  unfold out
  rw [join_at]
  simp only [post_g m c g' h2, xb_at m c X h0, acc_at m c X g wg wu wd h0 h1 h3 h4 h5 i hi 10 (by omega) hn r]
  have e : (11 * i + 10) / 11 = i := by omega
  simp only [e, part_all]
  rfl

/-! ## The results -/

theorem flush_6 : ∀ t : Fin cfg0.N, (cfg0.win 6).flush t = true → (t.val % 11 = 10 ∧ t.val / 11 < 15) ∨ t.val = 527 := by decide +kernel
theorem flush_7 : ∀ t : Fin cfg0.N, (cfg0.win 7).flush t = true → t.val % 11 = 10 ∧ ¬t.val / 11 < 16 := by decide +kernel

/-- The prompt's result, of the arguments, -/
def result6 : Vec Ideal S8192x2048 .f32 := fun i => outRow X g g' wg wu wd (i (0 : Fin 2)).val (Nat.lt_trans (i (0 : Fin 2)).isLt (by decide)) (i (1 : Fin 2))

/-- and the samples'. -/
def result7 : Vec Ideal S16384x2048 .f32 := fun i => outRow X g g' wg wu wd (8192 + (i (0 : Fin 2)).val) (Nat.add_lt_add_left (i (0 : Fin 2)).isLt 8192) (i (1 : Fin 2))

theorem emb6 (t : Fin cfg0.N) (r : Fin 512) (q : Fin 2048) :
    (win0_6.blk t).view.emb (ix2 r q) = (ix2 ⟨512 * min (t.val / 11) 15 + r.val, by omega⟩ q : S8192x2048.Idx) := by
  refine funext fun a => Fin.ext ?_
  blk_simp [ix_6]
  fin_cases a
  · show min (t.val / 11) 15 * 512 + r.val = 512 * min (t.val / 11) 15 + r.val
    omega
  · show 0 * 2048 + q.val = q.val
    omega

theorem emb7 (t : Fin cfg0.N) (r : Fin 512) (q : Fin 2048) :
    (win0_7.blk t).view.emb (ix2 r q) = (ix2 ⟨512 * (t.val / 11 - 16) + r.val, by have := lt_N t; omega⟩ q : S16384x2048.Idx) := by
  refine funext fun a => Fin.ext ?_
  blk_simp [ix_7]
  fin_cases a
  · show (t.val / 11 - 16) * 512 + r.val = 512 * (t.val / 11 - 16) + r.val
    omega
  · show 0 * 2048 + q.val = q.val
    omega

theorem outRow_congr {R R' : ℕ} (hR : R < 24576) (hR' : R' < 24576) (e : R = R') (q : Fin 2048) :
    outRow X g g' wg wu wd R hR q = outRow X g g' wg wu wd R' hR' q := by subst e; rfl

include h0 h1 h2 h3 h4 h5 in
/-- The prompt's array after the run. -/
theorem arr6 : (dats m 0 c).arrAt 6 cfg0.N = result6 X g g' wg wu wd := by
  refine (dats m 0 c).arrAt_eq_of_covers 6 _ (by decide +kernel) fun t hf y => ?_
  have hm := flush_6 t hf
  have hN := lt_N t
  have hN' : cfg0.N = 528 := N_0
  blk_simp
  revert y
  intro (y : S512x2048.Idx)
  obtain ⟨r, q, rfl⟩ : ∃ (r : Fin 512) (q : Fin 2048), y = ix2 r q := ⟨y 0, y 1, by
    funext a; fin_cases a <;> rfl⟩
  refine Eq.trans ?_ (congrArg (result6 X g g' wg wu wd) (emb6 t r q)).symm
  have hn : 11 * min (t.val / 11) 15 + 10 < cfg0.N := by omega
  rw [after6_at m c t (11 * min (t.val / 11) 15 + 10) (by omega) hn]
  refine (stored m c X g g' wg wu wd h0 h1 h2 h3 h4 h5 (min (t.val / 11) 15) (by omega) hn r q).trans ?_
  rfl

include h0 h1 h2 h3 h4 h5 in
/-- The samples' array after the run. -/
theorem arr7 : (dats m 0 c).arrAt 7 cfg0.N = result7 X g g' wg wu wd := by
  refine (dats m 0 c).arrAt_eq_of_covers 7 _ (by decide +kernel) fun t hf y => ?_
  obtain ⟨hm, hi'⟩ := flush_7 t hf
  have hN := lt_N t
  blk_simp
  rw [after0_7]
  revert y
  intro (y : S512x2048.Idx)
  obtain ⟨r, q, rfl⟩ : ∃ (r : Fin 512) (q : Fin 2048), y = ix2 r q := ⟨y 0, y 1, by
    funext a; fin_cases a <;> rfl⟩
  refine Eq.trans ?_ (congrArg (result7 X g g' wg wu wd) (emb7 t r q)).symm
  obtain ⟨n, hn⟩ := t
  obtain ⟨i, rfl⟩ : ∃ i, n = 11 * i + 10 := ⟨n / 11, by dsimp only at hm; omega⟩
  refine (stored m c X g g' wg wu wd h0 h1 h2 h3 h4 h5 i (by dsimp only at hN; omega) hn r q).trans ?_
  dsimp only at hi'
  exact outRow_congr X g g' wg wu wd _ _ (show 512 * i + r.val = 8192 + (512 * ((11 * i + 10) / 11 - 16) + r.val) by omega) q

end Cert.Kernel2Ideal.Ffn

end
-- ==== Proof.Ffn2.Ref.lean ====
/- The plain feed-forward half step, read at a row and a column. -/
module

public import proofs.«01_k».proof.Proof.Gen.Reference2Ideal.Run
public import proofs.«01_k».proof.Proof.Ffn.Math

@[expose] public section

noncomputable section

namespace Cert.Reference2Ideal.Ffn

open Idealize.ShloMosaic Idealize.ShloMosaic.TcCoe Idealize.SL.Sem
open Cert.Reference2Ideal Cert.Reference2Ideal.Gen Cert.Proof.Ffn

/-- The normalisation of every row. -/
def rmsR (x : Vec Ideal S24576x2048 .f32) (g : Vec Ideal S1x2048 .f32) : Vec Ideal S24576x2048 .f32 :=
  mulf (mulf x (broadcastInDim S24576x2048 ![0, 1] bcast_S24576x1_S24576x2048_0_1 (Host.rsqrt (addf (Host.divf (broadcastInDim S24576x1 ![0] bcast_S24576_S24576x1_0 (Host.reduceAdd (mulf x x) (constant (F := Ideal) S_ .f32 0x00000000#32) reducesTo_S24576x2048_S24576_d1 h_S_)) (broadcastInDim S24576x1 ![] bcast_S_S24576x1 (constant (F := Ideal) S_ .f32 0x45000000#32))) (broadcastInDim S24576x1 ![] bcast_S_S24576x1 (constant (F := Ideal) S_ .f32 0x358637BD#32)))))) (broadcastInDim S24576x2048 ![0, 1] bcast_S1x2048_S24576x2048_0_1 (broadcastInDim S1x2048 ![1] bcast_S2048_S1x2048_1 (shapeCast _ g shapeCasts_S1x2048_S2048)))

theorem rmsR_at (x : Vec Ideal S24576x2048 .f32) (g : Vec Ideal S1x2048 .f32) (r : Fin 24576) (q : Fin 2048) :
    rmsR x g (ix2 r q) = nrm (fun q => x (ix2 r q)) (fun q => g (ix2 0 q)) q := by
  pointwise [rmsR]
  rfl

/-- The gated hidden layer of every row. -/
def actR (h : Vec Ideal S24576x2048 .f32) (wg wu : Vec Ideal S2048x5632 .f32) : Vec Ideal S24576x5632 .f32 :=
  mulf (mulf (Host.dotGeneral (φ₁ := .f32) (φ₂ := .f32) dot_S24576x2048_S2048x5632_S24576x5632_1_0_0_1_n_n none h wg)
   (Host.divf (broadcastInDim S24576x5632 ![] bcast_S_S24576x5632 (constant (F := Ideal) S_ .f32 0x3F800000#32)) (addf (broadcastInDim S24576x5632 ![] bcast_S_S24576x5632 (constant (F := Ideal) S_ .f32 0x3F800000#32)) (Host.exp (Host.negf (F := Ideal) (Host.dotGeneral (F := Ideal) (φ₁ := .f32) (φ₂ := .f32) dot_S24576x2048_S2048x5632_S24576x5632_1_0_0_1_n_n none h wg))))))
   (Host.dotGeneral (φ₁ := .f32) (φ₂ := .f32) dot_S24576x2048_S2048x5632_S24576x5632_1_0_0_1_n_n none h wu)

theorem actR_at (h : Vec Ideal S24576x2048 .f32) (wg wu : Vec Ideal S2048x5632 .f32) (r : Fin 24576) (j : Fin 5632) :
    actR h wg wu (ix2 r j) = act (fun q => h (ix2 r q)) (fun k j => wg (ix2 k j)) (fun k j => wu (ix2 k j)) j := by
  pointwise [actR]
  rfl

/-- The half step of every row. -/
def resR (x : Vec Ideal S24576x2048 .f32) (g g' : Vec Ideal S1x2048 .f32) (wg wu : Vec Ideal S2048x5632 .bf16) (wd : Vec Ideal S5632x2048 .bf16) : Vec Ideal S24576x2048 .f32 :=
  addf x (mulf (broadcastInDim S24576x2048 ![] bcast_S_S24576x2048 (constant (F := Ideal) S_ .f32 0x3F000000#32))
    (rmsR (Host.dotGeneral (F := Ideal) (φ₁ := .f32) (φ₂ := .f32) dot_S24576x5632_S5632x2048_S24576x2048_1_0_0_1_n_n none (actR (rmsR x g) (extf (F := Ideal) .f32 wg bitsLt_bf16_f32) (extf (F := Ideal) .f32 wu bitsLt_bf16_f32)) (extf (F := Ideal) .f32 wd bitsLt_bf16_f32)) g'))

theorem resR_at (x : Vec Ideal S24576x2048 .f32) (g g' : Vec Ideal S1x2048 .f32) (wg wu : Vec Ideal S2048x5632 .bf16)
    (wd : Vec Ideal S5632x2048 .bf16) (r : Fin 24576) (q : Fin 2048) :
    resR x g g' wg wu wd (ix2 r q) = half (fun q => x (ix2 r q)) (fun q => g (ix2 0 q)) (fun q => g' (ix2 0 q))
      (fun k j => wg (ix2 k j)) (fun k j => wu (ix2 k j)) (fun j q => wd (ix2 j q)) q := by
  pointwise [resR, rmsR_at, actR_at]
  rfl

theorem res0_eq (m : (ℓ : Loc nD τ sig) → Buf (Elt Ideal) ℓ) (c : Dev nD) :
    Cert.Reference2Ideal.Value.res_main_v39 m c = extractStridedSlice S8192x2048 ![0, 0] (resR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) slices_S24576x2048_S8192x2048_0_0 := by
  unfold Cert.Reference2Ideal.Value.res_main_v39
  rfl

theorem res1_eq (m : (ℓ : Loc nD τ sig) → Buf (Elt Ideal) ℓ) (c : Dev nD) :
    Cert.Reference2Ideal.Value.res_main_v40 m c = extractStridedSlice S16384x2048 ![8192, 0] (resR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) slices_S24576x2048_S16384x2048_8192_0 := by
  unfold Cert.Reference2Ideal.Value.res_main_v40
  rfl

theorem lo_at (Y : Vec Ideal S24576x2048 .f32) (r : Fin 8192) (q : Fin 2048) :
    extractStridedSlice S8192x2048 ![0, 0] Y slices_S24576x2048_S8192x2048_0_0 (ix2 r q) = Y (ix2 ⟨r.val, by omega⟩ q) := by
  pointwise []

theorem hi_at (Y : Vec Ideal S24576x2048 .f32) (r : Fin 16384) (q : Fin 2048) :
    extractStridedSlice S16384x2048 ![8192, 0] Y slices_S24576x2048_S16384x2048_8192_0 (ix2 r q) = Y (ix2 ⟨8192 + r.val, by omega⟩ q) := by
  pointwise []

end Cert.Reference2Ideal.Ffn

end
-- ==== Proof.Ffn2.Tie.lean ====
/- The second feed-forward half step: the kernel against the plain reference. -/
module

public import proofs.«01_k».proof.Defs
public import proofs.«01_k».proof.Proof.Ffn2.Val
public import proofs.«01_k».proof.Proof.Ffn2.Ref
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The two results of each kind are one function of the arguments. -/
theorem ffn2_lo (X : Vec Ideal Cert.Kernel2Ideal.S24576x2048 .f32) (g g' : Vec Ideal Cert.Kernel2Ideal.S1x2048 .f32)
    (wg wu : Vec Ideal Cert.Kernel2Ideal.S2048x5632 .bf16) (wd : Vec Ideal Cert.Kernel2Ideal.S5632x2048 .bf16) :
    extractStridedSlice Cert.Reference2Ideal.S8192x2048 ![0, 0] (Cert.Reference2Ideal.Ffn.resR X g g' wg wu wd)
      Cert.Reference2Ideal.Gen.slices_S24576x2048_S8192x2048_0_0 = Cert.Kernel2Ideal.Ffn.result6 X g g' wg wu wd := by
  funext (y : Cert.Kernel2Ideal.S8192x2048.Idx)
  obtain ⟨r, q, rfl⟩ : ∃ (r : Fin 8192) (q : Fin 2048), y = ix2 r q := ⟨y 0, y 1, by
    funext a; fin_cases a <;> rfl⟩
  exact (Cert.Reference2Ideal.Ffn.lo_at _ r q).trans (Cert.Reference2Ideal.Ffn.resR_at X g g' wg wu wd _ q)

theorem ffn2_hi (X : Vec Ideal Cert.Kernel2Ideal.S24576x2048 .f32) (g g' : Vec Ideal Cert.Kernel2Ideal.S1x2048 .f32)
    (wg wu : Vec Ideal Cert.Kernel2Ideal.S2048x5632 .bf16) (wd : Vec Ideal Cert.Kernel2Ideal.S5632x2048 .bf16) :
    extractStridedSlice Cert.Reference2Ideal.S16384x2048 ![8192, 0] (Cert.Reference2Ideal.Ffn.resR X g g' wg wu wd)
      Cert.Reference2Ideal.Gen.slices_S24576x2048_S16384x2048_8192_0 = Cert.Kernel2Ideal.Ffn.result7 X g g' wg wu wd := by
  funext (y : Cert.Kernel2Ideal.S16384x2048.Idx)
  obtain ⟨r, q, rfl⟩ : ∃ (r : Fin 16384) (q : Fin 2048), y = ix2 r q := ⟨y 0, y 1, by
    funext a; fin_cases a <;> rfl⟩
  exact (Cert.Reference2Ideal.Ffn.hi_at _ r q).trans (Cert.Reference2Ideal.Ffn.resR_at X g g' wg wu wd _ q)

theorem ffn2_reference :
    Cert.quiescent_Reference2Ideal (hReference2Ideal := Cert.Reference2Ideal.Gen.facts) := fun m g _ =>
  (θ_run Cert.Reference2Ideal.defs _ _).mono (fun r h => ⟨fun c => (h c).2.2, sem_eq_zero_of_no_sems (by decide) _⟩) (Cert.Reference2Ideal.Value.run m g)

theorem ffn2_algebraic : Cert.algebraic_Kernel2Ideal_Reference2Ideal (hKernel2Ideal := Cert.Kernel2Ideal.Gen.facts)
    (hReference2Ideal := Cert.Reference2Ideal.Gen.facts) := fun m g m' g' _ hm =>
  ⟨fun c => Cert.Kernel2Ideal.Ffn.result6 (m (c.tc.loc Cert.Kernel2Ideal.main_arg0)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)),
    fun c => Cert.Kernel2Ideal.Ffn.result7 (m (c.tc.loc Cert.Kernel2Ideal.main_arg0)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)),
    (θ_run Cert.Kernel2Ideal.defs _ _).mono (fun r h c =>
      ⟨((h.1 c).1 6).trans (Cert.Kernel2Ideal.Ffn.arr6 m c _ _ _ _ _ _ rfl rfl rfl rfl rfl rfl),
        ((h.1 c).1 7).trans (Cert.Kernel2Ideal.Ffn.arr7 m c _ _ _ _ _ _ rfl rfl rfl rfl rfl rfl), h.2 c⟩)
      (θ_run_and (Cert.Kernel2Ideal.Whole.run_main m g) (Cert.Kernel2Ideal.Whole.unchanged m g)),
    (θ_run Cert.Reference2Ideal.defs _ _).mono (fun r h c => ⟨(h c).1.trans (by
        obtain ⟨a0, a1, a2, a3, a4, a5⟩ := hm c
        refine (Cert.Reference2Ideal.Ffn.res0_eq m' c).trans ?_
        rw [a0, a1, a2, a3, a4, a5]
        exact ffn2_lo _ _ _ _ _ _), (h c).2.1.trans (by
        obtain ⟨a0, a1, a2, a3, a4, a5⟩ := hm c
        refine (Cert.Reference2Ideal.Ffn.res1_eq m' c).trans ?_
        rw [a0, a1, a2, a3, a4, a5]
        exact ffn2_hi _ _ _ _ _ _), (h c).2.2⟩)
      (Cert.Reference2Ideal.Value.run m' g')⟩

end Cert.Proof

end
-- ==== Proof.Outproj.Math.lean ====
/- One row of the output product over the extended reals. -/
module

public import proofs.«01_k».proof.Proof.Ffn.Math

@[expose] public section

noncomputable section

namespace Cert.Proof.Out

open Idealize.ShloMosaic Cert.Proof.Ffn

/-- The product of the two mixers' rows with the halves of the output matrix. -/
def lin2 (a l : Fin 1024 → EReal) (w : Fin 2048 → Row) (q : Fin 2048) : EReal :=
  (∑ k : Fin 1024, a k * w ⟨k.val, by omega⟩ q) + ∑ k : Fin 1024, l k * w ⟨1024 + k.val, by omega⟩ q

/-- A row of the result. -/
def outRow (a l : Fin 1024 → EReal) (w : Fin 2048 → Row) (x g : Row) : Row := fun q => x q + nrm (lin2 a l w) g q

end Cert.Proof.Out

end
-- ==== Proof.Outproj.Val.lean ====
/- The output product's kernel: what each tile stores, and the whole result. -/
module

public import proofs.«01_k».proof.Proof.Gen.Kernel5Ideal.Frame
public import proofs.«01_k».proof.Proof.Outproj.Math
public import Idealize.ShloMosaic.Lib.Pipeline.Value
public import Idealize.ShloMosaic.Lib.Pipeline.ValueKit

@[expose] public section

set_option maxRecDepth 16384

noncomputable section

namespace Cert.Kernel5Ideal.Out

open Idealize.ShloMosaic Idealize.ShloMosaic.TcCoe Idealize.SL.Sem
open Cert.Kernel5Ideal Cert.Kernel5Ideal.Gen Cert.Proof.Ffn Cert.Proof.Out

theorem pay_at (a : Vec Ideal S512x1024 .bf16) (wa : Vec Ideal S1024x2048 .bf16) (l : Vec Ideal S512x1024 .bf16)
    (wl : Vec Ideal S1024x2048 .bf16) (x : Vec Ideal S512x2048 .f32) (g : Vec Ideal S1x2048 .f32) (r : Fin 512) (q : Fin 2048) :
    k0_pay1 a wa l wl x g (ix2 r q) = x (ix2 r q)
      + nrm (fun q => (∑ k, a (ix2 r k) * wa (ix2 k q)) + ∑ k, l (ix2 r k) * wl (ix2 k q)) (fun q => g (ix2 0 q)) q := by
  pointwise [k0_pay1]
  rfl

theorem hz : (![0, 0] : Fin 2 → Nat) = fun _ => 0 := by
  funext a; fin_cases a <;> rfl

/-- The one store's contents. -/
theorem out_eq (a l : Vec Ideal S512x1024 .bf16) (wa wl : Vec Ideal S1024x2048 .bf16) (x : Vec Ideal S512x2048 .f32) (g : Vec Ideal S1x2048 .f32) :
    out0_6 a l wa wl x g = k0_pay1 a wa l wl x g := by
  unfold out0_6
  rw [View.canon_unit_zero hz]
  simp only [View.ld_unit_zero (S := S512x1024) hz, View.ld_unit_zero (S := S1024x2048) hz, View.ld_unit_zero (S := S512x2048) hz,
    View.ld_unit_zero (S := S1x2048) hz]

variable (m : (ℓ : Loc nD τ sig) → Buf (Elt Ideal) ℓ) (c : Dev nD)

theorem lt_N (t : Fin cfg0.N) : t.val < 48 := lt_of_lt_of_eq t.isLt N_0

/-! ## The blocks, from the arrays -/

theorem ix_0 : ∀ t : Fin cfg0.N, win0_0.index t = ![t.val, 0] := by decide +kernel
theorem ix_1 : ∀ t : Fin cfg0.N, win0_1.index t = ![t.val, 0] := by decide +kernel
theorem ix_2 : ∀ t : Fin cfg0.N, win0_2.index t = ![0, 0] := by decide +kernel
theorem ix_3 : ∀ t : Fin cfg0.N, win0_3.index t = ![1, 0] := by decide +kernel
theorem ix_4 : ∀ t : Fin cfg0.N, win0_4.index t = ![t.val, 0] := by decide +kernel
theorem ix_5 : ∀ t : Fin cfg0.N, win0_5.index t = ![0, 0] := by decide +kernel
theorem ix_6 : ∀ t : Fin cfg0.N, win0_6.index t = ![t.val, 0] := by decide +kernel

variable (att ml : Vec Ideal S24576x1024 .bf16) (w : Vec Ideal S2048x2048 .bf16) (x : Vec Ideal S24576x2048 .f32) (g : Vec Ideal S1x2048 .f32)
  (h0 : m (c.tc.loc main_arg0) = att) (h1 : m (c.tc.loc main_arg1) = ml) (h2 : m (c.tc.loc main_arg2) = w)
  (h3 : m (c.tc.loc main_arg3) = x) (h4 : m (c.tc.loc main_arg4) = g)

include h0 in
theorem b_att (t : Fin cfg0.N) (r : Fin 512) (q : Fin 1024) :
    (iblk m c 0 t : Vec Ideal S512x1024 .bf16) (ix2 r q) = att (ix2 ⟨512 * t.val + r.val, by have := lt_N t; omega⟩ q) := by
  have hN := lt_N t
  subst h0
  show m (c.tc.loc main_arg0) _ = _
  refine congrArg _ (funext fun a => Fin.ext ?_)
  blk_simp [ix_0]
  fin_cases a
  · show t.val * 512 + r.val = 512 * t.val + r.val
    omega
  · show 0 * 1024 + q.val = q.val
    omega

include h1 in
theorem b_ml (t : Fin cfg0.N) (r : Fin 512) (q : Fin 1024) :
    (iblk m c 1 t : Vec Ideal S512x1024 .bf16) (ix2 r q) = ml (ix2 ⟨512 * t.val + r.val, by have := lt_N t; omega⟩ q) := by
  have hN := lt_N t
  subst h1
  show m (c.tc.loc main_arg1) _ = _
  refine congrArg _ (funext fun a => Fin.ext ?_)
  blk_simp [ix_1]
  fin_cases a
  · show t.val * 512 + r.val = 512 * t.val + r.val
    omega
  · show 0 * 1024 + q.val = q.val
    omega

include h2 in
theorem b_wa (t : Fin cfg0.N) (r : Fin 1024) (q : Fin 2048) :
    (iblk m c 2 t : Vec Ideal S1024x2048 .bf16) (ix2 r q) = w (ix2 ⟨r.val, by omega⟩ q) := by
  have hN := lt_N t
  subst h2
  show m (c.tc.loc main_arg2) _ = _
  refine congrArg _ (funext fun a => Fin.ext ?_)
  blk_simp [ix_2]
  fin_cases a
  · show 0 * 1024 + r.val = r.val
    omega
  · show 0 * 2048 + q.val = q.val
    omega

include h2 in
theorem b_wm (t : Fin cfg0.N) (r : Fin 1024) (q : Fin 2048) :
    (iblk m c 3 t : Vec Ideal S1024x2048 .bf16) (ix2 r q) = w (ix2 ⟨1024 + r.val, by omega⟩ q) := by
  have hN := lt_N t
  subst h2
  show m (c.tc.loc main_arg2) _ = _
  refine congrArg _ (funext fun a => Fin.ext ?_)
  blk_simp [ix_3]
  fin_cases a
  · show 1 * 1024 + r.val = 1024 + r.val
    omega
  · show 0 * 2048 + q.val = q.val
    omega

include h3 in
theorem b_x (t : Fin cfg0.N) (r : Fin 512) (q : Fin 2048) :
    (iblk m c 4 t : Vec Ideal S512x2048 .f32) (ix2 r q) = x (ix2 ⟨512 * t.val + r.val, by have := lt_N t; omega⟩ q) := by
  have hN := lt_N t
  subst h3
  show m (c.tc.loc main_arg3) _ = _
  refine congrArg _ (funext fun a => Fin.ext ?_)
  blk_simp [ix_4]
  fin_cases a
  · show t.val * 512 + r.val = 512 * t.val + r.val
    omega
  · show 0 * 2048 + q.val = q.val
    omega

include h4 in
theorem b_g (t : Fin cfg0.N) (r : Fin 1) (q : Fin 2048) :
    (iblk m c 5 t : Vec Ideal S1x2048 .f32) (ix2 r q) = g (ix2 r q) := by
  have hN := lt_N t
  subst h4
  show m (c.tc.loc main_arg4) _ = _
  refine congrArg _ (funext fun a => Fin.ext ?_)
  blk_simp [ix_5]
  fin_cases a
  · show 0 * 1 + r.val = r.val
    omega
  · show 0 * 2048 + q.val = q.val
    omega

/-! ## The result -/

/-- The result, of the arguments. -/
def result : Vec Ideal S24576x2048 .f32 := fun i => outRow (fun k => att (ix2 (i (0 : Fin 2)) k)) (fun k => ml (ix2 (i (0 : Fin 2)) k))
  (fun k q => w (ix2 k q)) (fun q => x (ix2 (i (0 : Fin 2)) q)) (fun q => g (ix2 0 q)) (i (1 : Fin 2))

theorem emb6 (t : Fin cfg0.N) (r : Fin 512) (q : Fin 2048) :
    (win0_6.blk t).view.emb (ix2 r q) = (ix2 ⟨512 * t.val + r.val, by have := lt_N t; omega⟩ q : S24576x2048.Idx) := by
  refine funext fun a => Fin.ext ?_
  blk_simp [ix_6]
  fin_cases a
  · show t.val * 512 + r.val = 512 * t.val + r.val
    omega
  · show 0 * 2048 + q.val = q.val
    omega

include h0 h1 h2 h3 h4 in
/-- The output array after the run. -/
theorem arr6 : (dats m 0 c).arrAt 6 cfg0.N = result att ml w x g := by
  refine (dats m 0 c).arrAt_eq_of_covers 6 _ (by decide +kernel) fun t hf y => ?_
  blk_simp
  rw [after0_6]
  revert y
  intro (y : S512x2048.Idx)
  obtain ⟨r, q, rfl⟩ : ∃ (r : Fin 512) (q : Fin 2048), y = ix2 r q := ⟨y 0, y 1, by
    funext a; fin_cases a <;> rfl⟩
  refine Eq.trans ?_ (congrArg (result att ml w x g) (emb6 t r q)).symm
  refine (congrFun (out_eq _ _ _ _ _ _) _).trans ?_
  rw [pay_at]
  simp only [b_att m c att h0 t, b_ml m c ml h1 t, b_wa m c w h2 t, b_wm m c w h2 t, b_x m c x h3 t, b_g m c g h4 t]
  rfl

end Cert.Kernel5Ideal.Out

end
-- ==== Proof.Outproj.Ref.lean ====
/- The plain output product, read at a row and a column. -/
module

public import proofs.«01_k».proof.Proof.Gen.Reference5Ideal.Run
public import proofs.«01_k».proof.Proof.Outproj.Math

@[expose] public section

noncomputable section

namespace Cert.Reference5Ideal.Out

open Idealize.ShloMosaic Idealize.ShloMosaic.TcCoe Idealize.SL.Sem
open Cert.Reference5Ideal Cert.Reference5Ideal.Gen Cert.Proof.Ffn Cert.Proof.Out

variable (att ml : Vec Ideal S24576x1024 .bf16) (w : Vec Ideal S2048x2048 .bf16) (x : Vec Ideal S24576x2048 .f32) (g : Vec Ideal S1x2048 .f32)

/-- The product of the two mixers' rows, side by side, with the output matrix, -/
def linR : Vec Ideal S24576x2048 .f32 :=
  Host.dotGeneral (F := Ideal) (φ₁ := .f32) (φ₂ := .f32) dot_S24576x2048_S2048x2048_S24576x2048_1_0_0_1_n_n none (extf (F := Ideal) .f32 (concatenate S24576x2048 1 [⟨S24576x1024, att⟩, ⟨S24576x1024, ml⟩] concatenates_S24576x1024_S24576x1024_S24576x2048_d1) bitsLt_bf16_f32) (extf (F := Ideal) .f32 w bitsLt_bf16_f32)

theorem linR_at (r : Fin 24576) (q : Fin 2048) : linR att ml w (ix2 r q)
    = lin2 (fun k => att (ix2 r k)) (fun k => ml (ix2 r k)) (fun k q => w (ix2 k q)) q := by
  pointwise [linR]
  rfl

/-- and the rows it is added to, normalised. -/
def resR : Vec Ideal S24576x2048 .f32 :=
  addf x (mulf (mulf (linR att ml w) (broadcastInDim S24576x2048 ![0, 1] bcast_S24576x1_S24576x2048_0_1 (Host.rsqrt (addf (Host.divf (broadcastInDim S24576x1 ![0] bcast_S24576_S24576x1_0 (Host.reduceAdd (mulf (linR att ml w) (linR att ml w)) (constant (F := Ideal) S_ .f32 0x00000000#32) reducesTo_S24576x2048_S24576_d1 h_S_)) (broadcastInDim S24576x1 ![] bcast_S_S24576x1 (constant (F := Ideal) S_ .f32 0x45000000#32))) (broadcastInDim S24576x1 ![] bcast_S_S24576x1 (constant (F := Ideal) S_ .f32 0x358637BD#32)))))) (broadcastInDim S24576x2048 ![0, 1] bcast_S1x2048_S24576x2048_0_1 (broadcastInDim S1x2048 ![1] bcast_S2048_S1x2048_1 (shapeCast _ g shapeCasts_S1x2048_S2048))))

theorem resR_at (r : Fin 24576) (q : Fin 2048) : resR att ml w x g (ix2 r q)
    = outRow (fun k => att (ix2 r k)) (fun k => ml (ix2 r k)) (fun k q => w (ix2 k q)) (fun q => x (ix2 r q)) (fun q => g (ix2 0 q)) q := by
  pointwise [resR, linR_at]
  rfl

end Cert.Reference5Ideal.Out

end
-- ==== Proof.Outproj.Tie.lean ====
/- The output product: the kernel against the plain reference. -/
module

public import proofs.«01_k».proof.Defs
public import proofs.«01_k».proof.Proof.Outproj.Val
public import proofs.«01_k».proof.Proof.Outproj.Ref
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The two results are one function of the arguments. -/
theorem out_eq (att ml : Vec Ideal Cert.Kernel5Ideal.S24576x1024 .bf16) (w : Vec Ideal Cert.Kernel5Ideal.S2048x2048 .bf16)
    (x : Vec Ideal Cert.Kernel5Ideal.S24576x2048 .f32) (g : Vec Ideal Cert.Kernel5Ideal.S1x2048 .f32) :
    Cert.Reference5Ideal.Out.resR att ml w x g = Cert.Kernel5Ideal.Out.result att ml w x g := by
  funext (y : Cert.Kernel5Ideal.S24576x2048.Idx)
  obtain ⟨r, q, rfl⟩ : ∃ (r : Fin 24576) (q : Fin 2048), y = ix2 r q := ⟨y 0, y 1, by
    funext a; fin_cases a <;> rfl⟩
  exact Cert.Reference5Ideal.Out.resR_at att ml w x g r q

theorem out_reference :
    Cert.quiescent_Reference5Ideal (hReference5Ideal := Cert.Reference5Ideal.Gen.facts) := fun m g _ =>
  (θ_run Cert.Reference5Ideal.defs _ _).mono (fun r h => ⟨fun c => (h c).2, sem_eq_zero_of_no_sems (by decide) _⟩) (Cert.Reference5Ideal.Value.run m g)

theorem out_algebraic : Cert.algebraic_Kernel5Ideal_Reference5Ideal (hKernel5Ideal := Cert.Kernel5Ideal.Gen.facts)
    (hReference5Ideal := Cert.Reference5Ideal.Gen.facts) := fun m g m' g' _ hm =>
  ⟨fun c => Cert.Kernel5Ideal.Out.result (m (c.tc.loc Cert.Kernel5Ideal.main_arg0)) (m (c.tc.loc Cert.Kernel5Ideal.main_arg1))
      (m (c.tc.loc Cert.Kernel5Ideal.main_arg2)) (m (c.tc.loc Cert.Kernel5Ideal.main_arg3)) (m (c.tc.loc Cert.Kernel5Ideal.main_arg4)),
    (θ_run Cert.Kernel5Ideal.defs _ _).mono (fun r h c =>
      ⟨((h.1 c).1 6).trans (Cert.Kernel5Ideal.Out.arr6 m c _ _ _ _ _ rfl rfl rfl rfl rfl), h.2 c⟩)
      (θ_run_and (Cert.Kernel5Ideal.Gen.run_main m g) (Cert.Kernel5Ideal.Gen.unchanged m g)),
    (θ_run Cert.Reference5Ideal.defs _ _).mono (fun r h c => ⟨(h c).1.trans (by
        obtain ⟨a0, a1, a2, a3, a4⟩ := hm c
        rw [a0, a1, a2, a3, a4]
        exact out_eq _ _ _ _ _), (h c).2⟩)
      (Cert.Reference5Ideal.Value.run m' g')⟩

end Cert.Proof

end
-- ==== Proof.Inproj.Ideal.Frame.lean ====
/- The frame of the input projection: the first column tile of each row tile normalises the rows into scratch and stores the
   gates, and the three after it reuse both.  The gates' block is written back at the last of the four, which leaves it alone. -/
module

public import proofs.«01_k».proof.Proof.Gen.Kernel4Ideal.Frame
public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pipeline.Value

@[expose] public section

set_option maxRecDepth 16384

noncomputable section

namespace Cert.Kernel4Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The body's branch is taken in the first column tile. -/
abbrev first (i : grid0.Coords) : Prop := k0_cond1 i = 1#1
theorem first_iff : ∀ t : Fin cfg0.N, first (grid0.coords t) ↔ t.val % 4 = 0 := by decide +kernel
theorem live7 : ∀ t : Fin cfg0.N, t.val % 4 = 0 → cfg0.idle 7 (grid0.coords t) = false := by decide +kernel
theorem idle7 : ∀ t : Fin cfg0.N, ¬t.val % 4 = 0 → cfg0.idle 7 (grid0.coords t) = true := by decide +kernel
theorem keep7 : ∀ t : Fin cfg0.N, ¬t.val % 4 = 3 → (cfg0.win 7).flush t = false := by decide +kernel
theorem unread7 : ∀ t : Fin cfg0.N, (cfg0.win 7).fetch t = false := by decide +kernel

abbrev ms0_0 (t : Fin cfg0.N) : Memref sig .tc .vmem S1024x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S2048x1792 .bf16 := win0_2.stage (cfg0.slots t 2)
abbrev ms0_3 (t : Fin cfg0.N) : Memref sig .tc .vmem S1x1792 .f32 := win0_3.stage (cfg0.slots t 3)
abbrev ms0_4 (t : Fin cfg0.N) : Memref sig .tc .vmem S2048x128 .bf16 := win0_4.stage (cfg0.slots t 4)
abbrev ms0_5 (t : Fin cfg0.N) : Memref sig .tc .vmem S1x128 .f32 := win0_5.stage (cfg0.slots t 5)
abbrev ms0_6 (t : Fin cfg0.N) : Memref sig .tc .vmem S1024x1792 .bf16 := win0_6.stage (cfg0.slots t 6)
abbrev ms0_7 (t : Fin cfg0.N) : Memref sig .tc .vmem S128x1024 .f32 := win0_7.stage (cfg0.slots t 7)
abbrev scM0_0 : Memref sig .tc .vmem S1024x2048 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The body -/

theorem hz : (![0, 0] : Fin 2 → Nat) = fun _ => 0 := funext fun a => by fin_cases a <;> rfl

section body
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1x1792 .f32) (harg5 : arg5.IsWhole) (arg6 : Memref sig .tc .vmem S2048x128 .bf16) (harg6 : arg6.IsWhole) (arg7 : Memref sig .tc .vmem S1x128 .f32) (harg7 : arg7.IsWhole) (arg8 : Memref sig .tc .vmem S1024x1792 .bf16) (harg8 : arg8.IsWhole) (arg9 : Memref sig .tc .vmem S128x1024 .f32) (harg9 : arg9.IsWhole) (arg10 : Memref sig .tc .vmem S1024x2048 .bf16) (harg10 : arg10.IsWhole)
  (x0 : Vec F S1024x2048 .f32) (x1 : Vec F S1x2048 .f32) (x2 : Vec F S2048x1792 .bf16) (x3 : Vec F S1x1792 .f32) (x4 : Vec F S2048x128 .bf16) (x5 : Vec F S1x128 .f32)

/-- The inputs' buffers. -/
abbrev ins : sProp 𝕄 := iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5)

set_option maxHeartbeats 4000000 in
/-- In the first column tile the body leaves the normalised rows, their gates and the tile's projection. -/
theorem body_first (hc : first i) (E : Set ℕ) (K : PUnit → sProp 𝕄) :
    iprop(ins c arg2 arg3 arg4 arg5 arg6 arg7 x0 x1 x2 x3 x4 x5 ∗ (∃ d, owns (c : Thread nD τ) arg8 fullShare d) ∗ (∃ d, owns (c : Thread nD τ) arg9 fullShare d) ∗ (∃ d, owns (c : Thread nD τ) arg10 fullShare d)
        ∗ (iprop(ins c arg2 arg3 arg4 arg5 arg6 arg7 x0 x1 x2 x3 x4 x5 ∗ owns (c : Thread nD τ) arg8 fullShare (k0_pay4 (k0_pay2 x0 x1) x2 x3) ∗ owns (c : Thread nD τ) arg9 fullShare (k0_pay3 x0 x1 x4 x5) ∗ owns (c : Thread nD τ) arg10 fullShare (k0_pay2 x0 x1)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H6]
  · iexists _; isplitr
    swap; · iexact H6
    ipureintro
    rw [View.read_writes_eq_canon _ _ _ (fun y => View.cover_of_tiledL _ S1024x1792.size (by sl_kernel_rfl) y)]
    (try sl_unfold_words)
    rw [View.canon_unit_zero hz]
    simp only [View.readCov_unit_zero (S := S1024x2048) _ hz, View.readAt_eq_ld, harg2.read_unread, harg3.read_unread, harg4.read_unread, harg5.read_unread, View.ld_unit_zero (S := S1024x2048) hz, View.ld_unit_zero (S := S1x2048) hz, View.ld_unit_zero (S := S2048x1792) hz, View.ld_unit_zero (S := S1x1792) hz, shapeCast_self]
  isplitl [H7]
  · iexists _; isplitr
    swap; · iexact H7
    ipureintro
    rw [View.read_writes_eq_canon _ _ _ (fun y => View.cover_of_tiledL _ S128x1024.size (by sl_kernel_rfl) y)]
    (try sl_unfold_words)
    rw [View.canon_unit_zero hz]
    simp only [View.readAt_eq_ld, harg2.read_unread, harg3.read_unread, harg6.read_unread, harg7.read_unread, View.ld_unit_zero (S := S1024x2048) hz, View.ld_unit_zero (S := S1x2048) hz, View.ld_unit_zero (S := S2048x128) hz, View.ld_unit_zero (S := S1x128) hz, shapeCast_self]
  iexists _; isplitr
  swap; · iexact HS0
  ipureintro
  rw [View.read_writes_eq_canon _ _ _ (fun y => View.cover_of_tiledL _ S1024x2048.size (by sl_kernel_rfl) y)]
  (try sl_unfold_words)
  rw [View.canon_unit_zero hz]
  simp only [View.readAt_eq_ld, harg2.read_unread, harg3.read_unread, View.ld_unit_zero (S := S1024x2048) hz, View.ld_unit_zero (S := S1x2048) hz, shapeCast_self]

set_option maxHeartbeats 4000000 in
/-- In the others it leaves the tile's projection of the rows in scratch. -/
theorem body_later (hc : ¬first i) (h : Vec F S1024x2048 .bf16) (E : Set ℕ) (K : PUnit → sProp 𝕄) :
    iprop(ins c arg2 arg3 arg4 arg5 arg6 arg7 x0 x1 x2 x3 x4 x5 ∗ (∃ d, owns (c : Thread nD τ) arg8 fullShare d) ∗ owns (c : Thread nD τ) arg10 fullShare h
        ∗ (iprop(ins c arg2 arg3 arg4 arg5 arg6 arg7 x0 x1 x2 x3 x4 x5 ∗ owns (c : Thread nD τ) arg8 fullShare (k0_pay4 h x2 x3) ∗ owns (c : Thread nD τ) arg10 fullShare h) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%fs0, %hfs0, HS0⟩, Hk⟩
  obtain rfl := harg4.eq_unread hf2; obtain rfl := harg5.eq_unread hf3; obtain rfl := harg10.eq_unread hfs0
  sl_exec (disch := first | sl_exact hc)
  sl_step
  iapply Hk
  isplitl [H0 H1 H2 H3 H4 H5]
  · isplitl [H0]
    · iexists _; isplitr; · ipureintro; exact hf0
      iexact H0
    isplitl [H1]
    · iexists _; isplitr; · ipureintro; exact hf1
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    iexists _; isplitr; · ipureintro; exact hf5
    iexact H5
  isplitl [H6]
  · iexists _; isplitr
    swap; · iexact H6
    ipureintro
    rw [View.read_writes_eq_canon _ _ _ (fun y => View.cover_of_tiledL _ S1024x1792.size (by sl_kernel_rfl) y)]
    (try sl_unfold_words)
    rw [View.canon_unit_zero hz]
    simp only [View.readAt_eq_ld, harg4.read_unread, harg5.read_unread, harg10.read_unread, View.ld_unit_zero (S := S1024x2048) hz, View.ld_unit_zero (S := S2048x1792) hz, View.ld_unit_zero (S := S1x1792) hz, shapeCast_self]
  iexists _; isplitr; · ipureintro; exact harg10.read_unread _
  iexact HS0
end body

/-! ## What the buffers hold -/

/-- The first point of a point's row tile. -/
def base (t : Fin cfg0.N) : Fin cfg0.N := ⟨t.val / 4 * 4, by have := t.isLt; omega⟩
theorem base_first (t : Fin cfg0.N) (h : t.val % 4 = 0) : base t = t := Fin.ext (by unfold base; dsimp only; omega)
theorem base_succ (n : ℕ) (hn : n + 1 < cfg0.N) (h : ¬(n + 1) % 4 = 0) : base ⟨n, Nat.lt_of_succ_lt hn⟩ = base ⟨n + 1, hn⟩ :=
  Fin.ext (by unfold base; dsimp only; omega)

/-- The row tile's normalised rows, -/
def rows (c : Dev nD) (t : Fin cfg0.N) : Vec F S1024x2048 .bf16 := k0_pay2 (iblk m c 0 (base t)) (iblk m c 1 (base t))
/-- its gates, -/
def gates (c : Dev nD) (t : Fin cfg0.N) : Vec F S128x1024 .f32 := k0_pay3 (iblk m c 0 (base t)) (iblk m c 1 (base t)) (iblk m c 4 (base t)) (iblk m c 5 (base t))
/-- and a column tile of its projection. -/
def proj (c : Dev nD) (t : Fin cfg0.N) : Vec F S1024x1792 .bf16 := k0_pay4 (rows m c t) (X0_2 m c t) (iblk m c 3 t)

/-- Between points: the scratch holds the rows of the point before. -/
def PhiS (c : Dev nD) : (n : ℕ) → n ≤ cfg0.N → sProp 𝕄
  | 0, _ => Pipeline.ΦA spec0 c
  | n + 1, hn => iprop(owns (c : Thread nD τ) scM0_0 fullShare (rows m c ⟨n, hn⟩) ∗ (∃ r, prngReg c r))

theorem PhiS_any (c : Dev nD) (n : ℕ) (h : n ≤ cfg0.N) : PhiS m c n h ⊢ iprop(iprop((∃ d, owns (c : Thread nD τ) scM0_0 fullShare d)) ∗ (∃ r, prngReg c r)) := by
  cases n with
  | zero => exact Entails.of_eq (PhiA0_eq c)
  | succ n =>
    show iprop(owns (c : Thread nD τ) scM0_0 fullShare (rows m c ⟨n, h⟩) ∗ (∃ r, prngReg c r)) ⊢ _
    iintro ⟨HS0, Hg⟩
    isplitl [HS0]; · iexists _; iexact HS0
    iexact Hg

theorem PhiS_later (c : Dev nD) (t : Fin cfg0.N) (h : ¬t.val % 4 = 0) :
    PhiS m c t.val (Nat.le_of_lt t.isLt) = iprop(owns (c : Thread nD τ) scM0_0 fullShare (rows m c t) ∗ (∃ r, prngReg c r)) := by
  obtain ⟨n, hn⟩ := t
  cases n with
  | zero => exact absurd rfl h
  | succ n =>
    show iprop(owns (c : Thread nD τ) scM0_0 fullShare (rows m c ⟨n, _⟩) ∗ (∃ r, prngReg c r)) = _
    unfold rows; rw [base_succ n hn h]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => proj m c t
    | ⟨7, _⟩ => gates m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = proj m c t := by dsimp only [dats]
theorem after0_7 (c : Dev nD) (t : Fin cfg0.N) : (dats m 0 c).after 7 t = gates m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Past the first column tile the gates' buffer still holds the row tile's gates. -/
theorem before0_7 (c : Dev nD) : ∀ (n : ℕ) (hn : n < cfg0.N) (h : ¬n % 4 = 0) (d), (dats m 0 c).before 7 ⟨n, hn⟩ d = gates m c ⟨n, hn⟩
  | 0, _, h, _ => absurd rfl h
  | n + 1, hn, h, d => by
    have e : gates m c ⟨n, Nat.lt_of_succ_lt hn⟩ = gates m c ⟨n + 1, hn⟩ := by unfold gates; rw [base_succ n hn h]
    rw [Dat.before_of_pos (dats m 0 c) 7 ⟨n + 1, hn⟩ (Nat.succ_ne_zero n) (unread7 _) d]
    show (if (cfg0.win 7).flush ⟨n, Nat.lt_of_succ_lt hn⟩ then d else (dats m 0 c).left 7 ⟨n, Nat.lt_of_succ_lt hn⟩ d) = _
    rw [keep7 ⟨n, Nat.lt_of_succ_lt hn⟩ (by show ¬n % 4 = 3; omega), if_neg Bool.false_ne_true]
    unfold Dat.left
    by_cases h' : n % 4 = 0
    · rw [live7 ⟨n, Nat.lt_of_succ_lt hn⟩ h']
      exact (after0_7 m c _).trans e
    · rw [idle7 ⟨n, Nat.lt_of_succ_lt hn⟩ h']
      exact (before0_7 c n (Nat.lt_of_succ_lt hn) h' d).trans e
/-- So what is found there is what is owed, written back or not. -/
theorem leaves0_7 (c : Dev nD) (t : Fin cfg0.N) (h : ¬t.val % 4 = 0) (d) :
    (owns (c : Thread nD τ) (ms0_7 t) fullShare ((dats m 0 c).before 7 t d) : sProp 𝕄) ⊢ (dats m 0 c).leavesExact 7 t := by
  unfold Dat.leavesExact
  rw [idle7 t h]
  have e : (dats m 0 c).before 7 t d = (dats m 0 c).after 7 t := (before0_7 m c t.val t.isLt h d).trans (after0_7 m c t).symm
  cases (cfg0.win 7).flush t
  · iintro H; iexists _; iexact H
  · rw [e]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- A window that is never idle is left at what is owed of it. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = iprop(owns (c : Thread nD τ) scM0_0 fullShare (rows m c t) ∗ (∃ r, prngReg c r)) from rfl]
  rw [leaves_live m c 0 t rfl, after0_0, leaves_live m c 1 t rfl, after0_1, leaves_live m c 2 t rfl, after0_2,
    leaves_live m c 3 t rfl, after0_3, leaves_live m c 4 t rfl, after0_4, leaves_live m c 5 t rfl, after0_5,
    leaves_live m c 6 t rfl, after0_6, PhiS_castSucc m c t]
  by_cases h0 : t.val % 4 = 0
  · rw [leaves_live m c 7 t (live7 t h0), after0_7]
    unfold proj gates rows
    rw [base_first t h0]
    refine (sep_mono (PhiS_any m c _ _) (.refl _)).trans ?_
    show iprop(iprop(iprop((∃ d, owns (c : Thread nD τ) scM0_0 fullShare d)) ∗ (∃ r, prngReg c r)) ∗ _) ⊢ _
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) _ _ _ _ _ _ _ _ _ _ _ _ _ _ _ _ _ _ (iblk m c 0 t) (iblk m c 1 t) (X0_2 m c t) (iblk m c 3 t) (iblk m c 4 t) (iblk m c 5 t) ((first_iff t).mpr h0) Set.univ _)
    isplitl [H0 H1 H2 H3 H4 H5]
    · unfold ins
      isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [HS0]; · iexact HS0
    unfold ins
    iintro ⟨⟨H0, H1, H2, H3, H4, H5⟩, H6, H7, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_later m c t h0]
    unfold proj
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ _ _ _ _ _ _ _ _ _ _ _ _ _ _ _ _ _ (iblk m c 0 t) (iblk m c 1 t) (X0_2 m c t) (iblk m c 3 t) (iblk m c 4 t) (iblk m c 5 t) (fun h => h0 ((first_iff t).mp h)) (rows m c t) Set.univ _)
    isplitl [H0 H1 H2 H3 H4 H5]
    · unfold ins
      isplitl [H0]; · iexact H0
      isplitl [H1]; · iexact H1
      isplitl [H2]; · iexact H2
      isplitl [H3]; · iexact H3
      isplitl [H4]; · iexact H4
      iexact H5
    isplitl [H6]; · iexists _; iexact H6
    isplitl [HS0]; · iexact HS0
    unfold ins
    iintro ⟨⟨H0, H1, H2, H3, H4, H5⟩, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves0_7 m c t h0 d7); iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _
theorem hout (c : Dev nD) : (dats m 0 c).Φ (Fin.last cfg0.N) ⊢ Pipeline.ΦA spec0 c := by
  rw [PhiA0_eq, show (dats m 0 c).Φ (Fin.last cfg0.N) = PhiS m c cfg0.N (Nat.le_refl _) from rfl]; exact PhiS_any m c _ _

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel4Ideal.Proj

end
-- ==== Proof.Inproj.Ref.lean ====
/- The plain input projection and its gates, read at a row and a column. -/
module

public import proofs.«01_k».proof.Proof.Gen.Reference4Ideal.Run
public import proofs.«01_k».proof.Proof.Ffn.Math

@[expose] public section

noncomputable section

namespace Cert.Proof.Proj

open Idealize.ShloMosaic Cert.Proof.Ffn

/-- A normalised row against a column. -/
def dot (x g w : Row) : EReal := ∑ k, nrm x g k * w k

end Cert.Proof.Proj

namespace Cert.Reference4Ideal.Proj

open Idealize.ShloMosaic Idealize.ShloMosaic.TcCoe Idealize.SL.Sem
open Cert.Reference4Ideal Cert.Reference4Ideal.Gen Cert.Proof.Ffn Cert.Proof.Proj

variable (x : Vec Ideal S24576x2048 .f32) (g : Vec Ideal S1x2048 .f32) (w : Vec Ideal S2048x7184 .bf16) (s : Vec Ideal S1x7168 .f32)
  (v : Vec Ideal S2048x128 .bf16) (b : Vec Ideal S1x128 .f32)

/-- The rows, normalised, -/
def rowsR : Vec Ideal S24576x2048 .f32 :=
  mulf (mulf x (broadcastInDim S24576x2048 ![0, 1] bcast_S24576x1_S24576x2048_0_1 (Host.rsqrt (addf (Host.divf (broadcastInDim S24576x1 ![0] bcast_S24576_S24576x1_0 (Host.reduceAdd (mulf x x) (constant (F := Ideal) S_ .f32 0x00000000#32) reducesTo_S24576x2048_S24576_d1 h_S_)) (broadcastInDim S24576x1 ![] bcast_S_S24576x1 (constant (F := Ideal) S_ .f32 0x45000000#32))) (broadcastInDim S24576x1 ![] bcast_S_S24576x1 (constant (F := Ideal) S_ .f32 0x358637BD#32)))))) (broadcastInDim S24576x2048 ![0, 1] bcast_S1x2048_S24576x2048_0_1 (broadcastInDim S1x2048 ![1] bcast_S2048_S1x2048_1 (shapeCast _ g shapeCasts_S1x2048_S2048)))

theorem rowsR_at (r : Fin 24576) (q : Fin 2048) : rowsR x g (ix2 r q) = nrm (fun q => x (ix2 r q)) (fun q => g (ix2 0 q)) q := by
  pointwise [rowsR]
  rfl

/-- their projection, -/
def projR : Vec Ideal S24576x7168 .bf16 :=
  truncf (F := Ideal) .bf16 (mulf (Host.dotGeneral (F := Ideal) (φ₁ := .f32) (φ₂ := .f32) dot_S24576x2048_S2048x7168_S24576x7168_1_0_0_1_n_n none (rowsR x g) (extf (F := Ideal) .f32 (extractStridedSlice S2048x7168 ![0, 0] w slices_S2048x7184_S2048x7168_0_0) bitsLt_bf16_f32)) (broadcastInDim S24576x7168 ![0, 1] bcast_S1x7168_S24576x7168_0_1 s)) bitsLt_bf16_f32

theorem projR_at (r : Fin 24576) (q : Fin 7168) : projR x g w s (ix2 r q)
    = dot (fun q => x (ix2 r q)) (fun q => g (ix2 0 q)) (fun k => w (ix2 k ⟨q.val, by omega⟩)) * s (ix2 0 q) := by
  pointwise [projR, rowsR_at]
  rfl

/-- and their gates. -/
def gatesR : Vec Ideal S128x24576 .f32 :=
  transpose S128x24576 [1, 0] (addf (Host.dotGeneral (F := Ideal) (φ₁ := .f32) (φ₂ := .f32) dot_S24576x2048_S2048x128_S24576x128_1_0_0_1_n_n none (rowsR x g) (extf (F := Ideal) .f32 v bitsLt_bf16_f32)) (broadcastInDim S24576x128 ![0, 1] bcast_S1x128_S24576x128_0_1 b)) transposes_S24576x128_S128x24576_1_0

theorem gatesR_at (j : Fin 128) (r : Fin 24576) : gatesR x g v b (ix2 j r)
    = dot (fun q => x (ix2 r q)) (fun q => g (ix2 0 q)) (fun k => v (ix2 k j)) + b (ix2 0 j) := by
  pointwise [gatesR, rowsR_at]
  rfl

end Cert.Reference4Ideal.Proj

end
-- ==== Proof.Inproj.Val.lean ====
/- The input projection's kernel: what each tile stores, and the two whole results. -/
module

public import proofs.«01_k».proof.Proof.Inproj.Ideal.Frame
public import proofs.«01_k».proof.Proof.Inproj.Ref
public import Idealize.ShloMosaic.Lib.Pipeline.ValueKit

@[expose] public section

set_option maxRecDepth 16384

noncomputable section

namespace Cert.Kernel4Ideal.Proj

open Idealize.ShloMosaic Idealize.ShloMosaic.TcCoe Idealize.SL.Sem
open Cert.Kernel4Ideal Cert.Kernel4Ideal.Gen Cert.Proof.Ffn Cert.Proof.Proj

theorem pay1_at (x : Vec Ideal S1024x2048 .f32) (g : Vec Ideal S1x2048 .f32) (r : Fin 1024) (q : Fin 2048) :
    k0_pay1 x g (ix2 r q) = nrm (fun q => x (ix2 r q)) (fun q => g (ix2 0 q)) q := by
  pointwise [k0_pay1]
  rfl

theorem pay2_eq (x : Vec Ideal S1024x2048 .f32) (g : Vec Ideal S1x2048 .f32) : k0_pay2 x g = k0_pay1 x g := by
  unfold k0_pay2; exact shapeCast_self _ _

theorem pay3_at (x : Vec Ideal S1024x2048 .f32) (g : Vec Ideal S1x2048 .f32) (v : Vec Ideal S2048x128 .bf16) (b : Vec Ideal S1x128 .f32)
    (j : Fin 128) (r : Fin 1024) : k0_pay3 x g v b (ix2 j r)
      = dot (fun q => x (ix2 r q)) (fun q => g (ix2 0 q)) (fun k => v (ix2 k j)) + b (ix2 0 j) := by
  pointwise [k0_pay3, pay1_at]
  rfl

theorem pay4_at (h : Vec Ideal S1024x2048 .bf16) (w : Vec Ideal S2048x1792 .bf16) (s : Vec Ideal S1x1792 .f32)
    (r : Fin 1024) (q : Fin 1792) : k0_pay4 h w s (ix2 r q) = (∑ k, h (ix2 r k) * w (ix2 k q)) * s (ix2 0 q) := by
  pointwise [k0_pay4]

variable (m : (ℓ : Loc nD τ sig) → Buf (Elt Ideal) ℓ) (c : Dev nD)

theorem lt_N (t : Fin cfg0.N) : t.val < 96 := lt_of_lt_of_eq t.isLt N_0
theorem base_div (t : Fin cfg0.N) : (base t).val / 4 = t.val / 4 := by unfold base; dsimp only; omega

/-! ## The blocks, from the arrays -/

theorem ix_0 : ∀ t : Fin cfg0.N, win0_0.index t = ![t.val / 4, 0] := by decide +kernel
theorem ix_1 : ∀ t : Fin cfg0.N, win0_1.index t = ![0, 0] := by decide +kernel
theorem ix_2 : ∀ t : Fin cfg0.N, win0_2.index t = ![0, t.val % 4] := by decide +kernel
theorem ix_3 : ∀ t : Fin cfg0.N, win0_3.index t = ![0, t.val % 4] := by decide +kernel
theorem ix_4 : ∀ t : Fin cfg0.N, win0_4.index t = ![0, 0] := by decide +kernel
theorem ix_5 : ∀ t : Fin cfg0.N, win0_5.index t = ![0, 0] := by decide +kernel
theorem ix_6 : ∀ t : Fin cfg0.N, win0_6.index t = ![t.val / 4, t.val % 4] := by decide +kernel
theorem ix_7 : ∀ t : Fin cfg0.N, win0_7.index t = ![0, t.val / 4] := by decide +kernel

variable (x : Vec Ideal S24576x2048 .f32) (g : Vec Ideal S1x2048 .f32) (w : Vec Ideal S2048x7184 .bf16) (s : Vec Ideal S1x7168 .f32)
  (v : Vec Ideal S2048x128 .bf16) (b : Vec Ideal S1x128 .f32)
  (h0 : m (c.tc.loc main_arg0) = x) (h1 : m (c.tc.loc main_arg1) = g) (h2 : m (c.tc.loc main_arg2) = w)
  (h3 : m (c.tc.loc main_arg3) = s) (h4 : m (c.tc.loc main_arg4) = v) (h5 : m (c.tc.loc main_arg5) = b)

include h0 in
theorem b_x (t : Fin cfg0.N) (r : Fin 1024) (q : Fin 2048) :
    (iblk m c 0 (base t) : Vec Ideal S1024x2048 .f32) (ix2 r q) = x (ix2 ⟨1024 * (t.val / 4) + r.val, by have := lt_N t; omega⟩ q) := by
  have hN := lt_N t
  subst h0
  show m (c.tc.loc main_arg0) _ = _
  refine congrArg _ (funext fun a => Fin.ext ?_)
  blk_simp [ix_0, base_div]
  fin_cases a
  · show t.val / 4 * 1024 + r.val = 1024 * (t.val / 4) + r.val
    omega
  · show 0 * 2048 + q.val = q.val
    omega

include h1 in
theorem b_g (t : Fin cfg0.N) (r : Fin 1) (q : Fin 2048) : (iblk m c 1 t : Vec Ideal S1x2048 .f32) (ix2 r q) = g (ix2 r q) := by
  subst h1
  show m (c.tc.loc main_arg1) _ = _
  refine congrArg _ (funext fun a => Fin.ext ?_)
  blk_simp [ix_1]
  fin_cases a
  · show 0 * 1 + r.val = r.val
    omega
  · show 0 * 2048 + q.val = q.val
    omega

include h2 in
theorem b_w (t : Fin cfg0.N) (k : Fin 2048) (q : Fin 1792) :
    (X0_2 m c t : Vec Ideal S2048x1792 .bf16) (ix2 k q) = w (ix2 k ⟨1792 * (t.val % 4) + q.val, by omega⟩) := by
  have hN := lt_N t
  subst h2
  refine (dif_pos (moved0_2 t (ix2 k q))).trans ?_
  show m (c.tc.loc main_arg2) _ = _
  refine congrArg _ (funext fun a => Fin.ext ?_)
  blk_simp [ix_2]
  fin_cases a
  · show 0 * 2048 + k.val = k.val
    omega
  · show t.val % 4 * 1792 + q.val = 1792 * (t.val % 4) + q.val
    omega

include h3 in
theorem b_s (t : Fin cfg0.N) (r : Fin 1) (q : Fin 1792) :
    (iblk m c 3 t : Vec Ideal S1x1792 .f32) (ix2 r q) = s (ix2 r ⟨1792 * (t.val % 4) + q.val, by omega⟩) := by
  subst h3
  show m (c.tc.loc main_arg3) _ = _
  refine congrArg _ (funext fun a => Fin.ext ?_)
  blk_simp [ix_3]
  fin_cases a
  · show 0 * 1 + r.val = r.val
    omega
  · show t.val % 4 * 1792 + q.val = 1792 * (t.val % 4) + q.val
    omega

include h4 in
theorem b_v (t : Fin cfg0.N) (k : Fin 2048) (j : Fin 128) : (iblk m c 4 t : Vec Ideal S2048x128 .bf16) (ix2 k j) = v (ix2 k j) := by
  subst h4
  show m (c.tc.loc main_arg4) _ = _
  refine congrArg _ (funext fun a => Fin.ext ?_)
  blk_simp [ix_4]
  fin_cases a
  · show 0 * 2048 + k.val = k.val
    omega
  · show 0 * 128 + j.val = j.val
    omega

include h5 in
theorem b_b (t : Fin cfg0.N) (r : Fin 1) (j : Fin 128) : (iblk m c 5 t : Vec Ideal S1x128 .f32) (ix2 r j) = b (ix2 r j) := by
  subst h5
  show m (c.tc.loc main_arg5) _ = _
  refine congrArg _ (funext fun a => Fin.ext ?_)
  blk_simp [ix_5]
  fin_cases a
  · show 0 * 1 + r.val = r.val
    omega
  · show 0 * 128 + j.val = j.val
    omega

/-! ## The results -/

/-- The projection, of the arguments, -/
def projOf : Vec Ideal S24576x7168 .bf16 := fun i => dot (fun q => x (ix2 (i (0 : Fin 2)) q)) (fun q => g (ix2 0 q))
  (fun k => w (ix2 k ⟨(i (1 : Fin 2)).val, Nat.lt_trans (i (1 : Fin 2)).isLt (by decide)⟩)) * s (ix2 0 (i (1 : Fin 2)))

/-- and the gates. -/
def gatesOf : Vec Ideal S128x24576 .f32 := fun i => dot (fun q => x (ix2 (i (1 : Fin 2)) q)) (fun q => g (ix2 0 q))
  (fun k => v (ix2 k (i (0 : Fin 2)))) + b (ix2 0 (i (0 : Fin 2)))

theorem emb6 (t : Fin cfg0.N) (r : Fin 1024) (q : Fin 1792) : (win0_6.blk t).view.emb (ix2 r q)
    = (ix2 ⟨1024 * (t.val / 4) + r.val, by have := lt_N t; omega⟩ ⟨1792 * (t.val % 4) + q.val, by omega⟩ : S24576x7168.Idx) := by
  refine funext fun a => Fin.ext ?_
  blk_simp [ix_6]
  fin_cases a
  · show t.val / 4 * 1024 + r.val = 1024 * (t.val / 4) + r.val
    omega
  · show t.val % 4 * 1792 + q.val = 1792 * (t.val % 4) + q.val
    omega

theorem emb7 (t : Fin cfg0.N) (j : Fin 128) (r : Fin 1024) : (win0_7.blk t).view.emb (ix2 j r)
    = (ix2 j ⟨1024 * (t.val / 4) + r.val, by have := lt_N t; omega⟩ : S128x24576.Idx) := by
  refine funext fun a => Fin.ext ?_
  blk_simp [ix_7]
  fin_cases a
  · show 0 * 128 + j.val = j.val
    omega
  · show t.val / 4 * 1024 + r.val = 1024 * (t.val / 4) + r.val
    omega

include h0 h1 h2 h3 in
/-- The projection's array after the run. -/
theorem arr6 : (dats m 0 c).arrAt 6 cfg0.N = projOf x g w s := by
  refine (dats m 0 c).arrAt_eq_of_covers 6 _ (by decide +kernel) fun t hf y => ?_
  blk_simp
  rw [after0_6]
  revert y
  intro (y : S1024x1792.Idx)
  obtain ⟨r, q, rfl⟩ : ∃ (r : Fin 1024) (q : Fin 1792), y = ix2 r q := ⟨y 0, y 1, by
    funext a; fin_cases a <;> rfl⟩
  refine Eq.trans ?_ (congrArg (projOf x g w s) (emb6 t r q)).symm
  show proj m c t (ix2 r q) = _
  unfold proj rows
  rw [pay4_at, pay2_eq]
  simp only [pay1_at, b_x m c x h0 t, b_g m c g h1, b_w m c w h2 t, b_s m c s h3 t]
  rfl

include h0 h1 h4 h5 in
/-- The gates' array after the run. -/
theorem arr7 : (dats m 0 c).arrAt 7 cfg0.N = gatesOf x g v b := by
  refine (dats m 0 c).arrAt_eq_of_covers 7 _ (by decide +kernel) fun t hf y => ?_
  blk_simp
  rw [after0_7]
  revert y
  intro (y : S128x1024.Idx)
  obtain ⟨j, r, rfl⟩ : ∃ (j : Fin 128) (r : Fin 1024), y = ix2 j r := ⟨y 0, y 1, by
    funext a; fin_cases a <;> rfl⟩
  refine Eq.trans ?_ (congrArg (gatesOf x g v b) (emb7 t j r)).symm
  show gates m c t (ix2 j r) = _
  unfold gates
  rw [pay3_at]
  simp only [b_x m c x h0 t, b_g m c g h1, b_v m c v h4, b_b m c b h5]
  rfl

end Cert.Kernel4Ideal.Proj

end
-- ==== Proof.Inproj.Tie.lean ====
/- The input projection: the kernel against the plain reference. -/
module

public import proofs.«01_k».proof.Defs
public import proofs.«01_k».proof.Proof.Inproj.Val
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The two projections are one function of the arguments, -/
theorem inproj_eq (x : Vec Ideal Cert.Kernel4Ideal.S24576x2048 .f32) (g : Vec Ideal Cert.Kernel4Ideal.S1x2048 .f32)
    (w : Vec Ideal Cert.Kernel4Ideal.S2048x7184 .bf16) (s : Vec Ideal Cert.Kernel4Ideal.S1x7168 .f32) :
    Cert.Reference4Ideal.Proj.projR x g w s = Cert.Kernel4Ideal.Proj.projOf x g w s := by
  funext (y : Cert.Kernel4Ideal.S24576x7168.Idx)
  obtain ⟨r, q, rfl⟩ : ∃ (r : Fin 24576) (q : Fin 7168), y = ix2 r q := ⟨y 0, y 1, by
    funext a; fin_cases a <;> rfl⟩
  exact Cert.Reference4Ideal.Proj.projR_at x g w s r q

/-- and so are the gates. -/
theorem ingates_eq (x : Vec Ideal Cert.Kernel4Ideal.S24576x2048 .f32) (g : Vec Ideal Cert.Kernel4Ideal.S1x2048 .f32)
    (v : Vec Ideal Cert.Kernel4Ideal.S2048x128 .bf16) (b : Vec Ideal Cert.Kernel4Ideal.S1x128 .f32) :
    Cert.Reference4Ideal.Proj.gatesR x g v b = Cert.Kernel4Ideal.Proj.gatesOf x g v b := by
  funext (y : Cert.Kernel4Ideal.S128x24576.Idx)
  obtain ⟨j, r, rfl⟩ : ∃ (j : Fin 128) (r : Fin 24576), y = ix2 j r := ⟨y 0, y 1, by
    funext a; fin_cases a <;> rfl⟩
  exact Cert.Reference4Ideal.Proj.gatesR_at x g v b j r

theorem inproj_reference :
    Cert.quiescent_Reference4Ideal (hReference4Ideal := Cert.Reference4Ideal.Gen.facts) := fun m g _ =>
  (θ_run Cert.Reference4Ideal.defs _ _).mono (fun r h => ⟨fun c => (h c).2.2, sem_eq_zero_of_no_sems (by decide) _⟩) (Cert.Reference4Ideal.Value.run m g)

theorem inproj_algebraic : Cert.algebraic_Kernel4Ideal_Reference4Ideal (hKernel4Ideal := Cert.Kernel4Ideal.Gen.facts)
    (hReference4Ideal := Cert.Reference4Ideal.Gen.facts) := fun m g m' g' _ hm =>
  ⟨fun c => Cert.Kernel4Ideal.Proj.projOf (m (c.tc.loc Cert.Kernel4Ideal.main_arg0)) (m (c.tc.loc Cert.Kernel4Ideal.main_arg1))
      (m (c.tc.loc Cert.Kernel4Ideal.main_arg2)) (m (c.tc.loc Cert.Kernel4Ideal.main_arg3)),
    fun c => Cert.Kernel4Ideal.Proj.gatesOf (m (c.tc.loc Cert.Kernel4Ideal.main_arg0)) (m (c.tc.loc Cert.Kernel4Ideal.main_arg1))
      (m (c.tc.loc Cert.Kernel4Ideal.main_arg4)) (m (c.tc.loc Cert.Kernel4Ideal.main_arg5)),
    (θ_run Cert.Kernel4Ideal.defs _ _).mono (fun r h c =>
      ⟨((h.1 c).1 6).trans (Cert.Kernel4Ideal.Proj.arr6 m c _ _ _ _ rfl rfl rfl rfl),
        ((h.1 c).1 7).trans (Cert.Kernel4Ideal.Proj.arr7 m c _ _ _ _ rfl rfl rfl rfl), h.2 c⟩)
      (θ_run_and (Cert.Kernel4Ideal.Proj.run_main m g) (Cert.Kernel4Ideal.Proj.unchanged m g)),
    (θ_run Cert.Reference4Ideal.defs _ _).mono (fun r h c => ⟨(h c).1.trans (by
        obtain ⟨a0, a1, a2, a3, a4, a5⟩ := hm c
        rw [a0, a1, a2, a3]
        exact inproj_eq _ _ _ _), (h c).2.1.trans (by
        obtain ⟨a0, a1, a2, a3, a4, a5⟩ := hm c
        rw [a0, a1, a4, a5]
        exact ingates_eq _ _ _ _), (h c).2.2⟩)
      (Cert.Reference4Ideal.Value.run m' g')⟩

end Cert.Proof

end
-- ==== Proof.lean ====
/- The claims of this directory, each from the modules that prove it. -/
module

public import proofs.«01_k».proof.Defs
public import proofs.«01_k».proof.Proof.Forget.Frame
public import proofs.«01_k».proof.Proof.Mlstm.Tie
public import proofs.«01_k».proof.Proof.Gen.Kernel3.Frame
public import proofs.«01_k».proof.Proof.Ffn3.Tie
public import proofs.«01_k».proof.Proof.Ffn2.Bits.Frame
public import proofs.«01_k».proof.Proof.Ffn2.Tie
public import proofs.«01_k».proof.Proof.Gen.Kernel5.Frame
public import proofs.«01_k».proof.Proof.Outproj.Tie
public import proofs.«01_k».proof.Proof.Inproj.Bits.Frame
public import proofs.«01_k».proof.Proof.Inproj.Tie

@[expose] public section

noncomputable section

namespace Cert.Proof

open Idealize.ShloMosaic Idealize.ShloMosaic.TcCoe Idealize.SL.Sem

theorem claim : Cert.Claim :=
  ⟨Cert.Kernel.Gen.facts, Cert.KernelIdeal.Gen.facts, Cert.ReferenceIdeal.Gen.facts,
    Cert.Kernel3.Gen.facts, Cert.Kernel3Ideal.Gen.facts, Cert.Reference3Ideal.Gen.facts,
    Cert.Kernel2.Gen.facts, Cert.Kernel2Ideal.Gen.facts, Cert.Reference2Ideal.Gen.facts,
    Cert.Kernel5.Gen.facts, Cert.Kernel5Ideal.Gen.facts, Cert.Reference5Ideal.Gen.facts,
    Cert.Kernel4.Gen.facts, Cert.Kernel4Ideal.Gen.facts, Cert.Reference4Ideal.Gen.facts,
    fun m g _ => Cert.Kernel.Forget.frame m g, fun m g _ => Cert.KernelIdeal.Mlstm.frame m g, mlstm_reference,
    fun m g _ => Cert.Kernel3.Gen.frame m g, fun m g _ => Cert.Kernel3Ideal.Gen.frame m g, ffn3_reference,
    fun m g _ => Cert.Kernel2.Whole.frame m g, fun m g _ => Cert.Kernel2Ideal.Whole.frame m g, ffn2_reference,
    fun m g _ => Cert.Kernel5.Gen.frame m g, fun m g _ => Cert.Kernel5Ideal.Gen.frame m g, out_reference,
    fun m g _ => Cert.Kernel4.Proj.frame m g, fun m g _ => Cert.Kernel4Ideal.Proj.frame m g, inproj_reference,
    trivial, mlstm_algebraic, trivial, ffn3_algebraic, trivial, ffn2_algebraic, trivial, out_algebraic, trivial, inproj_algebraic⟩

end Cert.Proof

end
